-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_mod [hPre_finite_mod : Cert.Pre_finite_mod.Facts] (m : (ℓ : Loc Cert.KernelIdeal.nD Cert.KernelIdeal.τ Cert.KernelIdeal.sig) → Buf (Elt Ideal) ℓ) : Prop :=
  ∀ c : Dev Cert.KernelIdeal.nD,
    (Cert.Pre_finite_mod.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_mod.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_mod.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_mod [hPre_finite_mod : Cert.Pre_finite_mod.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_mod.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_mod.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_mod.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inc [hPre_finite_inc : Cert.Pre_finite_inc.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inc.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_inc.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite_inc.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite_inc.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite_inc.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite_inc.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inc [hPre_finite_inc : Cert.Pre_finite_inc.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inc.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_inc.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite_inc.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite_inc.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite_inc.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite_inc.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_inl [hPre_finite_inl : Cert.Pre_finite_inl.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_inl.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite_inl.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite_inl.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite_inl.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite_inl.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite_inl.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_finite_inl.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.1 = (fun _ => 1#1)
    ∧ (Cert.Pre_finite_inl.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_inl [hPre_finite_inl : Cert.Pre_finite_inl.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_inl.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite_inl.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite_inl.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite_inl.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite_inl.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite_inl.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_finite_inl.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.1 = (fun _ => 1#1)
    ∧ (Cert.Pre_finite_inl.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_ffn [hPre_finite_ffn : Cert.Pre_finite_ffn.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_ffn.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).1 = (fun _ => 1#1)
    ∧ (Cert.Pre_finite_ffn.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.1 = (fun _ => 1#1)
    ∧ (Cert.Pre_finite_ffn.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.1 = (fun _ => 1#1)
    ∧ (Cert.Pre_finite_ffn.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.1 = (fun _ => 1#1)
    ∧ (Cert.Pre_finite_ffn.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.1 = (fun _ => 1#1)
    ∧ (Cert.Pre_finite_ffn.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.1 = (fun _ => 1#1)
    ∧ (Cert.Pre_finite_ffn.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_ffn [hPre_finite_ffn : Cert.Pre_finite_ffn.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_ffn.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).1 = (fun _ => 1#1)
    ∧ (Cert.Pre_finite_ffn.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.1 = (fun _ => 1#1)
    ∧ (Cert.Pre_finite_ffn.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.1 = (fun _ => 1#1)
    ∧ (Cert.Pre_finite_ffn.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.1 = (fun _ => 1#1)
    ∧ (Cert.Pre_finite_ffn.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.1 = (fun _ => 1#1)
    ∧ (Cert.Pre_finite_ffn.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.1 = (fun _ => 1#1)
    ∧ (Cert.Pre_finite_ffn.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_hf [hPre_finite_hf : Cert.Pre_finite_hf.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_hf.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))).1 = (fun _ => 1#1)
    ∧ (Cert.Pre_finite_hf.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))).2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_hf [hPre_finite_hf : Cert.Pre_finite_hf.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_hf.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1))).1 = (fun _ => 1#1)
    ∧ (Cert.Pre_finite_hf.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_mod [hKernelIdeal : Cert.KernelIdeal.Facts] [hPre_finite_mod : Cert.Pre_finite_mod.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_mod m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_mod [hReferenceIdeal : Cert.ReferenceIdeal.Facts] [hPre_finite_mod : Cert.Pre_finite_mod.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_mod m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_inc [hKernel2Ideal : Cert.Kernel2Ideal.Facts] [hPre_finite_inc : Cert.Pre_finite_inc.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inc m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_inc [hReference2Ideal : Cert.Reference2Ideal.Facts] [hPre_finite_inc : Cert.Pre_finite_inc.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inc m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_inl [hKernel3Ideal : Cert.Kernel3Ideal.Facts] [hPre_finite_inl : Cert.Pre_finite_inl.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_inl m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_inl [hReference3Ideal : Cert.Reference3Ideal.Facts] [hPre_finite_inl : Cert.Pre_finite_inl.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_inl m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite_ffn [hKernel7Ideal : Cert.Kernel7Ideal.Facts] [hPre_finite_ffn : Cert.Pre_finite_ffn.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_ffn m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite_ffn [hReference7Ideal : Cert.Reference7Ideal.Facts] [hPre_finite_ffn : Cert.Pre_finite_ffn.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_ffn m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Kernel13Ideal_pre_finite_hf [hKernel13Ideal : Cert.Kernel13Ideal.Facts] [hPre_finite_hf : Cert.Pre_finite_hf.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_hf m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Reference13Ideal_pre_finite_hf [hReference13Ideal : Cert.Reference13Ideal.Facts] [hPre_finite_hf : Cert.Pre_finite_hf.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_hf m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def preserves_Kernel_KernelIdeal : Prop :=
  True

def algebraic_KernelIdeal_ReferenceIdeal_pre_finite_mod [hKernelIdeal : Cert.KernelIdeal.Facts] [hReferenceIdeal : Cert.ReferenceIdeal.Facts] [hPre_finite_mod : Cert.Pre_finite_mod.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_mod m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_inc [hKernel2Ideal : Cert.Kernel2Ideal.Facts] [hReference2Ideal : Cert.Reference2Ideal.Facts] [hPre_finite_inc : Cert.Pre_finite_inc.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inc m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v67) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_inl [hKernel3Ideal : Cert.Kernel3Ideal.Facts] [hReference3Ideal : Cert.Reference3Ideal.Facts] [hPre_finite_inl : Cert.Pre_finite_inl.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_inl m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_v87) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel7_Kernel7Ideal : Prop :=
  True

def algebraic_Kernel7Ideal_Reference7Ideal_pre_finite_ffn [hKernel7Ideal : Cert.Kernel7Ideal.Facts] [hReference7Ideal : Cert.Reference7Ideal.Facts] [hPre_finite_ffn : Cert.Pre_finite_ffn.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_ffn m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)) (v3 : (c : Dev Cert.Kernel7Ideal.nD) → Buf (Elt Ideal) ((c.tc : Thread Cert.Kernel7Ideal.nD Cert.Kernel7Ideal.τ).loc Cert.Kernel7Ideal.main_v8_3)) (v4 : (c : Dev Cert.Kernel7Ideal.nD) → Buf (Elt Ideal) ((c.tc : Thread Cert.Kernel7Ideal.nD Cert.Kernel7Ideal.τ).loc Cert.Kernel7Ideal.main_v8_4)) (v5 : (c : Dev Cert.Kernel7Ideal.nD) → Buf (Elt Ideal) ((c.tc : Thread Cert.Kernel7Ideal.nD Cert.Kernel7Ideal.τ).loc Cert.Kernel7Ideal.main_v8_5)) (v6 : (c : Dev Cert.Kernel7Ideal.nD) → Buf (Elt Ideal) ((c.tc : Thread Cert.Kernel7Ideal.nD Cert.Kernel7Ideal.τ).loc Cert.Kernel7Ideal.main_v8_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_v8_3) = v3 c
          ∧ r.2.mem ((c.tc : Thread Cert.Kernel7Ideal.nD Cert.Kernel7Ideal.τ).loc Cert.Kernel7Ideal.main_v8_4) = v4 c
          ∧ r.2.mem ((c.tc : Thread Cert.Kernel7Ideal.nD Cert.Kernel7Ideal.τ).loc Cert.Kernel7Ideal.main_v8_5) = v5 c
          ∧ r.2.mem ((c.tc : Thread Cert.Kernel7Ideal.nD Cert.Kernel7Ideal.τ).loc Cert.Kernel7Ideal.main_v8_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v136) = v0 c
          ∧ r.2.mem ((c.tc : Thread Cert.Reference7Ideal.nD Cert.Reference7Ideal.τ).loc Cert.Reference7Ideal.main_v152) = v1 c
          ∧ r.2.mem ((c.tc : Thread Cert.Reference7Ideal.nD Cert.Reference7Ideal.τ).loc Cert.Reference7Ideal.main_v153) = v2 c
          ∧ r.2.mem ((c.tc : Thread Cert.Reference7Ideal.nD Cert.Reference7Ideal.τ).loc Cert.Reference7Ideal.main_v154) = v3 c
          ∧ r.2.mem ((c.tc : Thread Cert.Reference7Ideal.nD Cert.Reference7Ideal.τ).loc Cert.Reference7Ideal.main_v155) = v4 c
          ∧ r.2.mem ((c.tc : Thread Cert.Reference7Ideal.nD Cert.Reference7Ideal.τ).loc Cert.Reference7Ideal.main_v146) = v5 c
          ∧ r.2.mem ((c.tc : Thread Cert.Reference7Ideal.nD Cert.Reference7Ideal.τ).loc Cert.Reference7Ideal.main_v151) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_v3) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v30) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v29) = v0 c
          ∧ r.2.mem ((c.tc : Thread Cert.Reference11Ideal.nD Cert.Reference11Ideal.τ).loc Cert.Reference11Ideal.main_v31) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel13_Kernel13Ideal : Prop :=
  True

def algebraic_Kernel13Ideal_Reference13Ideal_pre_finite_hf [hKernel13Ideal : Cert.Kernel13Ideal.Facts] [hReference13Ideal : Cert.Reference13Ideal.Facts] [hPre_finite_hf : Cert.Pre_finite_hf.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_hf m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)) (v4 : (c : Dev Cert.Kernel13Ideal.nD) → Buf (Elt Ideal) ((c.tc : Thread Cert.Kernel13Ideal.nD Cert.Kernel13Ideal.τ).loc Cert.Kernel13Ideal.main_v3_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_v3_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v162) = v0 c
          ∧ r.2.mem ((c.tc : Thread Cert.Reference13Ideal.nD Cert.Reference13Ideal.τ).loc Cert.Reference13Ideal.main_v166) = v1 c
          ∧ r.2.mem ((c.tc : Thread Cert.Reference13Ideal.nD Cert.Reference13Ideal.τ).loc Cert.Reference13Ideal.main_v167) = v2 c
          ∧ r.2.mem ((c.tc : Thread Cert.Reference13Ideal.nD Cert.Reference13Ideal.τ).loc Cert.Reference13Ideal.main_v169) = v3 c
          ∧ r.2.mem ((c.tc : Thread Cert.Reference13Ideal.nD Cert.Reference13Ideal.τ).loc Cert.Reference13Ideal.main_v173) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel4_Kernel4Ideal : Prop :=
  True

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v26) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_v13) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel4 : Cert.Kernel4.Facts) (hKernel4Ideal : Cert.Kernel4Ideal.Facts) (hReference4Ideal : Cert.Reference4Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite_mod : Cert.Pre_finite_mod.Facts) (hPre_finite_inc : Cert.Pre_finite_inc.Facts) (hPre_finite_inl : Cert.Pre_finite_inl.Facts) (hPre_finite_ffn : Cert.Pre_finite_ffn.Facts) (hPre_finite_hf : Cert.Pre_finite_hf.Facts),
    quiescent_Kernel (hKernel := hKernel)
    ∧ quiescent_KernelIdeal (hKernelIdeal := hKernelIdeal)
    ∧ quiescent_KernelIdeal_pre_finite_mod (hKernelIdeal := hKernelIdeal) (hPre_finite_mod := hPre_finite_mod)
    ∧ quiescent_ReferenceIdeal (hReferenceIdeal := hReferenceIdeal)
    ∧ quiescent_ReferenceIdeal_pre_finite_mod (hReferenceIdeal := hReferenceIdeal) (hPre_finite_mod := hPre_finite_mod)
    ∧ quiescent_Kernel2 (hKernel2 := hKernel2)
    ∧ quiescent_Kernel2Ideal (hKernel2Ideal := hKernel2Ideal)
    ∧ quiescent_Kernel2Ideal_pre_finite_inc (hKernel2Ideal := hKernel2Ideal) (hPre_finite_inc := hPre_finite_inc)
    ∧ quiescent_Reference2Ideal (hReference2Ideal := hReference2Ideal)
    ∧ quiescent_Reference2Ideal_pre_finite_inc (hReference2Ideal := hReference2Ideal) (hPre_finite_inc := hPre_finite_inc)
    ∧ quiescent_Kernel3 (hKernel3 := hKernel3)
    ∧ quiescent_Kernel3Ideal (hKernel3Ideal := hKernel3Ideal)
    ∧ quiescent_Kernel3Ideal_pre_finite_inl (hKernel3Ideal := hKernel3Ideal) (hPre_finite_inl := hPre_finite_inl)
    ∧ quiescent_Reference3Ideal (hReference3Ideal := hReference3Ideal)
    ∧ quiescent_Reference3Ideal_pre_finite_inl (hReference3Ideal := hReference3Ideal) (hPre_finite_inl := hPre_finite_inl)
    ∧ quiescent_Kernel7 (hKernel7 := hKernel7)
    ∧ quiescent_Kernel7Ideal (hKernel7Ideal := hKernel7Ideal)
    ∧ quiescent_Kernel7Ideal_pre_finite_ffn (hKernel7Ideal := hKernel7Ideal) (hPre_finite_ffn := hPre_finite_ffn)
    ∧ quiescent_Reference7Ideal (hReference7Ideal := hReference7Ideal)
    ∧ quiescent_Reference7Ideal_pre_finite_ffn (hReference7Ideal := hReference7Ideal) (hPre_finite_ffn := hPre_finite_ffn)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Kernel13Ideal_pre_finite_hf (hKernel13Ideal := hKernel13Ideal) (hPre_finite_hf := hPre_finite_hf)
    ∧ quiescent_Reference13Ideal (hReference13Ideal := hReference13Ideal)
    ∧ quiescent_Reference13Ideal_pre_finite_hf (hReference13Ideal := hReference13Ideal) (hPre_finite_hf := hPre_finite_hf)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite_mod (hKernelIdeal := hKernelIdeal) (hReferenceIdeal := hReferenceIdeal) (hPre_finite_mod := hPre_finite_mod)
    ∧ preserves_Kernel2_Kernel2Ideal
    ∧ algebraic_Kernel2Ideal_Reference2Ideal_pre_finite_inc (hKernel2Ideal := hKernel2Ideal) (hReference2Ideal := hReference2Ideal) (hPre_finite_inc := hPre_finite_inc)
    ∧ preserves_Kernel3_Kernel3Ideal
    ∧ algebraic_Kernel3Ideal_Reference3Ideal_pre_finite_inl (hKernel3Ideal := hKernel3Ideal) (hReference3Ideal := hReference3Ideal) (hPre_finite_inl := hPre_finite_inl)
    ∧ preserves_Kernel7_Kernel7Ideal
    ∧ algebraic_Kernel7Ideal_Reference7Ideal_pre_finite_ffn (hKernel7Ideal := hKernel7Ideal) (hReference7Ideal := hReference7Ideal) (hPre_finite_ffn := hPre_finite_ffn)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal_pre_finite_hf (hKernel13Ideal := hKernel13Ideal) (hReference13Ideal := hReference13Ideal) (hPre_finite_hf := hPre_finite_hf)
    ∧ preserves_Kernel4_Kernel4Ideal
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite_ffn.lean ====
abbrev S4x2048x1024 : Shape := ⟨3, ![4, 2048, 1024]⟩
abbrev S4x6x1024 : Shape := ⟨3, ![4, 6, 1024]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S4x2048x1024 : S_.BroadcastsInDim S4x2048x1024 (![] : Fin 0 → Fin S4x2048x1024.rank)
  bcast_S_S4x6x1024 : S_.BroadcastsInDim S4x6x1024 (![] : Fin 0 → Fin S4x6x1024.rank)
  bcast_S_S1x1024 : S_.BroadcastsInDim S1x1024 (![] : Fin 0 → Fin S1x1024.rank)
  bcast_S_S1024 : S_.BroadcastsInDim S1024 (![] : Fin 0 → Fin S1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn_part1 {F : FTy → Type} [FloatOps F] (main_arg6 : FVec F S1x2816x1024 .f32) (main_v2 : IVec S4x2048x1024 1) (main_v5 : IVec S4x2048x1024 1) (main_v8 : IVec S4x6x1024 1) (main_v11 : IVec S1x1024 1) (main_v14 : IVec S1024 1) (main_v17 : IVec S1x1024x5632 1) : IVec S4x2048x1024 1 × IVec S4x2048x1024 1 × IVec S4x6x1024 1 × IVec S1x1024 1 × IVec S1024 1 × IVec S1x1024x5632 1 × IVec S1x2816x1024 1 :=
  let main_v18 : FVec F S1x2816x1024 .f32 := Host.absf main_arg6
  let main_cst_5 : FVec F S_ .f32 := constant S_ .f32 0x7F800000#32
  let main_v19 : FVec F S1x2816x1024 .f32 := broadcastInDim S1x2816x1024 ![] bcast_S_S1x2816x1024 main_cst_5
  let main_v20 : IVec S1x2816x1024 1 := cmpf .olt main_v18 main_v19
  (main_v2, main_v5, main_v8, main_v11, main_v14, main_v17, main_v20)

def fn {F : FTy → Type} [FloatOps F] (main_arg0 : FVec F S4x2048x1024 .f32) (main_arg1 : FVec F S4x2048x1024 .f32) (main_arg2 : FVec F S4x6x1024 .f32) (main_arg3 : FVec F S1x1024 .f32) (main_arg4 : FVec F S1024 .f32) (main_arg5 : FVec F S1x1024x5632 .f32) (main_arg6 : FVec F S1x2816x1024 .f32) : IVec S4x2048x1024 1 × IVec S4x2048x1024 1 × IVec S4x6x1024 1 × IVec S1x1024 1 × IVec S1024 1 × IVec S1x1024x5632 1 × IVec S1x2816x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  let main_v6 : FVec F S4x6x1024 .f32 := Host.absf main_arg2
  let main_cst_1 : FVec F S_ .f32 := constant S_ .f32 0x7F800000#32
  let main_v7 : FVec F S4x6x1024 .f32 := broadcastInDim S4x6x1024 ![] bcast_S_S4x6x1024 main_cst_1
  let main_v8 : IVec S4x6x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1x1024x5632 .f32 := Host.absf main_arg5
  let main_cst_4 : FVec F S_ .f32 := constant S_ .f32 0x7F800000#32
  let main_v16 : FVec F S1x1024x5632 .f32 := broadcastInDim S1x1024x5632 ![] bcast_S_S1x1024x5632 main_cst_4
  let main_v17 : IVec S1x1024x5632 1 := cmpf .olt main_v15 main_v16
  fn_part1 (F := F) main_arg6 main_v2 main_v5 main_v8 main_v11 main_v14 main_v17
-- ==== Pre_finite_hf.lean ====
abbrev S4x256x1536 : Shape := ⟨3, ![4, 256, 1536]⟩
abbrev S2x2x512 : Shape := ⟨3, ![2, 2, 512]⟩
abbrev S_ : Shape := ⟨0, ![]⟩

class Facts : Prop where
  bcast_S_S4x256x1536 : S_.BroadcastsInDim S4x256x1536 (![] : Fin 0 → Fin S4x256x1536.rank)
  bcast_S_S2x2x512 : S_.BroadcastsInDim S2x2x512 (![] : Fin 0 → Fin S2x2x512.rank)

variable [Facts]

def fn {F : FTy → Type} [FloatOps F] (main_arg0 : FVec F S4x256x1536 .f32) (main_arg1 : FVec F S2x2x512 .f32) : IVec S4x256x1536 1 × IVec S2x2x512 1 :=
  let main_v0 : FVec F S4x256x1536 .f32 := Host.absf main_arg0
  let main_cst : FVec F S_ .f32 := constant S_ .f32 0x7F800000#32
  let main_v1 : FVec F S4x256x1536 .f32 := broadcastInDim S4x256x1536 ![] bcast_S_S4x256x1536 main_cst
  let main_v2 : IVec S4x256x1536 1 := cmpf .olt main_v0 main_v1
  let main_v3 : FVec F S2x2x512 .f32 := Host.absf main_arg1
  let main_cst_0 : FVec F S_ .f32 := constant S_ .f32 0x7F800000#32
  let main_v4 : FVec F S2x2x512 .f32 := broadcastInDim S2x2x512 ![] bcast_S_S2x2x512 main_cst_0
  let main_v5 : IVec S2x2x512 1 := cmpf .olt main_v3 main_v4
  (main_v2, main_v5)
-- ==== Pre_finite_inc.lean ====
abbrev S1024x1024 : Shape := ⟨2, ![1024, 1024]⟩
abbrev S4x256x1024 : Shape := ⟨3, ![4, 256, 1024]⟩
abbrev S6x1024 : Shape := ⟨2, ![6, 1024]⟩
abbrev S1x1024 : Shape := ⟨2, ![1, 1024]⟩
abbrev S1x1024x5632 : Shape := ⟨3, ![1, 1024, 5632]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  bcast_S_S4x256x1024 : S_.BroadcastsInDim S4x256x1024 (![] : Fin 0 → Fin S4x256x1024.rank)
  bcast_S_S6x1024 : S_.BroadcastsInDim S6x1024 (![] : Fin 0 → Fin S6x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)

variable [Facts]

def fn_part1 {F : FTy → Type} [FloatOps F] (main_v3 : IVec S1024x1024 1) (main_v7 : IVec S1024x1024 1) (main_v10 : IVec S4x256x1024 1) (main_v13 : IVec S6x1024 1) (main_v16 : IVec S1x1024 1) (main_v17 : FVec F S1x1024x5632 .f32) (main_cst_4 : FVec F S_ .f32) : IVec S1024x1024 1 × IVec S1024x1024 1 × IVec S4x256x1024 1 × IVec S6x1024 1 × IVec S1x1024 1 × IVec S1x1024x5632 1 :=
  let main_v18 : FVec F S1x1024x5632 .f32 := broadcastInDim S1x1024x5632 ![] bcast_S_S1x1024x5632 main_cst_4
  let main_v19 : IVec S1x1024x5632 1 := cmpf .olt main_v17 main_v18
  (main_v3, main_v7, main_v10, main_v13, main_v16, main_v19)

def fn {F : FTy → Type} [FloatOps F] (main_arg0 : FVec F S1024x1024 .bf16) (main_arg1 : FVec F S1024x1024 .bf16) (main_arg2 : FVec F S4x256x1024 .f32) (main_arg3 : FVec F S6x1024 .f32) (main_arg4 : FVec F S1x1024 .f32) (main_arg5 : FVec F S1x1024x5632 .f32) : IVec S1024x1024 1 × IVec S1024x1024 1 × IVec S4x256x1024 1 × IVec S6x1024 1 × IVec S1x1024 1 × IVec S1x1024x5632 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S4x256x1024 .f32 := Host.absf main_arg2
  let main_cst_1 : FVec F S_ .f32 := constant S_ .f32 0x7F800000#32
  let main_v9 : FVec F S4x256x1024 .f32 := broadcastInDim S4x256x1024 ![] bcast_S_S4x256x1024 main_cst_1
  let main_v10 : IVec S4x256x1024 1 := cmpf .olt main_v8 main_v9
  let main_v11 : FVec F S6x1024 .f32 := Host.absf main_arg3
  let main_cst_2 : FVec F S_ .f32 := constant S_ .f32 0x7F800000#32
  let main_v12 : FVec F S6x1024 .f32 := broadcastInDim S6x1024 ![] bcast_S_S6x1024 main_cst_2
  let main_v13 : IVec S6x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S1x1024x5632 .f32 := Host.absf main_arg5
  let main_cst_4 : FVec F S_ .f32 := constant S_ .f32 0x7F800000#32
  fn_part1 (F := F) main_v3 main_v7 main_v10 main_v13 main_v16 main_v17 main_cst_4
-- ==== Pre_finite_inl.lean ====
abbrev S8192x1536 : Shape := ⟨2, ![8192, 1536]⟩
abbrev S8192x3584 : Shape := ⟨2, ![8192, 3584]⟩
abbrev S4x2048x1024 : Shape := ⟨3, ![4, 2048, 1024]⟩
abbrev S4x6x1024 : Shape := ⟨3, ![4, 6, 1024]⟩
abbrev S1x1024 : Shape := ⟨2, ![1, 1024]⟩
abbrev S1x1024x5632 : Shape := ⟨3, ![1, 1024, 5632]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  bcast_S_S8192x3584 : S_.BroadcastsInDim S8192x3584 (![] : Fin 0 → Fin S8192x3584.rank)
  bcast_S_S4x2048x1024 : S_.BroadcastsInDim S4x2048x1024 (![] : Fin 0 → Fin S4x2048x1024.rank)
  bcast_S_S4x6x1024 : S_.BroadcastsInDim S4x6x1024 (![] : Fin 0 → Fin S4x6x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)

variable [Facts]

def fn_part1 {F : FTy → Type} [FloatOps F] (main_arg6 : FVec F S1x1024 .f32) (main_arg7 : FVec F S1x1024x5632 .f32) (main_v3 : IVec S8192x1536 1) (main_v7 : IVec S8192x1536 1) (main_v11 : IVec S8192x3584 1) (main_v14 : IVec S4x2048x1024 1) (main_v17 : IVec S4x2048x1024 1) (main_v18 : FVec F S4x6x1024 .f32) : IVec S8192x1536 1 × IVec S8192x1536 1 × IVec S8192x3584 1 × IVec S4x2048x1024 1 × IVec S4x2048x1024 1 × IVec S4x6x1024 1 × IVec S1x1024 1 × IVec S1x1024x5632 1 :=
  let main_cst_4 : FVec F S_ .f32 := constant S_ .f32 0x7F800000#32
  let main_v19 : FVec F S4x6x1024 .f32 := broadcastInDim S4x6x1024 ![] bcast_S_S4x6x1024 main_cst_4
  let main_v20 : IVec S4x6x1024 1 := cmpf .olt main_v18 main_v19
  let main_v21 : FVec F S1x1024 .f32 := Host.absf main_arg6
  let main_cst_5 : FVec F S_ .f32 := constant S_ .f32 0x7F800000#32
  let main_v22 : FVec F S1x1024 .f32 := broadcastInDim S1x1024 ![] bcast_S_S1x1024 main_cst_5
  let main_v23 : IVec S1x1024 1 := cmpf .olt main_v21 main_v22
  let main_v24 : FVec F S1x1024x5632 .f32 := Host.absf main_arg7
  let main_cst_6 : FVec F S_ .f32 := constant S_ .f32 0x7F800000#32
  let main_v25 : FVec F S1x1024x5632 .f32 := broadcastInDim S1x1024x5632 ![] bcast_S_S1x1024x5632 main_cst_6
  let main_v26 : IVec S1x1024x5632 1 := cmpf .olt main_v24 main_v25
  (main_v3, main_v7, main_v11, main_v14, main_v17, main_v20, main_v23, main_v26)

def fn {F : FTy → Type} [FloatOps F] (main_arg0 : FVec F S8192x1536 .bf16) (main_arg1 : FVec F S8192x1536 .bf16) (main_arg2 : FVec F S8192x3584 .bf16) (main_arg3 : FVec F S4x2048x1024 .f32) (main_arg4 : FVec F S4x2048x1024 .f32) (main_arg5 : FVec F S4x6x1024 .f32) (main_arg6 : FVec F S1x1024 .f32) (main_arg7 : FVec F S1x1024x5632 .f32) : IVec S8192x1536 1 × IVec S8192x1536 1 × IVec S8192x3584 1 × IVec S4x2048x1024 1 × IVec S4x2048x1024 1 × IVec S4x6x1024 1 × IVec S1x1024 1 × IVec S1x1024x5632 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_v4 : FVec F S8192x1536 .f32 := (extf .f32 · bitsLt_bf16_f32) main_arg1
  let main_v5 : FVec F S8192x1536 .f32 := Host.absf main_v4
  let main_cst_0 : FVec F S_ .f32 := constant S_ .f32 0x7F800000#32
  let main_v6 : FVec F S8192x1536 .f32 := broadcastInDim S8192x1536 ![] bcast_S_S8192x1536 main_cst_0
  let main_v7 : IVec S8192x1536 1 := cmpf .olt main_v5 main_v6
  let main_v8 : FVec F S8192x3584 .f32 := (extf .f32 · bitsLt_bf16_f32) main_arg2
  let main_v9 : FVec F S8192x3584 .f32 := Host.absf main_v8
  let main_cst_1 : FVec F S_ .f32 := constant S_ .f32 0x7F800000#32
  let main_v10 : FVec F S8192x3584 .f32 := broadcastInDim S8192x3584 ![] bcast_S_S8192x3584 main_cst_1
  let main_v11 : IVec S8192x3584 1 := cmpf .olt main_v9 main_v10
  let main_v12 : FVec F S4x2048x1024 .f32 := Host.absf main_arg3
  let main_cst_2 : FVec F S_ .f32 := constant S_ .f32 0x7F800000#32
  let main_v13 : FVec F S4x2048x1024 .f32 := broadcastInDim S4x2048x1024 ![] bcast_S_S4x2048x1024 main_cst_2
  let main_v14 : IVec S4x2048x1024 1 := cmpf .olt main_v12 main_v13
  let main_v15 : FVec F S4x2048x1024 .f32 := Host.absf main_arg4
  let main_cst_3 : FVec F S_ .f32 := constant S_ .f32 0x7F800000#32
  let main_v16 : FVec F S4x2048x1024 .f32 := broadcastInDim S4x2048x1024 ![] bcast_S_S4x2048x1024 main_cst_3
  let main_v17 : IVec S4x2048x1024 1 := cmpf .olt main_v15 main_v16
  let main_v18 : FVec F S4x6x1024 .f32 := Host.absf main_arg5
  fn_part1 (F := F) main_arg6 main_arg7 main_v3 main_v7 main_v11 main_v14 main_v17 main_v18
-- ==== Pre_finite_mod.lean ====
abbrev S1024 : Shape := ⟨1, ![1024]⟩
abbrev S8x768 : Shape := ⟨2, ![8, 768]⟩
abbrev S1x1024x768 : Shape := ⟨3, ![1, 1024, 768]⟩
abbrev S_ : Shape := ⟨0, ![]⟩

class Facts : Prop where
  bcast_S_S1024 : S_.BroadcastsInDim S1024 (![] : Fin 0 → Fin S1024.rank)
  bcast_S_S8x768 : S_.BroadcastsInDim S8x768 (![] : Fin 0 → Fin S8x768.rank)
  bcast_S_S1x1024x768 : S_.BroadcastsInDim S1x1024x768 (![] : Fin 0 → Fin S1x1024x768.rank)

variable [Facts]

def fn {F : FTy → Type} [FloatOps F] (main_arg0 : FVec F S1024 .f32) (main_arg1 : FVec F S8x768 .f32) (main_arg2 : FVec F S1x1024x768 .f32) : IVec S1024 1 × IVec S8x768 1 × IVec S1x1024x768 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S8x768 .f32 := Host.absf main_arg1
  let main_cst_0 : FVec F S_ .f32 := constant S_ .f32 0x7F800000#32
  let main_v4 : FVec F S8x768 .f32 := broadcastInDim S8x768 ![] bcast_S_S8x768 main_cst_0
  let main_v5 : IVec S8x768 1 := cmpf .olt main_v3 main_v4
  let main_v6 : FVec F S1x1024x768 .f32 := Host.absf main_arg2
  let main_cst_1 : FVec F S_ .f32 := constant S_ .f32 0x7F800000#32
  let main_v7 : FVec F S1x1024x768 .f32 := broadcastInDim S1x1024x768 ![] bcast_S_S1x1024x768 main_cst_1
  let main_v8 : IVec S1x1024x768 1 := cmpf .olt main_v6 main_v7
  (main_v2, main_v5, main_v8)
-- ==== Kernel.lean ====
abbrev S1024 : Shape := ⟨1, ![1024]⟩
abbrev S8x768 : Shape := ⟨2, ![8, 768]⟩
abbrev S1x1024x768 : Shape := ⟨3, ![1, 1024, 768]⟩
abbrev S1x1024 : Shape := ⟨2, ![1, 1024]⟩
abbrev S1024x768 : Shape := ⟨2, ![1024, 768]⟩
abbrev S8x1024 : Shape := ⟨2, ![8, 1024]⟩

abbrev nBuf : Space → Nat
  | .hbm => 6
  | .vmem => 4
  | .smem => 0
  | _ => 0

abbrev bufTy : (tb : Table) → Fin (tcTables nBuf tb) → BufTy
  | .hbm, ⟨0, _⟩ => ⟨S1024, .f32⟩
  | .hbm, ⟨1, _⟩ => ⟨S8x768, .f32⟩
  | .hbm, ⟨2, _⟩ => ⟨S1x1024x768, .f32⟩
  | .hbm, ⟨3, _⟩ => ⟨S1x1024, .f32⟩
  | .hbm, ⟨4, _⟩ => ⟨S1024x768, .f32⟩
  | .hbm, ⟨5, _⟩ => ⟨S8x1024, .f32⟩
  | .local _ .vmem, ⟨0, _⟩ => ⟨S1x1024, .f32⟩
  | .local _ .vmem, ⟨1, _⟩ => ⟨S8x768, .f32⟩
  | .local _ .vmem, ⟨2, _⟩ => ⟨S1024x768, .f32⟩
  | .local _ .vmem, ⟨3, _⟩ => ⟨S8x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024 : Shape := ⟨1, ![1024]⟩
abbrev S8x768 : Shape := ⟨2, ![8, 768]⟩
abbrev S1x1024x768 : Shape := ⟨3, ![1, 1024, 768]⟩
abbrev S8x1024 : Shape := ⟨2, ![8, 1024]⟩
abbrev S_ : Shape := ⟨0, ![]⟩
abbrev S1024x768 : Shape := ⟨2, ![1024, 768]⟩

abbrev nBuf : Space → Nat
  | .hbm => 24
  | .vmem => 0
  | .smem => 0
  | _ => 0

abbrev bufTy : (tb : Table) → Fin (tcTables nBuf tb) → BufTy
  | .hbm, ⟨0, _⟩ => ⟨S1024, .f32⟩
  | .hbm, ⟨1, _⟩ => ⟨S8x768, .f32⟩
  | .hbm, ⟨2, _⟩ => ⟨S1x1024x768, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1024x768, .f32⟩
  | .hbm, ⟨18, _⟩ => ⟨S8x768, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S8x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== Kernel2.lean ====
abbrev S1024x1024 : Shape := ⟨2, ![1024, 1024]⟩
abbrev S4x256x1024 : Shape := ⟨3, ![4, 256, 1024]⟩
abbrev S6x1024 : Shape := ⟨2, ![6, 1024]⟩
abbrev S1x1024 : Shape := ⟨2, ![1, 1024]⟩
abbrev S1x1024x5632 : Shape := ⟨3, ![1, 1024, 5632]⟩
abbrev S1024x5632 : Shape := ⟨2, ![1024, 5632]⟩
abbrev S5632x1024 : Shape := ⟨2, ![5632, 1024]⟩
abbrev S1x6x1024 : Shape := ⟨3, ![1, 6, 1024]⟩
abbrev S1024x1536 : Shape := ⟨2, ![1024, 1536]⟩
abbrev S1x8x1024 : Shape := ⟨3, ![1, 8, 1024]⟩
abbrev S8x1024 : Shape := ⟨2, ![8, 1024]⟩
abbrev S256x1024 : Shape := ⟨2, ![256, 1024]⟩
abbrev S1536x1024 : Shape := ⟨2, ![1536, 1024]⟩
abbrev S256x1536 : Shape := ⟨2, ![256, 1536]⟩
abbrev S256x512 : Shape := ⟨2, ![256, 512]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S4x256x1024, .f32⟩
  | .hbm, ⟨3, _⟩ => ⟨S6x1024, .f32⟩
  | .hbm, ⟨4, _⟩ => ⟨S1x1024, .f32⟩
  | .hbm, ⟨5, _⟩ => ⟨S1x1024x5632, .f32⟩
  | .hbm, ⟨6, _⟩ => ⟨S1024x5632, .f32⟩
  | .hbm, ⟨7, _⟩ => ⟨S5632x1024, .f32⟩
  | .hbm, ⟨8, _⟩ => ⟨S5632x1024, .bf16⟩
  | .hbm, ⟨9, _⟩ => ⟨S1024x1024, .f32⟩
  | .hbm, ⟨10, _⟩ => ⟨S1x6x1024, .f32⟩
  | .hbm, ⟨11, _⟩ => ⟨S1024x1536, .bf16⟩
  | .hbm, ⟨12, _⟩ => ⟨S1x8x1024, .f32⟩
  | .hbm, ⟨13, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x6x1024, .f32⟩
  | .local _ .vmem, ⟨7, _⟩ => ⟨S1x1024, .f32⟩
  | .local _ .vmem, ⟨8, _⟩ => ⟨S1536x1024, .bf16⟩
  | .local _ .vmem, ⟨9, _⟩ => ⟨S256x1536, .bf16⟩
  | .local _ .vmem, ⟨10, _⟩ => ⟨S256x1536, .bf16⟩
  | .local _ .vmem, ⟨11, _⟩ => ⟨S1x8x1024, .f32⟩
  | .local _ .vmem, ⟨12, _⟩ => ⟨S8x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S1024x1024 : Shape := ⟨2, ![1024, 1024]⟩
abbrev S4x256x1024 : Shape := ⟨3, ![4, 256, 1024]⟩
abbrev S6x1024 : Shape := ⟨2, ![6, 1024]⟩
abbrev S1x1024 : Shape := ⟨2, ![1, 1024]⟩
abbrev S1x1024x5632 : Shape := ⟨3, ![1, 1024, 5632]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x5632 : Shape := ⟨2, ![1024, 5632]⟩
abbrev S1024x1536 : Shape := ⟨2, ![1024, 1536]⟩
abbrev S4x256x1536 : Shape := ⟨3, ![4, 256, 1536]⟩
abbrev S4x256x512 : Shape := ⟨3, ![4, 256, 512]⟩
abbrev S8x1024 : Shape := ⟨2, ![8, 1024]⟩
abbrev S1x8x1024 : Shape := ⟨3, ![1, 8, 1024]⟩
abbrev S7x1024 : Shape := ⟨2, ![7, 1024]⟩

abbrev nBuf : Space → Nat
  | .hbm => 86
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S4x256x1024, .f32⟩
  | .hbm, ⟨3, _⟩ => ⟨S6x1024, .f32⟩
  | .hbm, ⟨4, _⟩ => ⟨S1x1024, .f32⟩
  | .hbm, ⟨5, _⟩ => ⟨S1x1024x5632, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1024, .f32⟩
  | .hbm, ⟨11, _⟩ => ⟨S4x256x1024, .f32⟩
  | .hbm, ⟨12, _⟩ => ⟨S_, .f32⟩
  | .hbm, ⟨13, _⟩ => ⟨S4x256, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S4x256x1, .f32⟩
  | .hbm, ⟨22, _⟩ => ⟨S4x256x1024, .f32⟩
  | .hbm, ⟨23, _⟩ => ⟨S4x256x1024, .f32⟩
  | .hbm, ⟨24, _⟩ => ⟨S1x1x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1x1024, .f32⟩
  | .hbm, ⟨31, _⟩ => ⟨S4x256x1024, .f32⟩
  | .hbm, ⟨32, _⟩ => ⟨S4x256x1024, .f32⟩
  | .hbm, ⟨33, _⟩ => ⟨S1x1x1024, .f32⟩
  | .hbm, ⟨34, _⟩ => ⟨S4x256x1024, .f32⟩
  | .hbm, ⟨35, _⟩ => ⟨S4x256x1024, .f32⟩
  | .hbm, ⟨36, _⟩ => ⟨S1024x5632, .f32⟩
  | .hbm, ⟨37, _⟩ => ⟨S1024x1536, .f32⟩
  | .hbm, ⟨38, _⟩ => ⟨S4x256x1536, .f32⟩
  | .hbm, ⟨39, _⟩ => ⟨S1024x1024, .f32⟩
  | .hbm, ⟨40, _⟩ => ⟨S4x256x1024, .f32⟩
  | .hbm, ⟨41, _⟩ => ⟨S1024x1024, .f32⟩
  | .hbm, ⟨42, _⟩ => ⟨S4x256x1024, .f32⟩
  | .hbm, ⟨43, _⟩ => ⟨S4x256x512, .f32⟩
  | .hbm, ⟨44, _⟩ => ⟨S4x256x512, .f32⟩
  | .hbm, ⟨45, _⟩ => ⟨S4x256x512, .f32⟩
  | .hbm, ⟨46, _⟩ => ⟨S4x256x1024, .f32⟩
  | .hbm, ⟨47, _⟩ => ⟨S4x256x1024, .f32⟩
  | .hbm, ⟨48, _⟩ => ⟨S4x256x512, .f32⟩
  | .hbm, ⟨49, _⟩ => ⟨S4x256x512, .f32⟩
  | .hbm, ⟨50, _⟩ => ⟨S4x256x512, .f32⟩
  | .hbm, ⟨51, _⟩ => ⟨S4x256x512, .f32⟩
  | .hbm, ⟨52, _⟩ => ⟨S4x256x512, .f32⟩
  | .hbm, ⟨53, _⟩ => ⟨S4x256x1536, .f32⟩
  | .hbm, ⟨54, _⟩ => ⟨S4x256x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S_, .f32⟩
  | .hbm, ⟨59, _⟩ => ⟨S1024, .f32⟩
  | .hbm, ⟨60, _⟩ => ⟨S4x256x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S4x256x1024, .f32⟩
  | .hbm, ⟨65, _⟩ => ⟨S4x256x1024, .f32⟩
  | .hbm, ⟨66, _⟩ => ⟨S_, .f32⟩
  | .hbm, ⟨67, _⟩ => ⟨S1024, .f32⟩
  | .hbm, ⟨68, _⟩ => ⟨S4x256x1024, .f32⟩
  | .hbm, ⟨69, _⟩ => ⟨S_, .f32⟩
  | .hbm, ⟨70, _⟩ => ⟨S1024, .f32⟩
  | .hbm, ⟨71, _⟩ => ⟨S1x1x1024, .f32⟩
  | .hbm, ⟨72, _⟩ => ⟨S_, .f32⟩
  | .hbm, ⟨73, _⟩ => ⟨S1024, .f32⟩
  | .hbm, ⟨74, _⟩ => ⟨S1024x1536, .f32⟩
  | .hbm, ⟨75, _⟩ => ⟨S1024x1536, .bf16⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S6x1024, .f32⟩
  | .hbm, ⟨80, _⟩ => ⟨S8x1024, .f32⟩
  | .hbm, ⟨81, _⟩ => ⟨S1x8x1024, .f32⟩
  | .hbm, ⟨82, _⟩ => ⟨S1x1024, .f32⟩
  | .hbm, ⟨83, _⟩ => ⟨S_, .f32⟩
  | .hbm, ⟨84, _⟩ => ⟨S7x1024, .f32⟩
  | .hbm, ⟨85, _⟩ => ⟨S8x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel3.lean ====
abbrev S8192x1536 : Shape := ⟨2, ![8192, 1536]⟩
abbrev S8192x3584 : Shape := ⟨2, ![8192, 3584]⟩
abbrev S4x2048x1024 : Shape := ⟨3, ![4, 2048, 1024]⟩
abbrev S4x6x1024 : Shape := ⟨3, ![4, 6, 1024]⟩
abbrev S1x1024 : Shape := ⟨2, ![1, 1024]⟩
abbrev S1x1024x5632 : Shape := ⟨3, ![1, 1024, 5632]⟩
abbrev S1024x5632 : Shape := ⟨2, ![1024, 5632]⟩
abbrev S5632x1024 : Shape := ⟨2, ![5632, 1024]⟩
abbrev S8192x1024 : Shape := ⟨2, ![8192, 1024]⟩
abbrev S4x8x1024 : Shape := ⟨3, ![4, 8, 1024]⟩
abbrev S8x1024 : Shape := ⟨2, ![8, 1024]⟩
abbrev S512x1536 : Shape := ⟨2, ![512, 1536]⟩
abbrev S512x3584 : Shape := ⟨2, ![512, 3584]⟩
abbrev S512x1024 : Shape := ⟨2, ![512, 1024]⟩
abbrev S1x6x1024 : Shape := ⟨3, ![1, 6, 1024]⟩
abbrev S1x8x1024 : Shape := ⟨3, ![1, 8, 1024]⟩
abbrev S512x2048 : Shape := ⟨2, ![512, 2048]⟩
abbrev S512x512 : Shape := ⟨2, ![512, 512]⟩
abbrev S2048x1024 : Shape := ⟨2, ![2048, 1024]⟩
abbrev S3584x1024 : Shape := ⟨2, ![3584, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 20
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x3584, .bf16⟩
  | .hbm, ⟨3, _⟩ => ⟨S4x2048x1024, .f32⟩
  | .hbm, ⟨4, _⟩ => ⟨S4x2048x1024, .f32⟩
  | .hbm, ⟨5, _⟩ => ⟨S4x6x1024, .f32⟩
  | .hbm, ⟨6, _⟩ => ⟨S1x1024, .f32⟩
  | .hbm, ⟨7, _⟩ => ⟨S1x1024x5632, .f32⟩
  | .hbm, ⟨8, _⟩ => ⟨S1024x5632, .f32⟩
  | .hbm, ⟨9, _⟩ => ⟨S5632x1024, .f32⟩
  | .hbm, ⟨10, _⟩ => ⟨S5632x1024, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S4x8x1024, .f32⟩
  | .hbm, ⟨15, _⟩ => ⟨S8x1024, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x3584, .bf16⟩
  | .local _ .vmem, ⟨5, _⟩ => ⟨S512x3584, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S5632x1024, .bf16⟩
  | .local _ .vmem, ⟨14, _⟩ => ⟨S512x1024, .f32⟩
  | .local _ .vmem, ⟨15, _⟩ => ⟨S512x1024, .f32⟩
  | .local _ .vmem, ⟨16, _⟩ => ⟨S1x8x1024, .f32⟩
  | .local _ .vmem, ⟨17, _⟩ => ⟨S1x8x1024, .f32⟩
  | .local _ .vmem, ⟨18, _⟩ => ⟨S8x1024, .f32⟩
  | .local _ .vmem, ⟨19, _⟩ => ⟨S512x2048, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S8192x1536 : Shape := ⟨2, ![8192, 1536]⟩
abbrev S8192x3584 : Shape := ⟨2, ![8192, 3584]⟩
abbrev S4x2048x1024 : Shape := ⟨3, ![4, 2048, 1024]⟩
abbrev S4x6x1024 : Shape := ⟨3, ![4, 6, 1024]⟩
abbrev S1x1024 : Shape := ⟨2, ![1, 1024]⟩
abbrev S1x1024x5632 : Shape := ⟨3, ![1, 1024, 5632]⟩
abbrev S4x2048x1536 : Shape := ⟨3, ![4, 2048, 1536]⟩
abbrev S4x2048x3584 : Shape := ⟨3, ![4, 2048, 3584]⟩
abbrev S4x1x1024 : Shape := ⟨3, ![4, 1, 1024]⟩
abbrev S4x1024 : Shape := ⟨2, ![4, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x5632 : Shape := ⟨2, ![1024, 5632]⟩
abbrev S4x2048x5632 : Shape := ⟨3, ![4, 2048, 5632]⟩
abbrev S4x2048x512 : Shape := ⟨3, ![4, 2048, 512]⟩
abbrev S4x8x1024 : Shape := ⟨3, ![4, 8, 1024]⟩
abbrev S8192x1024 : Shape := ⟨2, ![8192, 1024]⟩
abbrev S7x1024 : Shape := ⟨2, ![7, 1024]⟩
abbrev S8x1024 : Shape := ⟨2, ![8, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x3584, .bf16⟩
  | .hbm, ⟨3, _⟩ => ⟨S4x2048x1024, .f32⟩
  | .hbm, ⟨4, _⟩ => ⟨S4x2048x1024, .f32⟩
  | .hbm, ⟨5, _⟩ => ⟨S4x6x1024, .f32⟩
  | .hbm, ⟨6, _⟩ => ⟨S1x1024, .f32⟩
  | .hbm, ⟨7, _⟩ => ⟨S1x1024x5632, .f32⟩
  | .hbm, ⟨8, _⟩ => ⟨S8192x1536, .f32⟩
  | .hbm, ⟨9, _⟩ => ⟨S4x2048x1536, .f32⟩
  | .hbm, ⟨10, _⟩ => ⟨S8192x1536, .f32⟩
  | .hbm, ⟨11, _⟩ => ⟨S4x2048x1536, .f32⟩
  | .hbm, ⟨12, _⟩ => ⟨S8192x3584, .f32⟩
  | .hbm, ⟨13, _⟩ => ⟨S4x2048x3584, .f32⟩
  | .hbm, ⟨14, _⟩ => ⟨S4x1x1024, .f32⟩
  | .hbm, ⟨15, _⟩ => ⟨S4x1024, .f32⟩
  | .hbm, ⟨16, _⟩ => ⟨S4x1x1024, .f32⟩
  | .hbm, ⟨17, _⟩ => ⟨S4x1024, .f32⟩
  | .hbm, ⟨18, _⟩ => ⟨S1024, .f32⟩
  | .hbm, ⟨19, _⟩ => ⟨S4x2048x1024, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1024, .f32⟩
  | .hbm, ⟨35, _⟩ => ⟨S4x2048x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | .hbm, ⟨39, _⟩ => ⟨S4x1x1024, .f32⟩
  | .hbm, ⟨40, _⟩ => ⟨S4x1x1024, .f32⟩
  | .hbm, ⟨41, _⟩ => ⟨S_, .f32⟩
  | .hbm, ⟨42, _⟩ => ⟨S4x1x1024, .f32⟩
  | .hbm, ⟨43, _⟩ => ⟨S4x1x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S1024x5632, .f32⟩
  | .hbm, ⟨49, _⟩ => ⟨S4x2048x5632, .f32⟩
  | .hbm, ⟨50, _⟩ => ⟨S4x2048x512, .f32⟩
  | .hbm, ⟨51, _⟩ => ⟨S4x2048x512, .f32⟩
  | .hbm, ⟨52, _⟩ => ⟨S4x2048x512, .f32⟩
  | .hbm, ⟨53, _⟩ => ⟨S4x2048x512, .f32⟩
  | .hbm, ⟨54, _⟩ => ⟨S4x2048x3584, .f32⟩
  | .hbm, ⟨55, _⟩ => ⟨S4x2048x1536, .f32⟩
  | .hbm, ⟨56, _⟩ => ⟨S4x2048x1536, .f32⟩
  | .hbm, ⟨57, _⟩ => ⟨S4x2048x512, .f32⟩
  | .hbm, ⟨58, _⟩ => ⟨S4x2048x512, .f32⟩
  | .hbm, ⟨59, _⟩ => ⟨S4x2048x512, .f32⟩
  | .hbm, ⟨60, _⟩ => ⟨S4x2048x512, .f32⟩
  | .hbm, ⟨61, _⟩ => ⟨S4x2048x512, .f32⟩
  | .hbm, ⟨62, _⟩ => ⟨S4x2048x512, .f32⟩
  | .hbm, ⟨63, _⟩ => ⟨S4x2048x512, .f32⟩
  | .hbm, ⟨64, _⟩ => ⟨S4x2048x512, .f32⟩
  | .hbm, ⟨65, _⟩ => ⟨S4x2048x5632, .f32⟩
  | .hbm, ⟨66, _⟩ => ⟨S4x2048x1024, .f32⟩
  | .hbm, ⟨67, _⟩ => ⟨S_, .f32⟩
  | .hbm, ⟨68, _⟩ => ⟨S4x1024, .f32⟩
  | .hbm, ⟨69, _⟩ => ⟨S4x1x1024, .f32⟩
  | .hbm, ⟨70, _⟩ => ⟨S4x2048x1024, .f32⟩
  | .hbm, ⟨71, _⟩ => ⟨S_, .f32⟩
  | .hbm, ⟨72, _⟩ => ⟨S4x1024, .f32⟩
  | .hbm, ⟨73, _⟩ => ⟨S4x1x1024, .f32⟩
  | .hbm, ⟨74, _⟩ => ⟨S4x2048x1024, .f32⟩
  | .hbm, ⟨75, _⟩ => ⟨S4x2048x1024, .f32⟩
  | .hbm, ⟨76, _⟩ => ⟨S_, .f32⟩
  | .hbm, ⟨77, _⟩ => ⟨S4x1024, .f32⟩
  | .hbm, ⟨78, _⟩ => ⟨S_, .f32⟩
  | .hbm, ⟨79, _⟩ => ⟨S4x1024, .f32⟩
  | .hbm, ⟨80, _⟩ => ⟨S4x2048x1024, .f32⟩
  | .hbm, ⟨81, _⟩ => ⟨S_, .f32⟩
  | .hbm, ⟨82, _⟩ => ⟨S1024, .f32⟩
  | .hbm, ⟨83, _⟩ => ⟨S1x1x1024, .f32⟩
  | .hbm, ⟨84, _⟩ => ⟨S4x2048x1024, .f32⟩
  | .hbm, ⟨85, _⟩ => ⟨S4x2048x1024, .f32⟩
  | .hbm, ⟨86, _⟩ => ⟨S_, .f32⟩
  | .hbm, ⟨87, _⟩ => ⟨S1024, .f32⟩
  | .hbm, ⟨88, _⟩ => ⟨S4x2048x1024, .f32⟩
  | .hbm, ⟨89, _⟩ => ⟨S_, .f32⟩
  | .hbm, ⟨90, _⟩ => ⟨S4x2048, .f32⟩
  | .hbm, ⟨91, _⟩ => ⟨S4x2048x1, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S4x2048x1, .f32⟩
  | .hbm, ⟨96, _⟩ => ⟨S_, .f32⟩
  | .hbm, ⟨97, _⟩ => ⟨S4x2048x1, .f32⟩
  | .hbm, ⟨98, _⟩ => ⟨S4x2048x1, .f32⟩
  | .hbm, ⟨99, _⟩ => ⟨S_, .f32⟩
  | .hbm, ⟨100, _⟩ => ⟨S4x2048, .f32⟩
  | .hbm, ⟨101, _⟩ => ⟨S4x2048x1024, .f32⟩
  | .hbm, ⟨102, _⟩ => ⟨S4x2048x1024, .f32⟩
  | .hbm, ⟨103, _⟩ => ⟨S4x2048x1024, .f32⟩
  | .hbm, ⟨104, _⟩ => ⟨S4x2048x1024, .f32⟩
  | .hbm, ⟨105, _⟩ => ⟨S4x2048x1024, .f32⟩
  | .hbm, ⟨106, _⟩ => ⟨S_, .f32⟩
  | .hbm, ⟨107, _⟩ => ⟨S4x6x1024, .f32⟩
  | .hbm, ⟨108, _⟩ => ⟨S4x1x1024, .f32⟩
  | .hbm, ⟨109, _⟩ => ⟨S4x1x1024, .f32⟩
  | .hbm, ⟨110, _⟩ => ⟨S4x8x1024, .f32⟩
  | .hbm, ⟨111, _⟩ => ⟨S8192x1024, .f32⟩
  | .hbm, ⟨112, _⟩ => ⟨S1x1024, .f32⟩
  | .hbm, ⟨113, _⟩ => ⟨S_, .f32⟩
  | .hbm, ⟨114, _⟩ => ⟨S7x1024, .f32⟩
  | .hbm, ⟨115, _⟩ => ⟨S8x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_11 : Ref sig .tc := ⟨.hbm, 96, rfl⟩
abbrev main_v76 : Ref sig .tc := ⟨.hbm, 97, rfl⟩
abbrev main_v77 : Ref sig .tc := ⟨.hbm, 98, rfl⟩
abbrev main_cst_12 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_13 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_14 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== Kernel7.lean ====
abbrev S4x2048x1024 : Shape := ⟨3, ![4, 2048, 1024]⟩
abbrev S4x6x1024 : Shape := ⟨3, ![4, 6, 1024]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S5632x1024 : Shape := ⟨2, ![5632, 1024]⟩
abbrev S2816x1024 : Shape := ⟨2, ![2816, 1024]⟩
abbrev S8192x1024 : Shape := ⟨2, ![8192, 1024]⟩
abbrev S8192x2816 : Shape := ⟨2, ![8192, 2816]⟩
abbrev S8192x5632 : Shape := ⟨2, ![8192, 5632]⟩
abbrev S4x8x1024 : Shape := ⟨3, ![4, 8, 1024]⟩
abbrev S8x1024 : Shape := ⟨2, ![8, 1024]⟩
abbrev S256x1024 : Shape := ⟨2, ![256, 1024]⟩
abbrev S1x6x1024 : Shape := ⟨3, ![1, 6, 1024]⟩
abbrev S256x2816 : Shape := ⟨2, ![256, 2816]⟩
abbrev S256x5632 : Shape := ⟨2, ![256, 5632]⟩
abbrev S1x8x1024 : Shape := ⟨3, ![1, 8, 1024]⟩
abbrev S1x1x1024 : Shape := ⟨3, ![1, 1, 1024]⟩
abbrev S256 : Shape := ⟨1, ![256]⟩
abbrev S256x1 : Shape := ⟨2, ![256, 1]⟩
abbrev S256x256 : Shape := ⟨2, ![256, 256]⟩
abbrev S1024x1024 : Shape := ⟨2, ![1024, 1024]⟩
abbrev S256x768 : Shape := ⟨2, ![256, 768]⟩
abbrev S768x1024 : Shape := ⟨2, ![768, 1024]⟩
abbrev S1 : Shape := ⟨1, ![1]⟩
abbrev S1x1 : Shape := ⟨2, ![1, 1]⟩

abbrev nBuf : Space → Nat
  | .hbm => 22
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x6x1024, .f32⟩
  | .hbm, ⟨3, _⟩ => ⟨S1x1024, .f32⟩
  | .hbm, ⟨4, _⟩ => ⟨S1024, .f32⟩
  | .hbm, ⟨5, _⟩ => ⟨S1x1024x5632, .f32⟩
  | .hbm, ⟨6, _⟩ => ⟨S1x2816x1024, .f32⟩
  | .hbm, ⟨7, _⟩ => ⟨S1024x5632, .f32⟩
  | .hbm, ⟨8, _⟩ => ⟨S5632x1024, .f32⟩
  | .hbm, ⟨9, _⟩ => ⟨S5632x1024, .bf16⟩
  | .hbm, ⟨10, _⟩ => ⟨S2816x1024, .f32⟩
  | .hbm, ⟨11, _⟩ => ⟨S2816x1024, .bf16⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .bf16⟩
  | .hbm, ⟨17, _⟩ => ⟨S8192x1024, .bf16⟩
  | .hbm, ⟨18, _⟩ => ⟨S8192x2816, .bf16⟩
  | .hbm, ⟨19, _⟩ => ⟨S8192x5632, .bf16⟩
  | .hbm, ⟨20, _⟩ => ⟨S4x8x1024, .f32⟩
  | .hbm, ⟨21, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1x1024, .f32⟩
  | .local _ .vmem, ⟨8, _⟩ => ⟨S5632x1024, .bf16⟩
  | .local _ .vmem, ⟨9, _⟩ => ⟨S2816x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x5632, .bf16⟩
  | .local _ .vmem, ⟨19, _⟩ => ⟨S256x5632, .bf16⟩
  | .local _ .vmem, ⟨20, _⟩ => ⟨S1x8x1024, .f32⟩
  | .local _ .vmem, ⟨21, _⟩ => ⟨S1x8x1024, .f32⟩
  | .local _ .vmem, ⟨22, _⟩ => ⟨S8x1024, .f32⟩
  | .local _ .vmem, ⟨23, _⟩ => ⟨S256x5632, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S4x2048x1024 : Shape := ⟨3, ![4, 2048, 1024]⟩
abbrev S4x6x1024 : Shape := ⟨3, ![4, 6, 1024]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S4x1x1024 : Shape := ⟨3, ![4, 1, 1024]⟩
abbrev S4x1024 : Shape := ⟨2, ![4, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x5632 : Shape := ⟨2, ![1024, 5632]⟩
abbrev S4x2048x5632 : Shape := ⟨3, ![4, 2048, 5632]⟩
abbrev S4x2048x2816 : Shape := ⟨3, ![4, 2048, 2816]⟩
abbrev S2816x1024 : Shape := ⟨2, ![2816, 1024]⟩
abbrev S8192x1024 : Shape := ⟨2, ![8192, 1024]⟩
abbrev S8192x2816 : Shape := ⟨2, ![8192, 2816]⟩
abbrev S8192x5632 : Shape := ⟨2, ![8192, 5632]⟩
abbrev S4x3x1024 : Shape := ⟨3, ![4, 3, 1024]⟩
abbrev S4x2x1024 : Shape := ⟨3, ![4, 2, 1024]⟩
abbrev S4x8x1024 : Shape := ⟨3, ![4, 8, 1024]⟩
abbrev S5x1024 : Shape := ⟨2, ![5, 1024]⟩
abbrev S8x1024 : Shape := ⟨2, ![8, 1024]⟩

abbrev nBuf : Space → Nat
  | .hbm => 214
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x6x1024, .f32⟩
  | 3 => ⟨S1x1024, .f32⟩
  | 4 => ⟨S1024, .f32⟩
  | 5 => ⟨S1x1024x5632, .f32⟩
  | 6 => ⟨S1x2816x1024, .f32⟩
  | 7 => ⟨S4x1x1024, .f32⟩
  | 8 => ⟨S4x1024, .f32⟩
  | 9 => ⟨S4x1x1024, .f32⟩
  | 10 => ⟨S4x1024, .f32⟩
  | 11 => ⟨S1024, .f32⟩
  | 12 => ⟨S4x2048x1024, .f32⟩
  | 13 => ⟨S_, .f32⟩
  | 14 => ⟨S4x2048, .f32⟩
  | 15 => ⟨S4x2048x1, .f32⟩
  | 16 => ⟨S_, .f32⟩
  | 17 => ⟨S4x2048x1, .f32⟩
  | 18 => ⟨S4x2048x1, .f32⟩
  | 19 => ⟨S_, .f32⟩
  | 20 => ⟨S4x2048x1, .f32⟩
  | 21 => ⟨S4x2048x1, .f32⟩
  | 22 => ⟨S4x2048x1, .f32⟩
  | 23 => ⟨S4x2048x1, .f32⟩
  | 24 => ⟨S_, .f32⟩
  | 25 => ⟨S4x2048x1, .f32⟩
  | 26 => ⟨S4x2048x1, .f32⟩
  | 27 => ⟨S4x2048x1024, .f32⟩
  | 28 => ⟨S4x2048x1024, .f32⟩
  | 29 => ⟨S1x1x1024, .f32⟩
  | 30 => ⟨S4x2048x1024, .f32⟩
  | 31 => ⟨S4x2048x1024, .f32⟩
  | 32 => ⟨S4x1x1024, .f32⟩
  | 33 => ⟨S4x1x1024, .f32⟩
  | 34 => ⟨S_, .f32⟩
  | 35 => ⟨S4x1x1024, .f32⟩
  | 36 => ⟨S4x1x1024, .f32⟩
  | 37 => ⟨S4x2048x1024, .f32⟩
  | 38 => ⟨S4x2048x1024, .f32⟩
  | 39 => ⟨S4x2048x1024, .f32⟩
  | 40 => ⟨S4x2048x1024, .f32⟩
  | 41 => ⟨S1024x5632, .f32⟩
  | 42 => ⟨S4x2048x5632, .f32⟩
  | 43 => ⟨S4x2048x2816, .f32⟩
  | 44 => ⟨S4x2048x2816, .f32⟩
  | 45 => ⟨S4x2048x2816, .f32⟩
  | 46 => ⟨S4x2048x2816, .f32⟩
  | 47 => ⟨S_, .f32⟩
  | 48 => ⟨S4x2048x2816, .f32⟩
  | 49 => ⟨S4x2048x2816, .f32⟩
  | 50 => ⟨S_, .f32⟩
  | 51 => ⟨S4x2048x2816, .f32⟩
  | 52 => ⟨S4x2048x2816, .f32⟩
  | 53 => ⟨S_, .f32⟩
  | 54 => ⟨S4x2048x2816, .f32⟩
  | 55 => ⟨S4x2048x2816, .f32⟩
  | 56 => ⟨S4x2048x2816, .f32⟩
  | 57 => ⟨S4x2048x2816, .f32⟩
  | 58 => ⟨S4x2048x2816, .f32⟩
  | 59 => ⟨S2816x1024, .f32⟩
  | 60 => ⟨S4x2048x1024, .f32⟩
  | 61 => ⟨S4x1x1024, .f32⟩
  | 62 => ⟨S4x1024, .f32⟩
  | 63 => ⟨S4x1x1024, .f32⟩
  | 64 => ⟨S4x2048x1024, .f32⟩
  | 65 => ⟨S4x2048x1024, .f32⟩
  | 66 => ⟨S4x2048x1024, .f32⟩
  | 67 => ⟨S4x2048x1024, .f32⟩
  | 68 => ⟨S_, .f32⟩
  | 69 => ⟨S4x2048, .f32⟩
  | 70 => ⟨S4x2048x1, .f32⟩
  | 71 => ⟨S_, .f32⟩
  | 72 => ⟨S4x2048x1, .f32⟩
  | 73 => ⟨S4x2048x1, .f32⟩
  | 74 => ⟨S_, .f32⟩
  | 75 => ⟨S4x2048x1, .f32⟩
  | 76 => ⟨S4x2048x1, .f32⟩
  | 77 => ⟨S4x2048x1, .f32⟩
  | 78 => ⟨S4x2048x1, .f32⟩
  | 79 => ⟨S_, .f32⟩
  | 80 => ⟨S4x2048x1, .f32⟩
  | 81 => ⟨S4x2048x1, .f32⟩
  | 82 => ⟨S4x2048x1024, .f32⟩
  | 83 => ⟨S4x2048x1024, .f32⟩
  | 84 => ⟨S1x1x1024, .f32⟩
  | 85 => ⟨S4x2048x1024, .f32⟩
  | 86 => ⟨S4x2048x1024, .f32⟩
  | 87 => ⟨S4x2048x1024, .f32⟩
  | 88 => ⟨S4x2048x1024, .f32⟩
  | 89 => ⟨S_, .f32⟩
  | 90 => ⟨S4x2048x1024, .f32⟩
  | 91 => ⟨S4x2048x1024, .f32⟩
  | 92 => ⟨S_, .f32⟩
  | 93 => ⟨S4x2048, .f32⟩
  | 94 => ⟨S_, .f32⟩
  | 95 => ⟨S4x2048, .f32⟩
  | 96 => ⟨S4x2048, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S4x2048, .f32⟩
  | 105 => ⟨S_, .f32⟩
  | 106 => ⟨S4x2048, .f32⟩
  | 107 => ⟨S4x2048, .f32⟩
  | 108 => ⟨S4x2048x1024, .f32⟩
  | 109 => ⟨S4x2048x1024, .f32⟩
  | 110 => ⟨S4x2048x1024, .f32⟩
  | 111 => ⟨S_, .f32⟩
  | 112 => ⟨S1024, .f32⟩
  | 113 => ⟨S1x1x1024, .f32⟩
  | 114 => ⟨S4x2048x1024, .f32⟩
  | 115 => ⟨S4x2048x1024, .f32⟩
  | 116 => ⟨S_, .f32⟩
  | 117 => ⟨S1024, .f32⟩
  | 118 => ⟨S4x2048x1024, .f32⟩
  | 119 => ⟨S_, .f32⟩
  | 120 => ⟨S4x2048, .f32⟩
  | 121 => ⟨S4x2048x1, .f32⟩
  | 122 => ⟨S4x2048x1024, .f32⟩
  | 123 => ⟨S4x2048x1024, .f32⟩
  | 124 => ⟨S4x2048x1, .f32⟩
  | 125 => ⟨S_, .f32⟩
  | 126 => ⟨S4x2048x1, .f32⟩
  | 127 => ⟨S4x2048x1, .f32⟩
  | _ => ⟨S4x2048x1024, .f32⟩

abbrev hbmTy0_1 (i : Nat) : BufTy := match i % 128 with
  | 0 => ⟨S_, .f32⟩
  | 1 => ⟨S4x2048, .f32⟩
  | 2 => ⟨S4x2048x1024, .f32⟩
  | 3 => ⟨S4x2048x1024, .f32⟩
  | 4 => ⟨S4x2048x1024, .f32⟩
  | 5 => ⟨S4x2048x1024, .f32⟩
  | 6 => ⟨S4x2048x1024, .f32⟩
  | 7 => ⟨S4x2048x1024, .f32⟩
  | 8 => ⟨S4x2048x1024, .f32⟩
  | 9 => ⟨S4x2048x1024, .f32⟩
  | 10 => ⟨S_, .f32⟩
  | 11 => ⟨S4x1024, .f32⟩
  | 12 => ⟨S4x1x1024, .f32⟩
  | 13 => ⟨S_, .f32⟩
  | 14 => ⟨S4x1024, .f32⟩
  | 15 => ⟨S4x2048x2816, .f32⟩
  | 16 => ⟨S4x2048x2816, .f32⟩
  | 17 => ⟨S4x2048x2816, .f32⟩
  | 18 => ⟨S4x2048x2816, .f32⟩
  | 19 => ⟨S4x2048x2816, .f32⟩
  | 20 => ⟨S4x2048x2816, .f32⟩
  | 21 => ⟨S4x2048x2816, .f32⟩
  | 22 => ⟨S4x2048x5632, .f32⟩
  | 23 => ⟨S4x2048x1024, .f32⟩
  | 24 => ⟨S_, .f32⟩
  | 25 => ⟨S4x1024, .f32⟩
  | 26 => ⟨S4x1x1024, .f32⟩
  | 27 => ⟨S4x2048x1024, .f32⟩
  | 28 => ⟨S_, .f32⟩
  | 29 => ⟨S4x1024, .f32⟩
  | 30 => ⟨S4x1x1024, .f32⟩
  | 31 => ⟨S4x2048x1024, .f32⟩
  | 32 => ⟨S4x2048x1024, .f32⟩
  | 33 => ⟨S_, .f32⟩
  | 34 => ⟨S4x1024, .f32⟩
  | 35 => ⟨S_, .f32⟩
  | 36 => ⟨S4x1024, .f32⟩
  | 37 => ⟨S4x2048x1024, .f32⟩
  | 38 => ⟨S_, .f32⟩
  | 39 => ⟨S1024, .f32⟩
  | 40 => ⟨S1x1x1024, .f32⟩
  | 41 => ⟨S4x2048x1024, .f32⟩
  | 42 => ⟨S4x2048x1024, .f32⟩
  | 43 => ⟨S_, .f32⟩
  | 44 => ⟨S1024, .f32⟩
  | 45 => ⟨S4x2048x1024, .f32⟩
  | 46 => ⟨S_, .f32⟩
  | 47 => ⟨S4x2048, .f32⟩
  | 48 => ⟨S4x2048x1, .f32⟩
  | 49 => ⟨S4x2048x1024, .f32⟩
  | 50 => ⟨S4x2048x1024, .f32⟩
  | 51 => ⟨S4x2048x1, .f32⟩
  | 52 => ⟨S_, .f32⟩
  | 53 => ⟨S4x2048x1, .f32⟩
  | 54 => ⟨S4x2048x1, .f32⟩
  | 55 => ⟨S_, .f32⟩
  | 56 => ⟨S4x2048, .f32⟩
  | 57 => ⟨S4x2048x1024, .f32⟩
  | 58 => ⟨S4x2048x1024, .f32⟩
  | 59 => ⟨S4x2048x1024, .f32⟩
  | 60 => ⟨S4x2048x1024, .f32⟩
  | 61 => ⟨S4x2048x1024, .f32⟩
  | 62 => ⟨S4x2048x1024, .f32⟩
  | 63 => ⟨S8192x1024, .f32⟩
  | 64 => ⟨S8192x1024, .f32⟩
  | 65 => ⟨S8192x1024, .f32⟩
  | 66 => ⟨S8192x2816, .f32⟩
  | 67 => ⟨S8192x5632, .f32⟩
  | 68 => ⟨S_, .f32⟩
  | 69 => ⟨S4x3x1024, .f32⟩
  | 70 => ⟨S4x1x1024, .f32⟩
  | 71 => ⟨S4x1x1024, .f32⟩
  | 72 => ⟨S4x1x1024, .f32⟩
  | 73 => ⟨S_, .f32⟩
  | 74 => ⟨S4x2x1024, .f32⟩
  | 75 => ⟨S4x8x1024, .f32⟩
  | 76 => ⟨S1x1024, .f32⟩
  | 77 => ⟨S1x1024, .f32⟩
  | 78 => ⟨S1x1024, .f32⟩
  | 79 => ⟨S_, .f32⟩
  | 80 => ⟨S5x1024, .f32⟩
  | 81 => ⟨S8x1024, .f32⟩
  | 82 => ⟨S8192x1024, .bf16⟩
  | 83 => ⟨S8192x1024, .bf16⟩
  | 84 => ⟨S8192x2816, .bf16⟩
  | 85 => ⟨S8192x5632, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v33_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v33_1 : Ref sig .tc := ⟨.hbm, 56, rfl⟩
abbrev main_v33_0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_cst_13 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_cst_20 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_23 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_24 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_25 : Ref sig .tc := ⟨.hbm, 161, rfl⟩
abbrev main_v113 : Ref sig .tc := ⟨.hbm, 162, rfl⟩
abbrev main_cst_26 : Ref sig .tc := ⟨.hbm, 163, rfl⟩
abbrev main_v114 : Ref sig .tc := ⟨.hbm, 164, rfl⟩
abbrev main_v115 : Ref sig .tc := ⟨.hbm, 165, rfl⟩
abbrev main_cst_27 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_28 : Ref sig .tc := ⟨.hbm, 171, rfl⟩
abbrev main_v120 : Ref sig .tc := ⟨.hbm, 172, rfl⟩
abbrev main_v121 : Ref sig .tc := ⟨.hbm, 173, rfl⟩
abbrev main_cst_29 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_30 : Ref sig .tc := ⟨.hbm, 180, rfl⟩
abbrev main_v127 : Ref sig .tc := ⟨.hbm, 181, rfl⟩
abbrev main_v128 : Ref sig .tc := ⟨.hbm, 182, rfl⟩
abbrev main_cst_31 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_32 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_33 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_34 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩

abbrev nD : Nat := 1
abbrev τ : Topo := Topo.v7x

variable {F : FTy → Type} [FloatOps F]
-- ==== Kernel9.lean ====
abbrev S32x1024 : Shape := ⟨2, ![32, 1024]⟩
abbrev S1024 : Shape := ⟨1, ![1024]⟩
abbrev S1x1024x768 : Shape := ⟨3, ![1, 1024, 768]⟩
abbrev S1x768 : Shape := ⟨2, ![1, 768]⟩
abbrev S1x1024 : Shape := ⟨2, ![1, 1024]⟩
abbrev S_ : Shape := ⟨0, ![]⟩
abbrev S7x1024 : Shape := ⟨2, ![7, 1024]⟩
abbrev S40x1024 : Shape := ⟨2, ![40, 1024]⟩
abbrev S1024x768 : Shape := ⟨2, ![1024, 768]⟩
abbrev S40x768 : Shape := ⟨2, ![40, 768]⟩

abbrev nBuf : Space → Nat
  | .hbm => 11
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1x1024x768, .f32⟩
  | .hbm, ⟨3, _⟩ => ⟨S1x768, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S40x1024, .f32⟩
  | .hbm, ⟨8, _⟩ => ⟨S1024x768, .f32⟩
  | .hbm, ⟨9, _⟩ => ⟨S40x768, .f32⟩
  | .hbm, ⟨10, _⟩ => ⟨S40x1024, .f32⟩
  | .local _ .vmem, ⟨0, _⟩ => ⟨S40x1024, .f32⟩
  | .local _ .vmem, ⟨1, _⟩ => ⟨S1024x768, .f32⟩
  | .local _ .vmem, ⟨2, _⟩ => ⟨S1x768, .f32⟩
  | .local _ .vmem, ⟨3, _⟩ => ⟨S40x768, .f32⟩
  | .local _ .vmem, ⟨4, _⟩ => ⟨S40x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference9Ideal.lean ====
abbrev S32x1024 : Shape := ⟨2, ![32, 1024]⟩
abbrev S1024 : Shape := ⟨1, ![1024]⟩
abbrev S1x1024x768 : Shape := ⟨3, ![1, 1024, 768]⟩
abbrev S1x768 : Shape := ⟨2, ![1, 768]⟩
abbrev S1x1024 : Shape := ⟨2, ![1, 1024]⟩
abbrev S_ : Shape := ⟨0, ![]⟩
abbrev S7x1024 : Shape := ⟨2, ![7, 1024]⟩
abbrev S40x1024 : Shape := ⟨2, ![40, 1024]⟩
abbrev S1024x768 : Shape := ⟨2, ![1024, 768]⟩
abbrev S40x768 : Shape := ⟨2, ![40, 768]⟩
abbrev S768 : Shape := ⟨1, ![768]⟩

abbrev nBuf : Space → Nat
  | .hbm => 23
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1x1024x768, .f32⟩
  | .hbm, ⟨3, _⟩ => ⟨S1x768, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S40x1024, .f32⟩
  | .hbm, ⟨8, _⟩ => ⟨S40x1024, .f32⟩
  | .hbm, ⟨9, _⟩ => ⟨S40x1024, .f32⟩
  | .hbm, ⟨10, _⟩ => ⟨S_, .f32⟩
  | .hbm, ⟨11, _⟩ => ⟨S40x1024, .f32⟩
  | .hbm, ⟨12, _⟩ => ⟨S40x1024, .f32⟩
  | .hbm, ⟨13, _⟩ => ⟨S_, .f32⟩
  | .hbm, ⟨14, _⟩ => ⟨S40x1024, .f32⟩
  | .hbm, ⟨15, _⟩ => ⟨S40x1024, .f32⟩
  | .hbm, ⟨16, _⟩ => ⟨S40x1024, .f32⟩
  | .hbm, ⟨17, _⟩ => ⟨S1024x768, .f32⟩
  | .hbm, ⟨18, _⟩ => ⟨S40x768, .f32⟩
  | .hbm, ⟨19, _⟩ => ⟨S768, .f32⟩
  | .hbm, ⟨20, _⟩ => ⟨S1x768, .f32⟩
  | .hbm, ⟨21, _⟩ => ⟨S40x768, .f32⟩
  | .hbm, ⟨22, _⟩ => ⟨S40x768, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel10.lean ====
abbrev S4x256x1024 : Shape := ⟨3, ![4, 256, 1024]⟩
abbrev S6x1024 : Shape := ⟨2, ![6, 1024]⟩
abbrev S1x1024 : Shape := ⟨2, ![1, 1024]⟩
abbrev S1x1024x5632 : Shape := ⟨3, ![1, 1024, 5632]⟩
abbrev S1024x5632 : Shape := ⟨2, ![1024, 5632]⟩
abbrev S5632x1024 : Shape := ⟨2, ![5632, 1024]⟩
abbrev S1024x1024 : Shape := ⟨2, ![1024, 1024]⟩
abbrev S1x6x1024 : Shape := ⟨3, ![1, 6, 1024]⟩
abbrev S1024x1536 : Shape := ⟨2, ![1024, 1536]⟩
abbrev S256x1024 : Shape := ⟨2, ![256, 1024]⟩
abbrev S1536x1024 : Shape := ⟨2, ![1536, 1024]⟩
abbrev S256x1536 : Shape := ⟨2, ![256, 1536]⟩
abbrev S256 : Shape := ⟨1, ![256]⟩
abbrev S256x1 : Shape := ⟨2, ![256, 1]⟩
abbrev S1x1x1024 : Shape := ⟨3, ![1, 1, 1024]⟩
abbrev S512x1024 : Shape := ⟨2, ![512, 1024]⟩
abbrev S256x512 : Shape := ⟨2, ![256, 512]⟩

abbrev nBuf : Space → Nat
  | .hbm => 11
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S6x1024, .f32⟩
  | .hbm, ⟨2, _⟩ => ⟨S1x1024, .f32⟩
  | .hbm, ⟨3, _⟩ => ⟨S1x1024x5632, .f32⟩
  | .hbm, ⟨4, _⟩ => ⟨S1024x5632, .f32⟩
  | .hbm, ⟨5, _⟩ => ⟨S5632x1024, .f32⟩
  | .hbm, ⟨6, _⟩ => ⟨S5632x1024, .bf16⟩
  | .hbm, ⟨7, _⟩ => ⟨S1024x1024, .f32⟩
  | .hbm, ⟨8, _⟩ => ⟨S1x6x1024, .f32⟩
  | .hbm, ⟨9, _⟩ => ⟨S1024x1536, .bf16⟩
  | .hbm, ⟨10, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x1024, .f32⟩
  | .local _ .vmem, ⟨4, _⟩ => ⟨S1536x1024, .bf16⟩
  | .local _ .vmem, ⟨5, _⟩ => ⟨S256x1536, .bf16⟩
  | .local _ .vmem, ⟨6, _⟩ => ⟨S256x1536, .bf16⟩
  | .local _ .vmem, ⟨7, _⟩ => ⟨S256x1024, .bf16⟩
  | .local _ .vmem, ⟨8, _⟩ => ⟨S256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4x256x1024 : Shape := ⟨3, ![4, 256, 1024]⟩
abbrev S6x1024 : Shape := ⟨2, ![6, 1024]⟩
abbrev S1x1024 : Shape := ⟨2, ![1, 1024]⟩
abbrev S1x1024x5632 : Shape := ⟨3, ![1, 1024, 5632]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x5632 : Shape := ⟨2, ![1024, 5632]⟩
abbrev S1024x1536 : Shape := ⟨2, ![1024, 1536]⟩
abbrev S4x256x1536 : Shape := ⟨3, ![4, 256, 1536]⟩
abbrev S1024x1024 : Shape := ⟨2, ![1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S6x1024, .f32⟩
  | .hbm, ⟨2, _⟩ => ⟨S1x1024, .f32⟩
  | .hbm, ⟨3, _⟩ => ⟨S1x1024x5632, .f32⟩
  | .hbm, ⟨4, _⟩ => ⟨S1024, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1x1024, .f32⟩
  | .hbm, ⟨29, _⟩ => ⟨S4x256x1024, .f32⟩
  | .hbm, ⟨30, _⟩ => ⟨S4x256x1024, .f32⟩
  | .hbm, ⟨31, _⟩ => ⟨S1x1x1024, .f32⟩
  | .hbm, ⟨32, _⟩ => ⟨S4x256x1024, .f32⟩
  | .hbm, ⟨33, _⟩ => ⟨S4x256x1024, .f32⟩
  | .hbm, ⟨34, _⟩ => ⟨S1024x5632, .f32⟩
  | .hbm, ⟨35, _⟩ => ⟨S1024x1536, .f32⟩
  | .hbm, ⟨36, _⟩ => ⟨S4x256x1536, .f32⟩
  | .hbm, ⟨37, _⟩ => ⟨S1024x1536, .f32⟩
  | .hbm, ⟨38, _⟩ => ⟨S1024x1536, .bf16⟩
  | .hbm, ⟨39, _⟩ => ⟨S1024x1024, .f32⟩
  | .hbm, ⟨40, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel11.lean ====
abbrev S4x2048x1024 : Shape := ⟨3, ![4, 2048, 1024]⟩
abbrev S4x6x1024 : Shape := ⟨3, ![4, 6, 1024]⟩
abbrev S1x1024 : Shape := ⟨2, ![1, 1024]⟩
abbrev S1x1024x5632 : Shape := ⟨3, ![1, 1024, 5632]⟩
abbrev S1024x5632 : Shape := ⟨2, ![1024, 5632]⟩
abbrev S5632x1024 : Shape := ⟨2, ![5632, 1024]⟩
abbrev S8192x1024 : Shape := ⟨2, ![8192, 1024]⟩
abbrev S8192x5632 : Shape := ⟨2, ![8192, 5632]⟩
abbrev S512x1024 : Shape := ⟨2, ![512, 1024]⟩
abbrev S1x6x1024 : Shape := ⟨3, ![1, 6, 1024]⟩
abbrev S512x5632 : Shape := ⟨2, ![512, 5632]⟩
abbrev S512 : Shape := ⟨1, ![512]⟩
abbrev S512x1 : Shape := ⟨2, ![512, 1]⟩
abbrev S1x1x1024 : Shape := ⟨3, ![1, 1, 1024]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x6x1024, .f32⟩
  | .hbm, ⟨2, _⟩ => ⟨S1x1024, .f32⟩
  | .hbm, ⟨3, _⟩ => ⟨S1x1024x5632, .f32⟩
  | .hbm, ⟨4, _⟩ => ⟨S1024x5632, .f32⟩
  | .hbm, ⟨5, _⟩ => ⟨S5632x1024, .f32⟩
  | .hbm, ⟨6, _⟩ => ⟨S5632x1024, .bf16⟩
  | .hbm, ⟨7, _⟩ => ⟨S8192x1024, .f32⟩
  | .hbm, ⟨8, _⟩ => ⟨S8192x5632, .bf16⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S5632x1024, .bf16⟩
  | .local _ .vmem, ⟨6, _⟩ => ⟨S512x5632, .bf16⟩
  | .local _ .vmem, ⟨7, _⟩ => ⟨S512x5632, .bf16⟩
  | .local _ .vmem, ⟨8, _⟩ => ⟨S512x1024, .bf16⟩
  | .local _ .vmem, ⟨9, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5632x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4x2048x1024 : Shape := ⟨3, ![4, 2048, 1024]⟩
abbrev S4x6x1024 : Shape := ⟨3, ![4, 6, 1024]⟩
abbrev S1x1024 : Shape := ⟨2, ![1, 1024]⟩
abbrev S1x1024x5632 : Shape := ⟨3, ![1, 1024, 5632]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x1024 : Shape := ⟨2, ![4, 1024]⟩
abbrev S1024x5632 : Shape := ⟨2, ![1024, 5632]⟩
abbrev S4x2048x5632 : Shape := ⟨3, ![4, 2048, 5632]⟩
abbrev S8192x5632 : Shape := ⟨2, ![8192, 5632]⟩
abbrev S8192x1024 : Shape := ⟨2, ![8192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x6x1024, .f32⟩
  | .hbm, ⟨2, _⟩ => ⟨S1x1024, .f32⟩
  | .hbm, ⟨3, _⟩ => ⟨S1x1024x5632, .f32⟩
  | .hbm, ⟨4, _⟩ => ⟨S1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x1x1024, .f32⟩
  | .hbm, ⟨22, _⟩ => ⟨S4x1024, .f32⟩
  | .hbm, ⟨23, _⟩ => ⟨S4x1x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S1024x5632, .f32⟩
  | .hbm, ⟨35, _⟩ => ⟨S4x2048x5632, .f32⟩
  | .hbm, ⟨36, _⟩ => ⟨S8192x5632, .f32⟩
  | .hbm, ⟨37, _⟩ => ⟨S8192x5632, .bf16⟩
  | .hbm, ⟨38, _⟩ => ⟨S8192x1024, .f32⟩
  | .hbm, ⟨39, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel13.lean ====
abbrev S4x256x1536 : Shape := ⟨3, ![4, 256, 1536]⟩
abbrev S2x2x512 : Shape := ⟨3, ![2, 2, 512]⟩
abbrev S1024x1536 : Shape := ⟨2, ![1024, 1536]⟩
abbrev S4x512 : Shape := ⟨2, ![4, 512]⟩
abbrev S16x4x128x128 : Shape := ⟨4, ![16, 4, 128, 128]⟩
abbrev S1024x512 : Shape := ⟨2, ![1024, 512]⟩
abbrev S2x4x4x128x128 : Shape := ⟨5, ![2, 4, 4, 128, 128]⟩
abbrev S256x512 : Shape := ⟨2, ![256, 512]⟩
abbrev S4x4x128x128 : Shape := ⟨4, ![4, 4, 128, 128]⟩
abbrev S2x1x4x128x128 : Shape := ⟨5, ![2, 1, 4, 128, 128]⟩
abbrev S2x4x128x128 : Shape := ⟨4, ![2, 4, 128, 128]⟩
abbrev S256x256 : Shape := ⟨2, ![256, 256]⟩
abbrev S1x512 : Shape := ⟨2, ![1, 512]⟩
abbrev S256x1024 : Shape := ⟨2, ![256, 1024]⟩
abbrev S64x512 : Shape := ⟨2, ![64, 512]⟩
abbrev S1x1x128x128 : Shape := ⟨4, ![1, 1, 128, 128]⟩
abbrev S128x128 : Shape := ⟨2, ![128, 128]⟩
abbrev S1x128 : Shape := ⟨2, ![1, 128]⟩
abbrev S64x128 : Shape := ⟨2, ![64, 128]⟩

abbrev nBuf : Space → Nat
  | .hbm => 10
  | .vmem => 20
  | .smem => 0
  | _ => 0

abbrev bufTy : (tb : Table) → Fin (tcTables nBuf tb) → BufTy
  | .hbm, ⟨0, _⟩ => ⟨S4x256x1536, .f32⟩
  | .hbm, ⟨1, _⟩ => ⟨S2x2x512, .f32⟩
  | .hbm, ⟨2, _⟩ => ⟨S1024x1536, .f32⟩
  | .hbm, ⟨3, _⟩ => ⟨S1024x1536, .bf16⟩
  | .hbm, ⟨4, _⟩ => ⟨S4x512, .f32⟩
  | .hbm, ⟨5, _⟩ => ⟨S16x4x128x128, .bf16⟩
  | .hbm, ⟨6, _⟩ => ⟨S16x4x128x128, .bf16⟩
  | .hbm, ⟨7, _⟩ => ⟨S1024x512, .f32⟩
  | .hbm, ⟨8, _⟩ => ⟨S1024x512, .f32⟩
  | .hbm, ⟨9, _⟩ => ⟨S2x4x4x128x128, .f32⟩
  | .local _ .vmem, ⟨0, _⟩ => ⟨S4x512, .f32⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S4x4x128x128, .bf16⟩
  | .local _ .vmem, ⟨10, _⟩ => ⟨S4x4x128x128, .bf16⟩
  | .local _ .vmem, ⟨11, _⟩ => ⟨S4x4x128x128, .bf16⟩
  | .local _ .vmem, ⟨12, _⟩ => ⟨S4x4x128x128, .bf16⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S2x1x4x128x128, .f32⟩
  | .local _ .vmem, ⟨18, _⟩ => ⟨S2x1x4x128x128, .f32⟩
  | .local _ .vmem, ⟨19, _⟩ => ⟨S2x4x128x128, .f32⟩
  | _, _ => ⟨S4x256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_486 : BitVec 32 := 0#32
  let v791 : BitVec 1 := Scalar.cmpi .eq arg1 c0_i32_486
  let v792 : BitVec 32 := Scalar.extui v791
  let c0_i32_487 : BitVec 32 := 0#32
  let v793 : BitVec 1 := Scalar.cmpi .ne v792 c0_i32_487
  v793

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c1_i32_2 : BitVec 32 := 1#32
  let c0_i32 : BitVec 32 := 0#32
  ![v3.toNat, c1_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c2_i32 : BitVec 32 := 2#32
  let c0_i32 : BitVec 32 := 0#32
  ![v3.toNat, c2_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let c0_i32_2 : BitVec 32 := 0#32
  let c0_i32_3 : BitVec 32 := 0#32
  let c0_i32_4 : BitVec 32 := 0#32
  ![v3.toNat, c0_i32.toNat, c0_i32_2.toNat, c0_i32_3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let c0_i32_2 : BitVec 32 := 0#32
  ![v3.toNat, c0_i32.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x4x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference13Ideal.lean ====
abbrev S4x256x1536 : Shape := ⟨3, ![4, 256, 1536]⟩
abbrev S2x2x512 : Shape := ⟨3, ![2, 2, 512]⟩
abbrev S_ : Shape := ⟨0, ![]⟩
abbrev S2x512 : Shape := ⟨2, ![2, 512]⟩
abbrev S1x2x512 : Shape := ⟨3, ![1, 2, 512]⟩
abbrev S4x256x512 : Shape := ⟨3, ![4, 256, 512]⟩
abbrev S1x512 : Shape := ⟨2, ![1, 512]⟩
abbrev S512 : Shape := ⟨1, ![512]⟩
abbrev S1x1x512 : Shape := ⟨3, ![1, 1, 512]⟩
abbrev S4x4x64x4x128 : Shape := ⟨5, ![4, 4, 64, 4, 128]⟩
abbrev S4x4x1x4x128 : Shape := ⟨5, ![4, 4, 1, 4, 128]⟩
abbrev S4x4x4x128x128 : Shape := ⟨5, ![4, 4, 4, 128, 128]⟩
abbrev S4x4x4x128 : Shape := ⟨4, ![4, 4, 4, 128]⟩
abbrev S4x4x128x128 : Shape := ⟨4, ![4, 4, 128, 128]⟩
abbrev S4x1x4x128 : Shape := ⟨4, ![4, 1, 4, 128]⟩
abbrev S4x4x128 : Shape := ⟨3, ![4, 4, 128]⟩
abbrev S4x4x128x1 : Shape := ⟨4, ![4, 4, 128, 1]⟩
abbrev S4x1x4x128x128 : Shape := ⟨5, ![4, 1, 4, 128, 128]⟩
abbrev S16x4x128x128 : Shape := ⟨4, ![16, 4, 128, 128]⟩
abbrev S1024x512 : Shape := ⟨2, ![1024, 512]⟩
abbrev S1x4x4x128x128 : Shape := ⟨5, ![1, 4, 4, 128, 128]⟩
abbrev S2x4x4x128x128 : Shape := ⟨5, ![2, 4, 4, 128, 128]⟩

abbrev nBuf : Space → Nat
  | .hbm => 195
  | .vmem => 0
  | .smem => 0
  | _ => 0

abbrev hbmTy0_0 (i : Nat) : BufTy := match i % 128 with
  | 0 => ⟨S4x256x1536, .f32⟩
  | 1 => ⟨S2x2x512, .f32⟩
  | 2 => ⟨S_, .f32⟩
  | 3 => ⟨S2x512, .f32⟩
  | 4 => ⟨S_, .f32⟩
  | 5 => ⟨S2x512, .f32⟩
  | 6 => ⟨S2x512, .f32⟩
  | 7 => ⟨S1x2x512, .f32⟩
  | 8 => ⟨S2x2x512, .f32⟩
  | 9 => ⟨S2x2x512, .f32⟩
  | 10 => ⟨S2x2x512, .f32⟩
  | 11 => ⟨S_, .f32⟩
  | 12 => ⟨S2x512, .f32⟩
  | 13 => ⟨S1x2x512, .f32⟩
  | 14 => ⟨S2x2x512, .f32⟩
  | 15 => ⟨S2x2x512, .f32⟩
  | 16 => ⟨S_, .f32⟩
  | 17 => ⟨S_, .f32⟩
  | 18 => ⟨S2x2x512, .f32⟩
  | 19 => ⟨S1x2x512, .f32⟩
  | 20 => ⟨S2x512, .f32⟩
  | 21 => ⟨S4x256x512, .f32⟩
  | 22 => ⟨S4x256x512, .f32⟩
  | 23 => ⟨S4x256x512, .f32⟩
  | 24 => ⟨S1x512, .f32⟩
  | 25 => ⟨S512, .f32⟩
  | 26 => ⟨S_, .f32⟩
  | 27 => ⟨S512, .f32⟩
  | 28 => ⟨S512, .f32⟩
  | 29 => ⟨S4x256x512, .f32⟩
  | 30 => ⟨S4x256x512, .f32⟩
  | 31 => ⟨S_, .f32⟩
  | 32 => ⟨S4x256x512, .f32⟩
  | 33 => ⟨S4x256x512, .f32⟩
  | 34 => ⟨S_, .f32⟩
  | 35 => ⟨S4x256x512, .f32⟩
  | 36 => ⟨S4x256x512, .f32⟩
  | 37 => ⟨S1x1x512, .f32⟩
  | 38 => ⟨S4x256x512, .f32⟩
  | 39 => ⟨S4x256x512, .f32⟩
  | 40 => ⟨S1x1x512, .f32⟩
  | 41 => ⟨S4x256x512, .f32⟩
  | 42 => ⟨S4x256x512, .f32⟩
  | 43 => ⟨S4x256x512, .f32⟩
  | 44 => ⟨S_, .f32⟩
  | 45 => ⟨S4x256x512, .f32⟩
  | 46 => ⟨S4x256x512, .f32⟩
  | 47 => ⟨S1x512, .f32⟩
  | 48 => ⟨S512, .f32⟩
  | 49 => ⟨S_, .f32⟩
  | 50 => ⟨S512, .f32⟩
  | 51 => ⟨S512, .f32⟩
  | 52 => ⟨S4x256x512, .f32⟩
  | 53 => ⟨S4x256x512, .f32⟩
  | 54 => ⟨S_, .f32⟩
  | 55 => ⟨S4x256x512, .f32⟩
  | 56 => ⟨S4x256x512, .f32⟩
  | 57 => ⟨S_, .f32⟩
  | 58 => ⟨S4x256x512, .f32⟩
  | 59 => ⟨S4x256x512, .f32⟩
  | 60 => ⟨S1x1x512, .f32⟩
  | 61 => ⟨S4x256x512, .f32⟩
  | 62 => ⟨S4x256x512, .f32⟩
  | 63 => ⟨S1x1x512, .f32⟩
  | 64 => ⟨S4x256x512, .f32⟩
  | 65 => ⟨S4x256x512, .f32⟩
  | 66 => ⟨S4x256x512, .f32⟩
  | 67 => ⟨S_, .f32⟩
  | 68 => ⟨S4x256x512, .f32⟩
  | 69 => ⟨S4x256x512, .f32⟩
  | 70 => ⟨S4x4x64x4x128, .f32⟩
  | 71 => ⟨S4x4x64x4x128, .f32⟩
  | 72 => ⟨S4x4x64x4x128, .f32⟩
  | 73 => ⟨S_, .f32⟩
  | 74 => ⟨S_, .f32⟩
  | 75 => ⟨S4x4x64x4x128, .f32⟩
  | 76 => ⟨S4x4x1x4x128, .f32⟩
  | 77 => ⟨S4x4x64x4x128, .f32⟩
  | 78 => ⟨S4x4x64x4x128, .f32⟩
  | 79 => ⟨S4x4x64x4x128, .f32⟩
  | 80 => ⟨S4x4x64x4x128, .f32⟩
  | 81 => ⟨S4x4x4x128x128, .f32⟩
  | 82 => ⟨S4x4x4x128, .f32⟩
  | 83 => ⟨S4x4x4x128, .f32⟩
  | 84 => ⟨S_, .f32⟩
  | 85 => ⟨S4x4x128x128, .f32⟩
  | 86 => ⟨S4x1x4x128, .f32⟩
  | 87 => ⟨S4x4x128, .f32⟩
  | 88 => ⟨S4x4x128x1, .f32⟩
  | 89 => ⟨S4x4x128x128, .f32⟩
  | 90 => ⟨S4x4x128x128, .f32⟩
  | 91 => ⟨S4x1x4x128x128, .f32⟩
  | 92 => ⟨S4x4x128x128, .f32⟩
  | 93 => ⟨S4x4x128x128, .f32⟩
  | 94 => ⟨S4x1x4x128, .f32⟩
  | 95 => ⟨S4x4x128, .f32⟩
  | 96 => ⟨S4x4x128x1, .f32⟩
  | 97 => ⟨S4x4x128x128, .f32⟩
  | 98 => ⟨S4x4x128x128, .f32⟩
  | 99 => ⟨S4x1x4x128x128, .f32⟩
  | 100 => ⟨S4x4x128x128, .f32⟩
  | 101 => ⟨S4x4x128x128, .f32⟩
  | 102 => ⟨S4x1x4x128, .f32⟩
  | 103 => ⟨S4x4x128, .f32⟩
  | 104 => ⟨S4x4x128x1, .f32⟩
  | 105 => ⟨S4x4x128x128, .f32⟩
  | 106 => ⟨S4x4x128x128, .f32⟩
  | 107 => ⟨S4x1x4x128x128, .f32⟩
  | 108 => ⟨S4x4x128x128, .f32⟩
  | 109 => ⟨S4x4x128x128, .f32⟩
  | 110 => ⟨S4x1x4x128, .f32⟩
  | 111 => ⟨S4x4x128, .f32⟩
  | 112 => ⟨S4x4x128x1, .f32⟩
  | 113 => ⟨S4x4x128x128, .f32⟩
  | 114 => ⟨S4x4x128x128, .f32⟩
  | 115 => ⟨S4x1x4x128x128, .f32⟩
  | 116 => ⟨S4x4x128x128, .f32⟩
  | 117 => ⟨S4x4x128x128, .f32⟩
  | 118 => ⟨S4x1x4x128x128, .f32⟩
  | 119 => ⟨S4x1x4x128x128, .f32⟩
  | 120 => ⟨S4x1x4x128x128, .f32⟩
  | 121 => ⟨S4x1x4x128x128, .f32⟩
  | 122 => ⟨S4x4x4x128x128, .f32⟩
  | 123 => ⟨S4x256x512, .f32⟩
  | 124 => ⟨S4x256x512, .f32⟩
  | 125 => ⟨S4x256x512, .f32⟩
  | 126 => ⟨S4x256x512, .f32⟩
  | 127 => ⟨S4x4x64x4x128, .f32⟩
  | _ => ⟨S4x256x1536, .f32⟩

abbrev hbmTy0_1 (i : Nat) : BufTy := match i % 128 with
  | 0 => ⟨S4x4x64x4x128, .f32⟩
  | 1 => ⟨S4x4x64x4x128, .f32⟩
  | 2 => ⟨S_, .f32⟩
  | 3 => ⟨S_, .f32⟩
  | 4 => ⟨S4x4x64x4x128, .f32⟩
  | 5 => ⟨S4x4x1x4x128, .f32⟩
  | 6 => ⟨S4x4x64x4x128, .f32⟩
  | 7 => ⟨S4x4x64x4x128, .f32⟩
  | 8 => ⟨S4x4x64x4x128, .f32⟩
  | 9 => ⟨S4x4x64x4x128, .f32⟩
  | 10 => ⟨S4x4x4x128x128, .f32⟩
  | 11 => ⟨S4x4x4x128, .f32⟩
  | 12 => ⟨S4x4x4x128, .f32⟩
  | 13 => ⟨S_, .f32⟩
  | 14 => ⟨S4x4x128x128, .f32⟩
  | 15 => ⟨S4x1x4x128, .f32⟩
  | 16 => ⟨S4x4x128, .f32⟩
  | 17 => ⟨S4x4x128x1, .f32⟩
  | 18 => ⟨S4x4x128x128, .f32⟩
  | 19 => ⟨S4x4x128x128, .f32⟩
  | 20 => ⟨S4x1x4x128x128, .f32⟩
  | 21 => ⟨S4x4x128x128, .f32⟩
  | 22 => ⟨S4x4x128x128, .f32⟩
  | 23 => ⟨S4x1x4x128, .f32⟩
  | 24 => ⟨S4x4x128, .f32⟩
  | 25 => ⟨S4x4x128x1, .f32⟩
  | 26 => ⟨S4x4x128x128, .f32⟩
  | 27 => ⟨S4x4x128x128, .f32⟩
  | 28 => ⟨S4x1x4x128x128, .f32⟩
  | 29 => ⟨S4x4x128x128, .f32⟩
  | 30 => ⟨S4x4x128x128, .f32⟩
  | 31 => ⟨S4x1x4x128, .f32⟩
  | 32 => ⟨S4x4x128, .f32⟩
  | 33 => ⟨S4x4x128x1, .f32⟩
  | 34 => ⟨S4x4x128x128, .f32⟩
  | 35 => ⟨S4x4x128x128, .f32⟩
  | 36 => ⟨S4x1x4x128x128, .f32⟩
  | 37 => ⟨S4x4x128x128, .f32⟩
  | 38 => ⟨S4x4x128x128, .f32⟩
  | 39 => ⟨S4x1x4x128, .f32⟩
  | 40 => ⟨S4x4x128, .f32⟩
  | 41 => ⟨S4x4x128x1, .f32⟩
  | 42 => ⟨S4x4x128x128, .f32⟩
  | 43 => ⟨S4x4x128x128, .f32⟩
  | 44 => ⟨S4x1x4x128x128, .f32⟩
  | 45 => ⟨S4x4x128x128, .f32⟩
  | 46 => ⟨S4x4x128x128, .f32⟩
  | 47 => ⟨S4x1x4x128x128, .f32⟩
  | 48 => ⟨S4x1x4x128x128, .f32⟩
  | 49 => ⟨S4x1x4x128x128, .f32⟩
  | 50 => ⟨S4x1x4x128x128, .f32⟩
  | 51 => ⟨S4x4x4x128x128, .f32⟩
  | 52 => ⟨S4x256x512, .f32⟩
  | 53 => ⟨S16x4x128x128, .f32⟩
  | 54 => ⟨S16x4x128x128, .f32⟩
  | 55 => ⟨S16x4x128x128, .bf16⟩
  | 56 => ⟨S4x4x4x128x128, .f32⟩
  | 57 => ⟨S16x4x128x128, .f32⟩
  | 58 => ⟨S16x4x128x128, .f32⟩
  | 59 => ⟨S16x4x128x128, .bf16⟩
  | 60 => ⟨S1024x512, .f32⟩
  | 61 => ⟨S4x256x512, .f32⟩
  | 62 => ⟨S1024x512, .f32⟩
  | 63 => ⟨S1x4x4x128x128, .f32⟩
  | 64 => ⟨S1x4x4x128x128, .f32⟩
  | 65 => ⟨S2x4x4x128x128, .f32⟩
  | 66 => ⟨S2x4x4x128x128, .f32⟩
  | _ => ⟨S4x256x1536, .f32⟩

abbrev hbmTy (i : Nat) : BufTy := match i / 128 with
  | 0 => hbmTy0_0 i
  | 1 => hbmTy0_1 i
  | _ => ⟨S4x256x1536, .f32⟩

abbrev bufTy : (tb : Table) → Fin (tcTables nBuf tb) → BufTy
  | .hbm, ⟨i, _⟩ => hbmTy i
  | _, _ => ⟨S4x256x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_call1_call0_cst : Ref sig .tc := ⟨.hbm, 73, rfl⟩
abbrev main_call1_call0_v0 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_call5_call0_cst : Ref sig .tc := ⟨.hbm, 130, rfl⟩
abbrev main_call5_call0_v0 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_11 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩

abbrev nD : Nat := 1
abbrev τ : Topo := Topo.v7x

variable {F : FTy → Type} [FloatOps F]
-- ==== Kernel4.lean ====
abbrev S4x256x1536 : Shape := ⟨3, ![4, 256, 1536]⟩
abbrev S2x2x512 : Shape := ⟨3, ![2, 2, 512]⟩
abbrev S4x4x128x128 : Shape := ⟨4, ![4, 4, 128, 128]⟩
abbrev S_ : Shape := ⟨0, ![]⟩
abbrev S2x512 : Shape := ⟨2, ![2, 512]⟩
abbrev S1x2x512 : Shape := ⟨3, ![1, 2, 512]⟩
abbrev S4x256x512 : Shape := ⟨3, ![4, 256, 512]⟩
abbrev S1x512 : Shape := ⟨2, ![1, 512]⟩
abbrev S512 : Shape := ⟨1, ![512]⟩
abbrev S4x64x512 : Shape := ⟨3, ![4, 64, 512]⟩
abbrev S1x1x512 : Shape := ⟨3, ![1, 1, 512]⟩
abbrev S4x64x4x128 : Shape := ⟨4, ![4, 64, 4, 128]⟩
abbrev S4x1x4x128 : Shape := ⟨4, ![4, 1, 4, 128]⟩
abbrev S4x4x128 : Shape := ⟨3, ![4, 4, 128]⟩
abbrev S4x4x128x1 : Shape := ⟨4, ![4, 4, 128, 1]⟩
abbrev S4x1x4x128x128 : Shape := ⟨5, ![4, 1, 4, 128, 128]⟩
abbrev S4x4x4x128x128 : Shape := ⟨5, ![4, 4, 4, 128, 128]⟩
abbrev S4x256x4x128 : Shape := ⟨4, ![4, 256, 4, 128]⟩
abbrev S1x4x4x128x128 : Shape := ⟨5, ![1, 4, 4, 128, 128]⟩
abbrev S2x4x4x128x128 : Shape := ⟨5, ![2, 4, 4, 128, 128]⟩
abbrev S1024x1536 : Shape := ⟨2, ![1024, 1536]⟩
abbrev S4x512 : Shape := ⟨2, ![4, 512]⟩
abbrev S16x4x128x128 : Shape := ⟨4, ![16, 4, 128, 128]⟩
abbrev S1024x512 : Shape := ⟨2, ![1024, 512]⟩
abbrev S1024x1024 : Shape := ⟨2, ![1024, 1024]⟩
abbrev S256x512 : Shape := ⟨2, ![256, 512]⟩
abbrev S2x1x4x128x128 : Shape := ⟨5, ![2, 1, 4, 128, 128]⟩
abbrev S256x1024 : Shape := ⟨2, ![256, 1024]⟩
abbrev S2x4x128x128 : Shape := ⟨4, ![2, 4, 128, 128]⟩
abbrev S256x256 : Shape := ⟨2, ![256, 256]⟩
abbrev S64x512 : Shape := ⟨2, ![64, 512]⟩
abbrev S1x1x128x128 : Shape := ⟨4, ![1, 1, 128, 128]⟩
abbrev S128x128 : Shape := ⟨2, ![128, 128]⟩
abbrev S64x128 : Shape := ⟨2, ![64, 128]⟩
abbrev S128 : Shape := ⟨1, ![128]⟩
abbrev S1x128 : Shape := ⟨2, ![1, 128]⟩

abbrev nBuf : Space → Nat
  | .hbm => 397
  | .vmem => 27
  | .smem => 0
  | _ => 0

abbrev hbmTy0_0 (i : Nat) : BufTy := match i % 128 with
  | 0 => ⟨S4x256x1536, .f32⟩
  | 1 => ⟨S2x2x512, .f32⟩
  | 2 => ⟨S4x4x128x128, .f32⟩
  | 3 => ⟨S4x4x128x128, .f32⟩
  | 4 => ⟨S_, .f32⟩
  | 5 => ⟨S2x512, .f32⟩
  | 6 => ⟨S_, .f32⟩
  | 7 => ⟨S2x512, .f32⟩
  | 8 => ⟨S2x512, .f32⟩
  | 9 => ⟨S1x2x512, .f32⟩
  | 10 => ⟨S2x2x512, .f32⟩
  | 11 => ⟨S2x2x512, .f32⟩
  | 12 => ⟨S2x2x512, .f32⟩
  | 13 => ⟨S_, .f32⟩
  | 14 => ⟨S2x512, .f32⟩
  | 15 => ⟨S1x2x512, .f32⟩
  | 16 => ⟨S2x2x512, .f32⟩
  | 17 => ⟨S2x2x512, .f32⟩
  | 18 => ⟨S_, .f32⟩
  | 19 => ⟨S_, .f32⟩
  | 20 => ⟨S2x2x512, .f32⟩
  | 21 => ⟨S1x2x512, .f32⟩
  | 22 => ⟨S2x512, .f32⟩
  | 23 => ⟨S4x256x512, .f32⟩
  | 24 => ⟨S4x256x512, .f32⟩
  | 25 => ⟨S4x256x512, .f32⟩
  | 26 => ⟨S1x512, .f32⟩
  | 27 => ⟨S512, .f32⟩
  | 28 => ⟨S_, .f32⟩
  | 29 => ⟨S4x4x128x128, .f32⟩
  | 30 => ⟨S4x64x512, .f32⟩
  | 31 => ⟨S_, .f32⟩
  | 32 => ⟨S512, .f32⟩
  | 33 => ⟨S512, .f32⟩
  | 34 => ⟨S4x64x512, .f32⟩
  | 35 => ⟨S4x64x512, .f32⟩
  | 36 => ⟨S_, .f32⟩
  | 37 => ⟨S4x64x512, .f32⟩
  | 38 => ⟨S4x64x512, .f32⟩
  | 39 => ⟨S_, .f32⟩
  | 40 => ⟨S4x64x512, .f32⟩
  | 41 => ⟨S4x64x512, .f32⟩
  | 42 => ⟨S1x1x512, .f32⟩
  | 43 => ⟨S4x64x512, .f32⟩
  | 44 => ⟨S4x64x512, .f32⟩
  | 45 => ⟨S1x1x512, .f32⟩
  | 46 => ⟨S4x64x512, .f32⟩
  | 47 => ⟨S4x64x512, .f32⟩
  | 48 => ⟨S4x64x512, .f32⟩
  | 49 => ⟨S_, .f32⟩
  | 50 => ⟨S4x64x512, .f32⟩
  | 51 => ⟨S4x64x512, .f32⟩
  | 52 => ⟨S4x64x4x128, .f32⟩
  | 53 => ⟨S4x64x4x128, .f32⟩
  | 54 => ⟨S4x64x512, .f32⟩
  | 55 => ⟨S4x64x4x128, .f32⟩
  | 56 => ⟨S_, .f32⟩
  | 57 => ⟨S_, .f32⟩
  | 58 => ⟨S4x64x4x128, .f32⟩
  | 59 => ⟨S4x1x4x128, .f32⟩
  | 60 => ⟨S4x4x128, .f32⟩
  | 61 => ⟨S4x4x128, .f32⟩
  | 62 => ⟨S4x4x128x1, .f32⟩
  | 63 => ⟨S4x4x128x128, .f32⟩
  | 64 => ⟨S4x4x128x128, .f32⟩
  | 65 => ⟨S4x64x4x128, .f32⟩
  | 66 => ⟨S4x64x4x128, .f32⟩
  | 67 => ⟨S4x64x4x128, .f32⟩
  | 68 => ⟨S4x64x4x128, .f32⟩
  | 69 => ⟨S4x4x128x128, .f32⟩
  | 70 => ⟨S4x4x128x128, .f32⟩
  | 71 => ⟨S4x64x512, .f32⟩
  | 72 => ⟨S_, .f32⟩
  | 73 => ⟨S512, .f32⟩
  | 74 => ⟨S512, .f32⟩
  | 75 => ⟨S4x64x512, .f32⟩
  | 76 => ⟨S4x64x512, .f32⟩
  | 77 => ⟨S_, .f32⟩
  | 78 => ⟨S4x64x512, .f32⟩
  | 79 => ⟨S4x64x512, .f32⟩
  | 80 => ⟨S_, .f32⟩
  | 81 => ⟨S4x64x512, .f32⟩
  | 82 => ⟨S4x64x512, .f32⟩
  | 83 => ⟨S1x1x512, .f32⟩
  | 84 => ⟨S4x64x512, .f32⟩
  | 85 => ⟨S4x64x512, .f32⟩
  | 86 => ⟨S1x1x512, .f32⟩
  | 87 => ⟨S4x64x512, .f32⟩
  | 88 => ⟨S4x64x512, .f32⟩
  | 89 => ⟨S4x64x512, .f32⟩
  | 90 => ⟨S_, .f32⟩
  | 91 => ⟨S4x64x512, .f32⟩
  | 92 => ⟨S4x64x512, .f32⟩
  | 93 => ⟨S4x64x4x128, .f32⟩
  | 94 => ⟨S4x64x4x128, .f32⟩
  | 95 => ⟨S4x64x512, .f32⟩
  | 96 => ⟨S4x64x4x128, .f32⟩
  | 97 => ⟨S_, .f32⟩
  | 98 => ⟨S_, .f32⟩
  | 99 => ⟨S4x64x4x128, .f32⟩
  | 100 => ⟨S4x1x4x128, .f32⟩
  | 101 => ⟨S4x4x128, .f32⟩
  | 102 => ⟨S4x4x128, .f32⟩
  | 103 => ⟨S4x4x128x1, .f32⟩
  | 104 => ⟨S4x4x128x128, .f32⟩
  | 105 => ⟨S4x4x128x128, .f32⟩
  | 106 => ⟨S4x64x4x128, .f32⟩
  | 107 => ⟨S4x64x4x128, .f32⟩
  | 108 => ⟨S4x64x4x128, .f32⟩
  | 109 => ⟨S4x64x4x128, .f32⟩
  | 110 => ⟨S4x4x128x128, .f32⟩
  | 111 => ⟨S4x4x128x128, .f32⟩
  | 112 => ⟨S4x64x512, .f32⟩
  | 113 => ⟨S_, .f32⟩
  | 114 => ⟨S512, .f32⟩
  | 115 => ⟨S512, .f32⟩
  | 116 => ⟨S4x64x512, .f32⟩
  | 117 => ⟨S4x64x512, .f32⟩
  | 118 => ⟨S_, .f32⟩
  | 119 => ⟨S4x64x512, .f32⟩
  | 120 => ⟨S4x64x512, .f32⟩
  | 121 => ⟨S_, .f32⟩
  | 122 => ⟨S4x64x512, .f32⟩
  | 123 => ⟨S4x64x512, .f32⟩
  | 124 => ⟨S1x1x512, .f32⟩
  | 125 => ⟨S4x64x512, .f32⟩
  | 126 => ⟨S4x64x512, .f32⟩
  | 127 => ⟨S1x1x512, .f32⟩
  | _ => ⟨S4x256x1536, .f32⟩

abbrev hbmTy0_1 (i : Nat) : BufTy := match i % 128 with
  | 0 => ⟨S4x64x512, .f32⟩
  | 1 => ⟨S4x64x512, .f32⟩
  | 2 => ⟨S4x64x512, .f32⟩
  | 3 => ⟨S_, .f32⟩
  | 4 => ⟨S4x64x512, .f32⟩
  | 5 => ⟨S4x64x512, .f32⟩
  | 6 => ⟨S4x64x4x128, .f32⟩
  | 7 => ⟨S4x64x4x128, .f32⟩
  | 8 => ⟨S4x64x512, .f32⟩
  | 9 => ⟨S4x64x4x128, .f32⟩
  | 10 => ⟨S_, .f32⟩
  | 11 => ⟨S_, .f32⟩
  | 12 => ⟨S4x64x4x128, .f32⟩
  | 13 => ⟨S4x1x4x128, .f32⟩
  | 14 => ⟨S4x4x128, .f32⟩
  | 15 => ⟨S4x4x128, .f32⟩
  | 16 => ⟨S4x4x128x1, .f32⟩
  | 17 => ⟨S4x4x128x128, .f32⟩
  | 18 => ⟨S4x4x128x128, .f32⟩
  | 19 => ⟨S4x64x4x128, .f32⟩
  | 20 => ⟨S4x64x4x128, .f32⟩
  | 21 => ⟨S4x64x4x128, .f32⟩
  | 22 => ⟨S4x64x4x128, .f32⟩
  | 23 => ⟨S4x4x128x128, .f32⟩
  | 24 => ⟨S4x4x128x128, .f32⟩
  | 25 => ⟨S4x64x512, .f32⟩
  | 26 => ⟨S_, .f32⟩
  | 27 => ⟨S512, .f32⟩
  | 28 => ⟨S512, .f32⟩
  | 29 => ⟨S4x64x512, .f32⟩
  | 30 => ⟨S4x64x512, .f32⟩
  | 31 => ⟨S_, .f32⟩
  | 32 => ⟨S4x64x512, .f32⟩
  | 33 => ⟨S4x64x512, .f32⟩
  | 34 => ⟨S_, .f32⟩
  | 35 => ⟨S4x64x512, .f32⟩
  | 36 => ⟨S4x64x512, .f32⟩
  | 37 => ⟨S1x1x512, .f32⟩
  | 38 => ⟨S4x64x512, .f32⟩
  | 39 => ⟨S4x64x512, .f32⟩
  | 40 => ⟨S1x1x512, .f32⟩
  | 41 => ⟨S4x64x512, .f32⟩
  | 42 => ⟨S4x64x512, .f32⟩
  | 43 => ⟨S4x64x512, .f32⟩
  | 44 => ⟨S_, .f32⟩
  | 45 => ⟨S4x64x512, .f32⟩
  | 46 => ⟨S4x64x512, .f32⟩
  | 47 => ⟨S4x64x4x128, .f32⟩
  | 48 => ⟨S4x64x4x128, .f32⟩
  | 49 => ⟨S4x64x512, .f32⟩
  | 50 => ⟨S4x64x4x128, .f32⟩
  | 51 => ⟨S_, .f32⟩
  | 52 => ⟨S_, .f32⟩
  | 53 => ⟨S4x64x4x128, .f32⟩
  | 54 => ⟨S4x1x4x128, .f32⟩
  | 55 => ⟨S4x4x128, .f32⟩
  | 56 => ⟨S4x4x128, .f32⟩
  | 57 => ⟨S4x4x128x1, .f32⟩
  | 58 => ⟨S4x4x128x128, .f32⟩
  | 59 => ⟨S4x4x128x128, .f32⟩
  | 60 => ⟨S4x64x4x128, .f32⟩
  | 61 => ⟨S4x64x4x128, .f32⟩
  | 62 => ⟨S4x64x4x128, .f32⟩
  | 63 => ⟨S4x64x4x128, .f32⟩
  | 64 => ⟨S4x4x128x128, .f32⟩
  | 65 => ⟨S4x4x128x128, .f32⟩
  | 66 => ⟨S4x1x4x128x128, .f32⟩
  | 67 => ⟨S4x1x4x128x128, .f32⟩
  | 68 => ⟨S4x1x4x128x128, .f32⟩
  | 69 => ⟨S4x1x4x128x128, .f32⟩
  | 70 => ⟨S4x4x4x128x128, .f32⟩
  | 71 => ⟨S4x256x4x128, .f32⟩
  | 72 => ⟨S4x256x512, .f32⟩
  | 73 => ⟨S4x256x512, .f32⟩
  | 74 => ⟨S1x512, .f32⟩
  | 75 => ⟨S512, .f32⟩
  | 76 => ⟨S_, .f32⟩
  | 77 => ⟨S4x4x128x128, .f32⟩
  | 78 => ⟨S4x64x512, .f32⟩
  | 79 => ⟨S_, .f32⟩
  | 80 => ⟨S512, .f32⟩
  | 81 => ⟨S512, .f32⟩
  | 82 => ⟨S4x64x512, .f32⟩
  | 83 => ⟨S4x64x512, .f32⟩
  | 84 => ⟨S_, .f32⟩
  | 85 => ⟨S4x64x512, .f32⟩
  | 86 => ⟨S4x64x512, .f32⟩
  | 87 => ⟨S_, .f32⟩
  | 88 => ⟨S4x64x512, .f32⟩
  | 89 => ⟨S4x64x512, .f32⟩
  | 90 => ⟨S1x1x512, .f32⟩
  | 91 => ⟨S4x64x512, .f32⟩
  | 92 => ⟨S4x64x512, .f32⟩
  | 93 => ⟨S1x1x512, .f32⟩
  | 94 => ⟨S4x64x512, .f32⟩
  | 95 => ⟨S4x64x512, .f32⟩
  | 96 => ⟨S4x64x512, .f32⟩
  | 97 => ⟨S_, .f32⟩
  | 98 => ⟨S4x64x512, .f32⟩
  | 99 => ⟨S4x64x512, .f32⟩
  | 100 => ⟨S4x64x4x128, .f32⟩
  | 101 => ⟨S4x64x4x128, .f32⟩
  | 102 => ⟨S4x64x512, .f32⟩
  | 103 => ⟨S4x64x4x128, .f32⟩
  | 104 => ⟨S_, .f32⟩
  | 105 => ⟨S_, .f32⟩
  | 106 => ⟨S4x64x4x128, .f32⟩
  | 107 => ⟨S4x1x4x128, .f32⟩
  | 108 => ⟨S4x4x128, .f32⟩
  | 109 => ⟨S4x4x128, .f32⟩
  | 110 => ⟨S4x4x128x1, .f32⟩
  | 111 => ⟨S4x4x128x128, .f32⟩
  | 112 => ⟨S4x4x128x128, .f32⟩
  | 113 => ⟨S4x64x4x128, .f32⟩
  | 114 => ⟨S4x64x4x128, .f32⟩
  | 115 => ⟨S4x64x4x128, .f32⟩
  | 116 => ⟨S4x64x4x128, .f32⟩
  | 117 => ⟨S4x4x128x128, .f32⟩
  | 118 => ⟨S4x4x128x128, .f32⟩
  | 119 => ⟨S4x64x512, .f32⟩
  | 120 => ⟨S_, .f32⟩
  | 121 => ⟨S512, .f32⟩
  | 122 => ⟨S512, .f32⟩
  | 123 => ⟨S4x64x512, .f32⟩
  | 124 => ⟨S4x64x512, .f32⟩
  | 125 => ⟨S_, .f32⟩
  | 126 => ⟨S4x64x512, .f32⟩
  | 127 => ⟨S4x64x512, .f32⟩
  | _ => ⟨S4x256x1536, .f32⟩

abbrev hbmTy0_2 (i : Nat) : BufTy := match i % 128 with
  | 0 => ⟨S_, .f32⟩
  | 1 => ⟨S4x64x512, .f32⟩
  | 2 => ⟨S4x64x512, .f32⟩
  | 3 => ⟨S1x1x512, .f32⟩
  | 4 => ⟨S4x64x512, .f32⟩
  | 5 => ⟨S4x64x512, .f32⟩
  | 6 => ⟨S1x1x512, .f32⟩
  | 7 => ⟨S4x64x512, .f32⟩
  | 8 => ⟨S4x64x512, .f32⟩
  | 9 => ⟨S4x64x512, .f32⟩
  | 10 => ⟨S_, .f32⟩
  | 11 => ⟨S4x64x512, .f32⟩
  | 12 => ⟨S4x64x512, .f32⟩
  | 13 => ⟨S4x64x4x128, .f32⟩
  | 14 => ⟨S4x64x4x128, .f32⟩
  | 15 => ⟨S4x64x512, .f32⟩
  | 16 => ⟨S4x64x4x128, .f32⟩
  | 17 => ⟨S_, .f32⟩
  | 18 => ⟨S_, .f32⟩
  | 19 => ⟨S4x64x4x128, .f32⟩
  | 20 => ⟨S4x1x4x128, .f32⟩
  | 21 => ⟨S4x4x128, .f32⟩
  | 22 => ⟨S4x4x128, .f32⟩
  | 23 => ⟨S4x4x128x1, .f32⟩
  | 24 => ⟨S4x4x128x128, .f32⟩
  | 25 => ⟨S4x4x128x128, .f32⟩
  | 26 => ⟨S4x64x4x128, .f32⟩
  | 27 => ⟨S4x64x4x128, .f32⟩
  | 28 => ⟨S4x64x4x128, .f32⟩
  | 29 => ⟨S4x64x4x128, .f32⟩
  | 30 => ⟨S4x4x128x128, .f32⟩
  | 31 => ⟨S4x4x128x128, .f32⟩
  | 32 => ⟨S4x64x512, .f32⟩
  | 33 => ⟨S_, .f32⟩
  | 34 => ⟨S512, .f32⟩
  | 35 => ⟨S512, .f32⟩
  | 36 => ⟨S4x64x512, .f32⟩
  | 37 => ⟨S4x64x512, .f32⟩
  | 38 => ⟨S_, .f32⟩
  | 39 => ⟨S4x64x512, .f32⟩
  | 40 => ⟨S4x64x512, .f32⟩
  | 41 => ⟨S_, .f32⟩
  | 42 => ⟨S4x64x512, .f32⟩
  | 43 => ⟨S4x64x512, .f32⟩
  | 44 => ⟨S1x1x512, .f32⟩
  | 45 => ⟨S4x64x512, .f32⟩
  | 46 => ⟨S4x64x512, .f32⟩
  | 47 => ⟨S1x1x512, .f32⟩
  | 48 => ⟨S4x64x512, .f32⟩
  | 49 => ⟨S4x64x512, .f32⟩
  | 50 => ⟨S4x64x512, .f32⟩
  | 51 => ⟨S_, .f32⟩
  | 52 => ⟨S4x64x512, .f32⟩
  | 53 => ⟨S4x64x512, .f32⟩
  | 54 => ⟨S4x64x4x128, .f32⟩
  | 55 => ⟨S4x64x4x128, .f32⟩
  | 56 => ⟨S4x64x512, .f32⟩
  | 57 => ⟨S4x64x4x128, .f32⟩
  | 58 => ⟨S_, .f32⟩
  | 59 => ⟨S_, .f32⟩
  | 60 => ⟨S4x64x4x128, .f32⟩
  | 61 => ⟨S4x1x4x128, .f32⟩
  | 62 => ⟨S4x4x128, .f32⟩
  | 63 => ⟨S4x4x128, .f32⟩
  | 64 => ⟨S4x4x128x1, .f32⟩
  | 65 => ⟨S4x4x128x128, .f32⟩
  | 66 => ⟨S4x4x128x128, .f32⟩
  | 67 => ⟨S4x64x4x128, .f32⟩
  | 68 => ⟨S4x64x4x128, .f32⟩
  | 69 => ⟨S4x64x4x128, .f32⟩
  | 70 => ⟨S4x64x4x128, .f32⟩
  | 71 => ⟨S4x4x128x128, .f32⟩
  | 72 => ⟨S4x4x128x128, .f32⟩
  | 73 => ⟨S4x64x512, .f32⟩
  | 74 => ⟨S_, .f32⟩
  | 75 => ⟨S512, .f32⟩
  | 76 => ⟨S512, .f32⟩
  | 77 => ⟨S4x64x512, .f32⟩
  | 78 => ⟨S4x64x512, .f32⟩
  | 79 => ⟨S_, .f32⟩
  | 80 => ⟨S4x64x512, .f32⟩
  | 81 => ⟨S4x64x512, .f32⟩
  | 82 => ⟨S_, .f32⟩
  | 83 => ⟨S4x64x512, .f32⟩
  | 84 => ⟨S4x64x512, .f32⟩
  | 85 => ⟨S1x1x512, .f32⟩
  | 86 => ⟨S4x64x512, .f32⟩
  | 87 => ⟨S4x64x512, .f32⟩
  | 88 => ⟨S1x1x512, .f32⟩
  | 89 => ⟨S4x64x512, .f32⟩
  | 90 => ⟨S4x64x512, .f32⟩
  | 91 => ⟨S4x64x512, .f32⟩
  | 92 => ⟨S_, .f32⟩
  | 93 => ⟨S4x64x512, .f32⟩
  | 94 => ⟨S4x64x512, .f32⟩
  | 95 => ⟨S4x64x4x128, .f32⟩
  | 96 => ⟨S4x64x4x128, .f32⟩
  | 97 => ⟨S4x64x512, .f32⟩
  | 98 => ⟨S4x64x4x128, .f32⟩
  | 99 => ⟨S_, .f32⟩
  | 100 => ⟨S_, .f32⟩
  | 101 => ⟨S4x64x4x128, .f32⟩
  | 102 => ⟨S4x1x4x128, .f32⟩
  | 103 => ⟨S4x4x128, .f32⟩
  | 104 => ⟨S4x4x128, .f32⟩
  | 105 => ⟨S4x4x128x1, .f32⟩
  | 106 => ⟨S4x4x128x128, .f32⟩
  | 107 => ⟨S4x4x128x128, .f32⟩
  | 108 => ⟨S4x64x4x128, .f32⟩
  | 109 => ⟨S4x64x4x128, .f32⟩
  | 110 => ⟨S4x64x4x128, .f32⟩
  | 111 => ⟨S4x64x4x128, .f32⟩
  | 112 => ⟨S4x4x128x128, .f32⟩
  | 113 => ⟨S4x4x128x128, .f32⟩
  | 114 => ⟨S4x1x4x128x128, .f32⟩
  | 115 => ⟨S4x1x4x128x128, .f32⟩
  | 116 => ⟨S4x1x4x128x128, .f32⟩
  | 117 => ⟨S4x1x4x128x128, .f32⟩
  | 118 => ⟨S4x4x4x128x128, .f32⟩
  | 119 => ⟨S4x256x4x128, .f32⟩
  | 120 => ⟨S4x4x4x128x128, .f32⟩
  | 121 => ⟨S4x256x4x128, .f32⟩
  | 122 => ⟨S1x4x4x128x128, .f32⟩
  | 123 => ⟨S1x4x4x128x128, .f32⟩
  | 124 => ⟨S2x4x4x128x128, .f32⟩
  | 125 => ⟨S2x4x4x128x128, .f32⟩
  | 126 => ⟨S1024x1536, .f32⟩
  | 127 => ⟨S1024x1536, .bf16⟩
  | _ => ⟨S4x256x1536, .f32⟩

abbrev hbmTy0_3 (i : Nat) : BufTy := match i % 128 with
  | 0 => ⟨S4x512, .f32⟩
  | 1 => ⟨S16x4x128x128, .f32⟩
  | 2 => ⟨S16x4x128x128, .f32⟩
  | 3 => ⟨S16x4x128x128, .bf16⟩
  | 4 => ⟨S16x4x128x128, .f32⟩
  | 5 => ⟨S16x4x128x128, .f32⟩
  | 6 => ⟨S16x4x128x128, .bf16⟩
  | 7 => ⟨S1024x512, .f32⟩
  | 8 => ⟨S1024x512, .f32⟩
  | 9 => ⟨S1024x1024, .bf16⟩
  | 10 => ⟨S1024x1024, .bf16⟩
  | 11 => ⟨S2x512, .f32⟩
  | 12 => ⟨S2x4x4x128x128, .f32⟩
  | _ => ⟨S4x256x1536, .f32⟩

abbrev hbmTy (i : Nat) : BufTy := match i / 128 with
  | 0 => hbmTy0_0 i
  | 1 => hbmTy0_1 i
  | 2 => hbmTy0_2 i
  | 3 => hbmTy0_3 i
  | _ => ⟨S4x256x1536, .f32⟩

abbrev bufTy : (tb : Table) → Fin (tcTables nBuf tb) → BufTy
  | .hbm, ⟨i, _⟩ => hbmTy i
  | .local _ .vmem, ⟨0, _⟩ => ⟨S4x512, .f32⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S4x4x128x128, .bf16⟩
  | .local _ .vmem, ⟨6, _⟩ => ⟨S4x4x128x128, .bf16⟩
  | .local _ .vmem, ⟨7, _⟩ => ⟨S256x512, .f32⟩
  | .local _ .vmem, ⟨8, _⟩ => ⟨S256x512, .f32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S4x4x128x128, .bf16⟩
  | .local _ .vmem, ⟨14, _⟩ => ⟨S4x4x128x128, .bf16⟩
  | .local _ .vmem, ⟨15, _⟩ => ⟨S256x512, .f32⟩
  | .local _ .vmem, ⟨16, _⟩ => ⟨S256x512, .f32⟩
  | .local _ .vmem, ⟨17, _⟩ => ⟨S2x1x4x128x128, .f32⟩
  | .local _ .vmem, ⟨18, _⟩ => ⟨S2x1x4x128x128, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S2x512, .f32⟩
  | .local _ .vmem, ⟨24, _⟩ => ⟨S2x1x4x128x128, .f32⟩
  | .local _ .vmem, ⟨25, _⟩ => ⟨S2x1x4x128x128, .f32⟩
  | .local _ .vmem, ⟨26, _⟩ => ⟨S2x4x128x128, .f32⟩
  | _, _ => ⟨S4x256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call1_call0_cst : Ref sig .tc := ⟨.hbm, 56, rfl⟩
abbrev main_call1_call0_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_call2_call0_cst : Ref sig .tc := ⟨.hbm, 97, rfl⟩
abbrev main_call2_call0_v0 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_11 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_12 : Ref sig .tc := ⟨.hbm, 118, rfl⟩
abbrev main_v95 : Ref sig .tc := ⟨.hbm, 119, rfl⟩
abbrev main_v96 : Ref sig .tc := ⟨.hbm, 120, rfl⟩
abbrev main_cst_13 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_14 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_call3_call0_cst : Ref sig .tc := ⟨.hbm, 138, rfl⟩
abbrev main_call3_call0_v0 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_15 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_cst_16 : Ref sig .tc := ⟨.hbm, 159, rfl⟩
abbrev main_v130 : Ref sig .tc := ⟨.hbm, 160, rfl⟩
abbrev main_v131 : Ref sig .tc := ⟨.hbm, 161, rfl⟩
abbrev main_cst_17 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_18 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_call4_call0_cst : Ref sig .tc := ⟨.hbm, 179, rfl⟩
abbrev main_call4_call0_v0 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_cst_19 : Ref sig .tc := ⟨.hbm, 204, rfl⟩
abbrev main_v170 : Ref sig .tc := ⟨.hbm, 205, rfl⟩
abbrev main_v171 : Ref sig .tc := ⟨.hbm, 206, rfl⟩
abbrev main_cst_20 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_cst_21 : Ref sig .tc := ⟨.hbm, 212, rfl⟩
abbrev main_v176 : Ref sig .tc := ⟨.hbm, 213, rfl⟩
abbrev main_v177 : Ref sig .tc := ⟨.hbm, 214, rfl⟩
abbrev main_cst_22 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_cst_23 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_call7_call0_cst : Ref sig .tc := ⟨.hbm, 232, rfl⟩
abbrev main_call7_call0_v0 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_cst_24 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_cst_25 : Ref sig .tc := ⟨.hbm, 253, rfl⟩
abbrev main_v211 : Ref sig .tc := ⟨.hbm, 254, rfl⟩
abbrev main_v212 : Ref sig .tc := ⟨.hbm, 255, rfl⟩
abbrev main_cst_26 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_cst_27 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_call8_call0_cst : Ref sig .tc := ⟨.hbm, 273, rfl⟩
abbrev main_call8_call0_v0 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_cst_28 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_cst_29 : Ref sig .tc := ⟨.hbm, 294, rfl⟩
abbrev main_v246 : Ref sig .tc := ⟨.hbm, 295, rfl⟩
abbrev main_v247 : Ref sig .tc := ⟨.hbm, 296, rfl⟩
abbrev main_cst_30 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_cst_31 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_call9_call0_cst : Ref sig .tc := ⟨.hbm, 314, rfl⟩
abbrev main_call9_call0_v0 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_cst_32 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_cst_33 : Ref sig .tc := ⟨.hbm, 335, rfl⟩
abbrev main_v281 : Ref sig .tc := ⟨.hbm, 336, rfl⟩
abbrev main_v282 : Ref sig .tc := ⟨.hbm, 337, rfl⟩
abbrev main_cst_34 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_cst_35 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_v297 : Ref sig .tc := ⟨.hbm, 354, rfl⟩
abbrev main_call10_call0_cst : Ref sig .tc := ⟨.hbm, 355, rfl⟩
abbrev main_call10_call0_v0 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_v324 : Ref sig .tc := ⟨.hbm, 383, rfl⟩
abbrev main_v325 : Ref sig .tc := ⟨.hbm, 384, rfl⟩
abbrev main_v326 : Ref sig .tc := ⟨.hbm, 385, rfl⟩
abbrev main_v327 : Ref sig .tc := ⟨.hbm, 386, rfl⟩
abbrev main_v328 : Ref sig .tc := ⟨.hbm, 387, rfl⟩
abbrev main_v329 : Ref sig .tc := ⟨.hbm, 388, rfl⟩
abbrev main_v330 : Ref sig .tc := ⟨.hbm, 389, rfl⟩
abbrev main_v331 : Ref sig .tc := ⟨.hbm, 390, rfl⟩
abbrev main_v332 : Ref sig .tc := ⟨.hbm, 391, rfl⟩
abbrev main_v333 : Ref sig .tc := ⟨.hbm, 392, rfl⟩
abbrev main_v334_0 : Ref sig .tc := ⟨.hbm, 393, rfl⟩
abbrev main_v334_1 : Ref sig .tc := ⟨.hbm, 394, rfl⟩
abbrev main_v334_2 : Ref sig .tc := ⟨.hbm, 395, rfl⟩
abbrev main_v334_3 : Ref sig .tc := ⟨.hbm, 396, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_588 : BitVec 32 := 0#32
  let v1126 : BitVec 1 := Scalar.cmpi .eq arg1 c0_i32_588
  let v1127 : BitVec 32 := Scalar.extui v1126
  let c0_i32_589 : BitVec 32 := 0#32
  let v1128 : BitVec 1 := Scalar.cmpi .ne v1127 c0_i32_589
  v1128

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let c0_i32_2 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c2_i32 : BitVec 32 := 2#32
  let c0_i32 : BitVec 32 := 0#32
  ![v3.toNat, c2_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let c0_i32_2 : BitVec 32 := 0#32
  let c0_i32_3 : BitVec 32 := 0#32
  let c0_i32_4 : BitVec 32 := 0#32
  ![v3.toNat, c0_i32.toNat, c0_i32_2.toNat, c0_i32_3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let c0_i32_2 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.addi v0 c1_i32_0
  let c1_i32_1 : BitVec 32 := 1#32
  let v2 : BitVec 32 := Scalar.subi v1 c1_i32_1
  let v3 : BitVec 32 := Scalar.subi v2 arg1
  let c0_i32 : BitVec 32 := 0#32
  let c0_i32_2 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x4x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S2x1x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference4Ideal.lean ====
abbrev S4x256x1536 : Shape := ⟨3, ![4, 256, 1536]⟩
abbrev S2x2x512 : Shape := ⟨3, ![2, 2, 512]⟩
abbrev S4x4x128x128 : Shape := ⟨4, ![4, 4, 128, 128]⟩
abbrev S_ : Shape := ⟨0, ![]⟩
abbrev S2x512 : Shape := ⟨2, ![2, 512]⟩
abbrev S1x2x512 : Shape := ⟨3, ![1, 2, 512]⟩
abbrev S4x256x512 : Shape := ⟨3, ![4, 256, 512]⟩
abbrev S1x512 : Shape := ⟨2, ![1, 512]⟩
abbrev S512 : Shape := ⟨1, ![512]⟩
abbrev S1x1x512 : Shape := ⟨3, ![1, 1, 512]⟩
abbrev S4x256x4x128 : Shape := ⟨4, ![4, 256, 4, 128]⟩
abbrev S4x1x4x128 : Shape := ⟨4, ![4, 1, 4, 128]⟩
abbrev S4x4x128x256 : Shape := ⟨4, ![4, 4, 128, 256]⟩
abbrev S4x4x128 : Shape := ⟨3, ![4, 4, 128]⟩
abbrev S4x256x1024 : Shape := ⟨3, ![4, 256, 1024]⟩
abbrev S1024x1024 : Shape := ⟨2, ![1024, 1024]⟩

abbrev nBuf : Space → Nat
  | .hbm => 195
  | .vmem => 0
  | .smem => 0
  | _ => 0

abbrev hbmTy0_0 (i : Nat) : BufTy := match i % 128 with
  | 0 => ⟨S4x256x1536, .f32⟩
  | 1 => ⟨S2x2x512, .f32⟩
  | 2 => ⟨S4x4x128x128, .f32⟩
  | 3 => ⟨S4x4x128x128, .f32⟩
  | 4 => ⟨S_, .f32⟩
  | 5 => ⟨S2x512, .f32⟩
  | 6 => ⟨S_, .f32⟩
  | 7 => ⟨S2x512, .f32⟩
  | 8 => ⟨S2x512, .f32⟩
  | 9 => ⟨S1x2x512, .f32⟩
  | 10 => ⟨S2x2x512, .f32⟩
  | 11 => ⟨S2x2x512, .f32⟩
  | 12 => ⟨S2x2x512, .f32⟩
  | 13 => ⟨S_, .f32⟩
  | 14 => ⟨S2x512, .f32⟩
  | 15 => ⟨S1x2x512, .f32⟩
  | 16 => ⟨S2x2x512, .f32⟩
  | 17 => ⟨S2x2x512, .f32⟩
  | 18 => ⟨S_, .f32⟩
  | 19 => ⟨S_, .f32⟩
  | 20 => ⟨S2x2x512, .f32⟩
  | 21 => ⟨S1x2x512, .f32⟩
  | 22 => ⟨S2x512, .f32⟩
  | 23 => ⟨S4x256x512, .f32⟩
  | 24 => ⟨S4x256x512, .f32⟩
  | 25 => ⟨S4x256x512, .f32⟩
  | 26 => ⟨S1x512, .f32⟩
  | 27 => ⟨S512, .f32⟩
  | 28 => ⟨S_, .f32⟩
  | 29 => ⟨S512, .f32⟩
  | 30 => ⟨S512, .f32⟩
  | 31 => ⟨S4x256x512, .f32⟩
  | 32 => ⟨S4x256x512, .f32⟩
  | 33 => ⟨S_, .f32⟩
  | 34 => ⟨S4x256x512, .f32⟩
  | 35 => ⟨S4x256x512, .f32⟩
  | 36 => ⟨S_, .f32⟩
  | 37 => ⟨S4x256x512, .f32⟩
  | 38 => ⟨S4x256x512, .f32⟩
  | 39 => ⟨S_, .f32⟩
  | 40 => ⟨S4x256x512, .f32⟩
  | 41 => ⟨S4x256x512, .f32⟩
  | 42 => ⟨S4x256x512, .f32⟩
  | 43 => ⟨S1x1x512, .f32⟩
  | 44 => ⟨S4x256x512, .f32⟩
  | 45 => ⟨S4x256x512, .f32⟩
  | 46 => ⟨S1x1x512, .f32⟩
  | 47 => ⟨S4x256x512, .f32⟩
  | 48 => ⟨S4x256x512, .f32⟩
  | 49 => ⟨S4x256x512, .f32⟩
  | 50 => ⟨S_, .f32⟩
  | 51 => ⟨S4x256x512, .f32⟩
  | 52 => ⟨S4x256x512, .f32⟩
  | 53 => ⟨S4x256x4x128, .f32⟩
  | 54 => ⟨S4x256x4x128, .f32⟩
  | 55 => ⟨S4x256x4x128, .f32⟩
  | 56 => ⟨S_, .f32⟩
  | 57 => ⟨S_, .f32⟩
  | 58 => ⟨S4x256x4x128, .f32⟩
  | 59 => ⟨S4x1x4x128, .f32⟩
  | 60 => ⟨S4x256x4x128, .f32⟩
  | 61 => ⟨S4x256x4x128, .f32⟩
  | 62 => ⟨S4x256x4x128, .f32⟩
  | 63 => ⟨S4x256x4x128, .f32⟩
  | 64 => ⟨S4x4x128x128, .f32⟩
  | 65 => ⟨S4x4x128x256, .f32⟩
  | 66 => ⟨S4x256x4x128, .f32⟩
  | 67 => ⟨S4x4x128x256, .f32⟩
  | 68 => ⟨S4x256x4x128, .f32⟩
  | 69 => ⟨S4x256x4x128, .f32⟩
  | 70 => ⟨S4x256x4x128, .f32⟩
  | 71 => ⟨S4x256x4x128, .f32⟩
  | 72 => ⟨S_, .f32⟩
  | 73 => ⟨S4x4x128, .f32⟩
  | 74 => ⟨S4x1x4x128, .f32⟩
  | 75 => ⟨S4x256x4x128, .f32⟩
  | 76 => ⟨S_, .f32⟩
  | 77 => ⟨S4x256x4x128, .f32⟩
  | 78 => ⟨S4x256x4x128, .f32⟩
  | 79 => ⟨S_, .f32⟩
  | 80 => ⟨S_, .f32⟩
  | 81 => ⟨S4x256x4x128, .f32⟩
  | 82 => ⟨S4x256x512, .f32⟩
  | 83 => ⟨S4x256x512, .f32⟩
  | 84 => ⟨S4x256x512, .f32⟩
  | 85 => ⟨S4x256x512, .f32⟩
  | 86 => ⟨S4x256x512, .f32⟩
  | 87 => ⟨S4x256x512, .f32⟩
  | 88 => ⟨S_, .f32⟩
  | 89 => ⟨S512, .f32⟩
  | 90 => ⟨S1x1x512, .f32⟩
  | 91 => ⟨S_, .f32⟩
  | 92 => ⟨S512, .f32⟩
  | 93 => ⟨S4x256x512, .f32⟩
  | 94 => ⟨S4x256x512, .f32⟩
  | 95 => ⟨S4x256x512, .f32⟩
  | 96 => ⟨S_, .f32⟩
  | 97 => ⟨S512, .f32⟩
  | 98 => ⟨S1x1x512, .f32⟩
  | 99 => ⟨S_, .f32⟩
  | 100 => ⟨S512, .f32⟩
  | 101 => ⟨S4x256x512, .f32⟩
  | 102 => ⟨S512, .f32⟩
  | 103 => ⟨S512, .f32⟩
  | 104 => ⟨S1x512, .f32⟩
  | 105 => ⟨S512, .f32⟩
  | 106 => ⟨S4x256x512, .f32⟩
  | 107 => ⟨S4x256x512, .f32⟩
  | 108 => ⟨S_, .f32⟩
  | 109 => ⟨S512, .f32⟩
  | 110 => ⟨S512, .f32⟩
  | 111 => ⟨S4x256x512, .f32⟩
  | 112 => ⟨S4x256x512, .f32⟩
  | 113 => ⟨S_, .f32⟩
  | 114 => ⟨S4x256x512, .f32⟩
  | 115 => ⟨S4x256x512, .f32⟩
  | 116 => ⟨S_, .f32⟩
  | 117 => ⟨S4x256x512, .f32⟩
  | 118 => ⟨S4x256x512, .f32⟩
  | 119 => ⟨S_, .f32⟩
  | 120 => ⟨S4x256x512, .f32⟩
  | 121 => ⟨S4x256x512, .f32⟩
  | 122 => ⟨S4x256x512, .f32⟩
  | 123 => ⟨S1x1x512, .f32⟩
  | 124 => ⟨S4x256x512, .f32⟩
  | 125 => ⟨S4x256x512, .f32⟩
  | 126 => ⟨S1x1x512, .f32⟩
  | 127 => ⟨S4x256x512, .f32⟩
  | _ => ⟨S4x256x1536, .f32⟩

abbrev hbmTy0_1 (i : Nat) : BufTy := match i % 128 with
  | 0 => ⟨S4x256x512, .f32⟩
  | 1 => ⟨S4x256x512, .f32⟩
  | 2 => ⟨S_, .f32⟩
  | 3 => ⟨S4x256x512, .f32⟩
  | 4 => ⟨S4x256x512, .f32⟩
  | 5 => ⟨S4x256x4x128, .f32⟩
  | 6 => ⟨S4x256x4x128, .f32⟩
  | 7 => ⟨S4x256x4x128, .f32⟩
  | 8 => ⟨S_, .f32⟩
  | 9 => ⟨S_, .f32⟩
  | 10 => ⟨S4x256x4x128, .f32⟩
  | 11 => ⟨S4x1x4x128, .f32⟩
  | 12 => ⟨S4x256x4x128, .f32⟩
  | 13 => ⟨S4x256x4x128, .f32⟩
  | 14 => ⟨S4x256x4x128, .f32⟩
  | 15 => ⟨S4x256x4x128, .f32⟩
  | 16 => ⟨S4x4x128x128, .f32⟩
  | 17 => ⟨S4x4x128x256, .f32⟩
  | 18 => ⟨S4x256x4x128, .f32⟩
  | 19 => ⟨S4x4x128x256, .f32⟩
  | 20 => ⟨S4x256x4x128, .f32⟩
  | 21 => ⟨S4x256x4x128, .f32⟩
  | 22 => ⟨S4x256x4x128, .f32⟩
  | 23 => ⟨S4x256x4x128, .f32⟩
  | 24 => ⟨S_, .f32⟩
  | 25 => ⟨S4x4x128, .f32⟩
  | 26 => ⟨S4x1x4x128, .f32⟩
  | 27 => ⟨S4x256x4x128, .f32⟩
  | 28 => ⟨S_, .f32⟩
  | 29 => ⟨S4x256x4x128, .f32⟩
  | 30 => ⟨S4x256x4x128, .f32⟩
  | 31 => ⟨S_, .f32⟩
  | 32 => ⟨S_, .f32⟩
  | 33 => ⟨S4x256x4x128, .f32⟩
  | 34 => ⟨S4x256x512, .f32⟩
  | 35 => ⟨S4x256x512, .f32⟩
  | 36 => ⟨S4x256x512, .f32⟩
  | 37 => ⟨S4x256x512, .f32⟩
  | 38 => ⟨S4x256x512, .f32⟩
  | 39 => ⟨S4x256x512, .f32⟩
  | 40 => ⟨S_, .f32⟩
  | 41 => ⟨S512, .f32⟩
  | 42 => ⟨S1x1x512, .f32⟩
  | 43 => ⟨S_, .f32⟩
  | 44 => ⟨S512, .f32⟩
  | 45 => ⟨S4x256x512, .f32⟩
  | 46 => ⟨S4x256x512, .f32⟩
  | 47 => ⟨S4x256x512, .f32⟩
  | 48 => ⟨S_, .f32⟩
  | 49 => ⟨S512, .f32⟩
  | 50 => ⟨S1x1x512, .f32⟩
  | 51 => ⟨S_, .f32⟩
  | 52 => ⟨S512, .f32⟩
  | 53 => ⟨S4x256x512, .f32⟩
  | 54 => ⟨S512, .f32⟩
  | 55 => ⟨S512, .f32⟩
  | 56 => ⟨S4x256x512, .f32⟩
  | 57 => ⟨S4x256x512, .f32⟩
  | 58 => ⟨S4x256x1024, .f32⟩
  | 59 => ⟨S1024x1024, .f32⟩
  | 60 => ⟨S1024x1024, .bf16⟩
  | 61 => ⟨S4x256x1024, .f32⟩
  | 62 => ⟨S1024x1024, .f32⟩
  | 63 => ⟨S1024x1024, .bf16⟩
  | 64 => ⟨S1x512, .f32⟩
  | 65 => ⟨S1x512, .f32⟩
  | 66 => ⟨S2x512, .f32⟩
  | _ => ⟨S4x256x1536, .f32⟩

abbrev hbmTy (i : Nat) : BufTy := match i / 128 with
  | 0 => hbmTy0_0 i
  | 1 => hbmTy0_1 i
  | _ => ⟨S4x256x1536, .f32⟩

abbrev bufTy : (tb : Table) → Fin (tcTables nBuf tb) → BufTy
  | .hbm, ⟨i, _⟩ => hbmTy i
  | _, _ => ⟨S4x256x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call1_call0_cst : Ref sig .tc := ⟨.hbm, 56, rfl⟩
abbrev main_call1_call0_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_call2_call0_cst : Ref sig .tc := ⟨.hbm, 79, rfl⟩
abbrev main_call2_call0_v0 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_cst_10 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_cst_15 : Ref sig .tc := ⟨.hbm, 116, rfl⟩
abbrev main_v90 : Ref sig .tc := ⟨.hbm, 117, rfl⟩
abbrev main_v91 : Ref sig .tc := ⟨.hbm, 118, rfl⟩
abbrev main_cst_16 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_17 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_call5_call0_cst : Ref sig .tc := ⟨.hbm, 136, rfl⟩
abbrev main_call5_call0_v0 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_18 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_19 : Ref sig .tc := ⟨.hbm, 156, rfl⟩
abbrev main_v124 : Ref sig .tc := ⟨.hbm, 157, rfl⟩
abbrev main_v125 : Ref sig .tc := ⟨.hbm, 158, rfl⟩
abbrev main_call6_call0_cst : Ref sig .tc := ⟨.hbm, 159, rfl⟩
abbrev main_call6_call0_v0 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_20 : Ref sig .tc := ⟨.hbm, 168, rfl⟩
abbrev main_v133 : Ref sig .tc := ⟨.hbm, 169, rfl⟩
abbrev main_v134 : Ref sig .tc := ⟨.hbm, 170, rfl⟩
abbrev main_cst_21 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_cst_22 : Ref sig .tc := ⟨.hbm, 176, rfl⟩
abbrev main_v139 : Ref sig .tc := ⟨.hbm, 177, rfl⟩
abbrev main_v140 : Ref sig .tc := ⟨.hbm, 178, rfl⟩
abbrev main_cst_23 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩

abbrev nD : Nat := 1
abbrev τ : Topo := Topo.v7x

variable {F : FTy → Type} [FloatOps F]
-- ==== Kernel15.lean ====
abbrev S8192x5632 : Shape := ⟨2, ![8192, 5632]⟩
abbrev S8192x1024 : Shape := ⟨2, ![8192, 1024]⟩
abbrev S5632x1024 : Shape := ⟨2, ![5632, 1024]⟩
abbrev S8192x512 : Shape := ⟨2, ![8192, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x1024, .bf16⟩
  | .local _ .vmem, ⟨3, _⟩ => ⟨S512x1024, .bf16⟩
  | .local _ .vmem, ⟨4, _⟩ => ⟨S512x1024, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S40x1024 : Shape := ⟨2, ![40, 1024]⟩
abbrev S40x768 : Shape := ⟨2, ![40, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S40x1024, .f32⟩
  | .hbm, ⟨1, _⟩ => ⟨S40x768, .f32⟩
  | .hbm, ⟨2, _⟩ => ⟨S1024x768, .f32⟩
  | .local _ .vmem, ⟨0, _⟩ => ⟨S40x1024, .f32⟩
  | .local _ .vmem, ⟨1, _⟩ => ⟨S40x768, .f32⟩
  | .local _ .vmem, ⟨2, _⟩ => ⟨S1024x768, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S40x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference16Ideal.lean ====
abbrev S40x1024 : Shape := ⟨2, ![40, 1024]⟩
abbrev S40x768 : Shape := ⟨2, ![40, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S40x768, .f32⟩
  | .hbm, ⟨2, _⟩ => ⟨S_, .f32⟩
  | .hbm, ⟨3, _⟩ => ⟨S1024x768, .f32⟩
  | .hbm, ⟨4, _⟩ => ⟨S40x768, .f32⟩
  | .hbm, ⟨5, _⟩ => ⟨S768x1024, .f32⟩
  | .hbm, ⟨6, _⟩ => ⟨S1024x768, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S8x128x512 : Shape := ⟨3, ![8, 128, 512]⟩
abbrev S512x128 : Shape := ⟨2, ![512, 128]⟩
abbrev S1x128x512 : Shape := ⟨3, ![1, 128, 512]⟩
abbrev S128x512 : Shape := ⟨2, ![128, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x128x512, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x128x512, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference20Ideal.lean ====
abbrev S8x128x512 : Shape := ⟨3, ![8, 128, 512]⟩
abbrev S512x128 : Shape := ⟨2, ![512, 128]⟩
abbrev S_ : Shape := ⟨0, ![]⟩
abbrev S128x512 : Shape := ⟨2, ![128, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S512x128, .f32⟩
  | .hbm, ⟨8, _⟩ => ⟨S_, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel21.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .local _ .vmem, ⟨0, _⟩ => ⟨S8x8x1024, .f32⟩
  | .local _ .vmem, ⟨1, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference21Ideal.lean ====
abbrev S8x8x1024 : Shape := ⟨3, ![8, 8, 1024]⟩
abbrev S_ : Shape := ⟨0, ![]⟩
abbrev S8x1024 : Shape := ⟨2, ![8, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S_, .f32⟩
  | .hbm, ⟨2, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Reals.lean ====
/- The operations of a program read at finite values: each operation of real numbers, seen as extended reals, is the
   real operation. A value proof lifts its finite arguments to real arrays once (`lift_finite`), carries every value
   to the form `((r : ℝ) : EReal)` with the lemmas below, and is then a statement of real algebra. -/
module

public import Idealize.ShloMosaic.PureOps.Ideal
public import Idealize.ShloMosaic.Lib.Pointwise

@[expose] public section

noncomputable section

namespace Cert.Reals

open Idealize.ShloMosaic

/-- A real array, seen as an array of extended reals. -/
def up {ι : Type*} (f : ι → ℝ) : ι → EReal := fun i => (f i : EReal)

theorem up_apply {ι : Type*} (f : ι → ℝ) (i : ι) : up f i = (f i : EReal) := rfl

theorem add (a b : ℝ) : (a : EReal) + (b : EReal) = ((a + b : ℝ) : EReal) := (EReal.coe_add a b).symm
theorem mul (a b : ℝ) : (a : EReal) * (b : EReal) = ((a * b : ℝ) : EReal) := (EReal.coe_mul a b).symm
theorem sub (a b : ℝ) : (a : EReal) - (b : EReal) = ((a - b : ℝ) : EReal) := (EReal.coe_sub a b).symm
theorem neg (a : ℝ) : -(a : EReal) = ((-a : ℝ) : EReal) := (EReal.coe_neg a).symm
theorem one : (1 : EReal) = ((1 : ℝ) : EReal) := rfl
theorem zero : (0 : EReal) = ((0 : ℝ) : EReal) := rfl
theorem exp (a : ℝ) : Ideal.exp (a : EReal) = ((Real.exp a : ℝ) : EReal) := rfl
theorem tanh (a : ℝ) : Ideal.tanh (a : EReal) = ((Real.tanh a : ℝ) : EReal) := rfl

theorem sum {ι : Type*} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

theorem div (a b : ℝ) (hb : b ≠ 0) : Ideal.div (a : EReal) (b : EReal) = ((a / b : ℝ) : EReal) := by
  have h : ((b : ℝ) : EReal) ≠ 0 := by exact_mod_cast hb
  rw [Ideal.div, if_neg h, ← EReal.coe_inv, ← EReal.coe_mul, div_eq_mul_inv]

theorem log (a : ℝ) (ha : 0 < a) : Ideal.log (a : EReal) = ((Real.log a : ℝ) : EReal) := if_neg (not_le.2 ha)

theorem rsqrt (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.2 ha.le), if_neg ha.ne']

/-- The logistic function. -/
def sig (z : ℝ) : ℝ := 1 / (1 + Real.exp (-z))

/-- The norms’ small constant, as its float word reads. -/
def eps : ℝ := (8796093 : ℝ) * 2 ^ (-43 : ℤ)

theorem one_add_exp_ne (z : ℝ) : 1 + Real.exp (-z) ≠ 0 := (by positivity : 0 < 1 + Real.exp (-z)).ne'

/-- The quotient the host writes for the logistic function. -/
theorem logistic (z : ℝ) :
    Ideal.div 1 (1 + Ideal.exp (-(z : EReal))) = ((sig z : ℝ) : EReal) := by
  rw [neg, exp, one, add, div _ _ (one_add_exp_ne z), sig]

/-- The hyperbolic tangent at half the argument gives the logistic function. -/
theorem half_tanh (z : ℝ) : 1 / 2 * Real.tanh (1 / 2 * z) + 1 / 2 = sig z := by
  rw [sig, Real.tanh_eq_sinh_div_cosh, Real.sinh_eq, Real.cosh_eq]
  have h : Real.exp (-z) = Real.exp (-(1 / 2 * z)) * Real.exp (-(1 / 2 * z)) := by
    rw [← Real.exp_add]; congr 1; ring
  have h1 : Real.exp (1 / 2 * z) * Real.exp (-(1 / 2 * z)) = 1 := by
    rw [← Real.exp_add]; simp
  have hp := Real.exp_pos (1 / 2 * z)
  have hn := Real.exp_pos (-(1 / 2 * z))
  rw [h]
  generalize Real.exp (1 / 2 * z) = p at *
  generalize Real.exp (-(1 / 2 * z)) = n at *
  have : p = 1 / n := by field_simp; exact h1
  subst this
  field_simp
  ring

theorem ofBits_half : Ideal.ofBits .f32 0x3F000000#32 = ((1 / 2 : ℝ) : EReal) := by
  simp [Ideal.ofBits, Ideal.ieee, -EReal.coe_mul]; norm_num

/-- What the kernel writes for the logistic function. -/
theorem kernel_logistic (z : ℝ) :
    Ideal.ofBits .f32 0x3F000000#32 * Ideal.tanh (Ideal.ofBits .f32 0x3F000000#32 * (z : EReal))
      + Ideal.ofBits .f32 0x3F000000#32 = ((sig z : ℝ) : EReal) := by
  rw [ofBits_half, mul, tanh, mul, add, half_tanh]

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_eps : Ideal.ofBits .f32 0x358637BD#32 = ((eps : ℝ) : EReal) := by
  unfold eps
  simp [Ideal.ofBits, Ideal.ieee, -EReal.coe_mul]

theorem eps_pos : 0 < eps := by unfold eps; positivity

/-- The reciprocal root mean square of a row of 1024 whose squares sum to `s`. -/
theorem rms {s : ℝ} (hs : 0 ≤ s) : Ideal.rsqrt (Ideal.div (s : EReal) (Ideal.ofBits .f32 0x44800000#32)
    + Ideal.ofBits .f32 0x358637BD#32) = (((√(s / 1024 + eps))⁻¹ : ℝ) : EReal) := by
  rw [ofBits_1024, ofBits_eps, div _ _ (by norm_num), add, rsqrt]
  have := eps_pos
  positivity

theorem sum_sq_nonneg {ι : Type*} (s : Finset ι) (f : ι → ℝ) : 0 ≤ ∑ i ∈ s, f i * f i :=
  Finset.sum_nonneg fun i _ => mul_self_nonneg (f i)

theorem ofBits_inf : Ideal.ofBits .f32 0x7F800000#32 = ⊤ := by
  simp [Ideal.ofBits, Ideal.ieee]

/-- An extended real below the infinity in absolute value is a real number. -/
theorem real_of_lt {x : EReal} (h : max x (-x) < ⊤) : ((x.toReal : ℝ) : EReal) = x := by
  refine EReal.coe_toReal (fun e => ?_) (fun e => ?_) <;> subst e <;> simp at h

/-- An array all of whose entries are below the infinity in absolute value is an array of real numbers. -/
theorem lift_finite {s u : Shape} {x : FVec Ideal s .f32} {dims : Fin u.rank → Fin s.rank} {hb : u.BroadcastsInDim s dims}
    (h : cmpf .olt (Host.absf x) (broadcastInDim s dims hb (constant u .f32 0x7F800000#32)) = fun _ => 1#1) :
    ∃ a : s.Idx → ℝ, x = fun i => ((a i : ℝ) : EReal) := by
  refine ⟨fun i => (x i).toReal, funext fun i => (real_of_lt ?_).symm⟩
  have h' : BitVec.ofBool (decide (max (x i) (-(x i)) < Ideal.ofBits .f32 0x7F800000#32)) = 1#1 := congrFun h i
  rw [ofBits_inf] at h'
  by_contra hn
  rw [decide_eq_false hn] at h'
  exact absurd h' (by decide)

/-- A sum over the first two axes of three, read at a result index. -/
theorem hostSum01 {n0 n1 n2 : Nat} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ((Finset.sum_filter_eq_sum_of_fiber _ (fun k : Fin n0 × Fin n1 => ix3 k.1 k.2 j)
    (fun _ _ e => Prod.ext (congrFun e 0) (congrFun e 1)) (fun i => ⟨fun e => ⟨(i 0, i 1), ?_⟩, ?_⟩) v).trans
    (Fintype.sum_prod_type _))
  · funext a
    match a with
    | ⟨0, _⟩ => rfl
    | ⟨1, _⟩ => rfl
    | ⟨2, _⟩ => exact Fin.ext (congrArg Fin.val (congrFun e ⟨0, Nat.one_pos⟩)).symm
  · rintro ⟨k, rfl⟩
    funext b
    match b with
    | ⟨0, _⟩ => rfl

/-- A sum by blocks of equal length is the sum over all indices. -/
theorem sum_blocks {P L N : Nat} (h : P * L = N) (f : Fin N → ℝ) :
    ∑ p : Fin P, ∑ l : Fin L, f ⟨p.val * L + l.val, by
      have := p.isLt; have := l.isLt
      calc p.val * L + l.val < p.val * L + L := by omega
        _ = (p.val + 1) * L := by ring
        _ ≤ P * L := Nat.mul_le_mul_right _ (by omega)
        _ = N := h⟩ = ∑ k : Fin N, f k := by
  subst h
  rw [← Fintype.sum_prod_type' (fun (p : Fin P) (l : Fin L) => f ⟨p.val * L + l.val, _⟩)]
  refine Fintype.sum_equiv finProdFinEquiv _ _ fun x => congrArg f (Fin.ext ?_)
  show x.1.val * L + x.2.val = x.2.val + L * x.1.val
  ring

/-- The reciprocal root of a mean of squares over the mean is its cube. -/
theorem rms_div {s : ℝ} (hs : 0 ≤ s) : (√(s / 1024 + eps))⁻¹ / (s / 1024 + eps) = (√(s / 1024 + eps))⁻¹ * ((√(s / 1024 + eps))⁻¹ * (√(s / 1024 + eps))⁻¹) := by
  have h : 0 ≤ s / 1024 + eps := add_nonneg (div_nonneg hs (by norm_num)) eps_pos.le
  rw [← mul_inv, Real.mul_self_sqrt h, div_eq_mul_inv]

end Cert.Reals

end
-- ==== Proof.Mod.lean ====
module

public import proofs.«01_k».proof.Proof.Reals
public import proofs.«01_k».proof.Proof.Gen.KernelIdeal.Value
public import proofs.«01_k».proof.Proof.Gen.ReferenceIdeal.Run
public import proofs.«01_k».proof.Proof.Gen.Pre_finite_mod
public import proofs.«01_k».proof.Defs
public import Idealize.ShloMosaic.Lib.Quiescent
public import Idealize.ShloMosaic.Lib.Pipeline.ValueKit

@[expose] public section

set_option maxRecDepth 16384

noncomputable section

namespace Cert.KernelIdeal.Mod

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The gradient array: at row `i` and column `k`, `(∑ j, d i j · w k j) · (σ(c k) · (1 + c k · (1 − σ(c k))))`. -/
def G (a0 : S1024.Idx → ℝ) (a1 : S8x768.Idx → ℝ) (a2 : S1x1024x768.Idx → ℝ) : S8x1024.Idx → EReal := fun j =>
  (((∑ k : Fin 768, a1 (ix2 (j 0) k) * a2 (ix3 0 (j 1) k))
    * (Reals.sig (a0 (ix1 (j 1))) * (1 + a0 (ix1 (j 1)) * (1 - Reals.sig (a0 (ix1 (j 1)))))) : ℝ) : EReal)

theorem idx : ∀ t : Fin cfg0.N, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 :=
  (by decide +kernel : ∀ t : Fin grid0.N, _)

theorem value (c : Dev nD) (a0 : S1024.Idx → ℝ) (a1 : S8x768.Idx → ℝ) (a2 : S1x1024x768.Idx → ℝ)
    (h0 : m ((c : Thread nD τ).loc main_arg0) = fun i => ((a0 i : ℝ) : EReal))
    (h1 : m ((c : Thread nD τ).loc main_arg1) = fun i => ((a1 i : ℝ) : EReal))
    (h2 : m ((c : Thread nD τ).loc main_arg2) = fun i => ((a2 i : ℝ) : EReal)) :
    (dats m 0 c).arrAt 3 cfg0.N = G a0 a1 a2 := by
  refine (dats m 0 c).arrAt_eq_of_covers 3 _ (by decide +kernel) fun t hf y => ?_
  blk_simp
  rw [after0_3]
  frame_out
  idx_vars y
  have e0 : ∀ i, iblk m c 0 t (ix2 0 i) = ((a0 (ix1 i) : ℝ) : EReal) := fun i => by
    have : iblk m c 0 t (ix2 0 i) = m ((c : Thread nD τ).loc main_arg0) (ix1 i) := by
      blk_ext! [iblk, V, idx t]
    rw [this, h0]
  have e1 : ∀ i j, iblk m c 1 t (ix2 i j) = ((a1 (ix2 i j) : ℝ) : EReal) := fun i j => by
    have : iblk m c 1 t (ix2 i j) = m ((c : Thread nD τ).loc main_arg1) (ix2 i j) := by
      blk_ext! [iblk, V, idx t]
    rw [this, h1]
  have e2 : ∀ i j, iblk m c 2 t (ix2 i j) = ((a2 (ix3 0 i j) : ℝ) : EReal) := fun i j => by
    have : iblk m c 2 t (ix2 i j) = m ((c : Thread nD τ).loc main_arg2) (ix3 0 i j) := by
      blk_ext! [iblk, V, idx t]
    rw [this, h2]
  have e3 : ((View.whole main_v2).slice (win0_3.rect t)).emb (ix2 y0 y1) = ix2 y0 y1 := by
    blk_ext [idx t]
  rw [e3]
  pointwise [k0_pay1, G]
  simp only [e0, e1, e2, Reals.kernel_logistic, Reals.one, Reals.mul, Reals.add, Reals.sub, Reals.sum]

end Cert.KernelIdeal.Mod

namespace Cert.ReferenceIdeal.Mod

open Cert.ReferenceIdeal Cert.ReferenceIdeal.Gen Idealize.ShloMosaic

/-- The reference's gradient, its operations composed. -/
def term (x0 : FVec Ideal S1024 .f32) (x1 : FVec Ideal S8x768 .f32) (x2 : FVec Ideal S1x1024x768 .f32) : FVec Ideal S8x1024 .f32 :=
  let row : FVec Ideal S8x1024 .f32 := broadcastInDim S8x1024 ![1] bcast_S1024_S8x1024_1 x0
  let one : FVec Ideal S8x1024 .f32 := broadcastInDim S8x1024 ![] bcast_S_S8x1024 (constant S_ .f32 0x3F800000#32)
  let s := Host.divf one (addf one (Host.exp (Host.negf row)))
  let d := Host.dotGeneral dot_S8x768_S1024x768_S8x1024_1_1_0_0_n_n none x1 (shapeCast _ x2 shapeCasts_S1x1024x768_S1024x768)
  addf (mulf d s) (mulf (mulf row d) (mulf s (subf one s)))

/-- At finite arguments it is the kernel's gradient. -/
theorem value (a0 : S1024.Idx → ℝ) (a1 : S8x768.Idx → ℝ) (a2 : S1x1024x768.Idx → ℝ) :
    term (fun i => ((a0 i : ℝ) : EReal)) (fun i => ((a1 i : ℝ) : EReal)) (fun i => ((a2 i : ℝ) : EReal))
      = Cert.KernelIdeal.Mod.G a0 a1 a2 := by
  funext j
  idx_vars j
  pointwise [Cert.KernelIdeal.Mod.G, term]
  simp only [Reals.logistic]
  simp only [Reals.one, Reals.mul, Reals.add, Reals.sub, Reals.sum]
  congr 1
  ring

end Cert.ReferenceIdeal.Mod

namespace Cert.KernelIdeal.Mod

open Cert.KernelIdeal Cert.KernelIdeal.Gen Idealize.ShloMosaic Idealize.ShloMosaic.TcCoe Idealize.SL.Sem

/-! ## The claims -/

theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The finite arguments as real arrays. -/
theorem lift {x0 : FVec Ideal S1024 .f32} {x1 : FVec Ideal S8x768 .f32} {x2 : FVec Ideal S1x1024x768 .f32}
    (h : (Cert.Pre_finite_mod.fn (F := Ideal) x0 x1 x2).1 = (fun _ => 1#1)
      ∧ (Cert.Pre_finite_mod.fn (F := Ideal) x0 x1 x2).2.1 = (fun _ => 1#1)
      ∧ (Cert.Pre_finite_mod.fn (F := Ideal) x0 x1 x2).2.2 = (fun _ => 1#1)) :
    ∃ (a0 : S1024.Idx → ℝ) (a1 : S8x768.Idx → ℝ) (a2 : S1x1024x768.Idx → ℝ),
      x0 = (fun i => ((a0 i : ℝ) : EReal)) ∧ x1 = (fun i => ((a1 i : ℝ) : EReal)) ∧ x2 = fun i => ((a2 i : ℝ) : EReal) := by
  obtain ⟨a0, h0⟩ := Reals.lift_finite h.1
  obtain ⟨a1, h1⟩ := Reals.lift_finite h.2.1
  obtain ⟨a2, h2⟩ := Reals.lift_finite h.2.2
  exact ⟨a0, a1, a2, h0, h1, h2⟩

theorem algebraic : Cert.algebraic_KernelIdeal_ReferenceIdeal_pre_finite_mod := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, h0, h1, h2⟩ := lift (hpre c)
  refine Eq.trans ?_ (value m c a0 a1 a2 h0 h1 h2).symm
  rw [(hagree c).1, (hagree c).2.1, (hagree c).2.2, h0, h1, h2]
  exact Cert.ReferenceIdeal.Mod.value a0 a1 a2

end Cert.KernelIdeal.Mod
end
-- ==== Proof.Reads.lean ====
/- Buffers stored piece by piece, read at one index: under a store's rectangle the stored value at the index less the
   rectangle's offset, elsewhere what was there before. Stated at ranks two and three, where an index is `ix2` or `ix3`. -/
module

public import Idealize.ShloMosaic.Lib.Pointwise
public import Idealize.ShloMosaic.Lib.Pipeline.ValueKit
public import Idealize.ShloMosaic.Lib.Pipeline.ReadBack
public import Idealize.ShloMosaic.Lib.WritesUnit
public import proofs.«01_k».proof.Proof.Reals

@[expose] public section

noncomputable section

namespace Cert.Reads

open Idealize.ShloMosaic Idealize.ShloMosaic.View

variable {sig : RefSig} {κ : Kind} {sp : Space} {e : EltTy} {Val : EltTy → Type}

section two

variable {d0 d1 o0 o1 s0 s1 : ℕ} {inb : ∀ a : Fin 2, (![o0, o1] : Fin 2 → ℕ) a + (![s0, s1] : Fin 2 → ℕ) a ≤ (⟨2, ![d0, d1]⟩ : Shape).size a}

/-- Position `(a, b)` of the whole is in the rectangle. -/
abbrev In2 (o0 o1 s0 s1 a b : ℕ) : Prop := (o0 ≤ a ∧ a < o0 + s0) ∧ o1 ≤ b ∧ b < o1 + s1

/-- The index within the rectangle. -/
abbrev at2 {o0 o1 s0 s1 a b : ℕ} (h : In2 o0 o1 s0 s1 a b) : (⟨2, ![s0, s1]⟩ : Shape).Idx :=
  ix2 ⟨a - o0, by omega⟩ ⟨b - o1, by omega⟩

theorem written2 (v : View sig κ sp (⟨2, ![d0, d1]⟩ : Shape) e) (f : v.ty.Contents Val)
    (w : (⟨2, ![s0, s1]⟩ : Shape).Idx → Val e) (L : List (Piece Val (⟨2, ![d0, d1]⟩ : Shape) e)) (a : Fin d0) (b : Fin d1) :
    v.read Val (v.writes Val f ((⟨Rect.unit (s := (⟨2, ![d0, d1]⟩ : Shape)) ![o0, o1] ![s0, s1] inb, w⟩ : Piece Val _ e) :: L)) (ix2 a b)
      = if h : In2 o0 o1 s0 s1 a b then w (at2 h) else v.read Val (v.writes Val f L) (ix2 a b) := by
  by_cases h : In2 o0 o1 s0 s1 a b
  · rw [dif_pos h]
    refine read_writes_cons_unit_of_mem v f inb w L (ix2 a b) (at2 h) rfl fun x => ?_
    match x with
    | ⟨0, _⟩ => show a.val = o0 + (a.val - o0); omega
    | ⟨1, _⟩ => show b.val = o1 + (b.val - o1); omega
  · rw [dif_neg h]
    by_cases h0 : o0 ≤ a.val ∧ a.val < o0 + s0
    · refine read_writes_cons_unit_of_not_mem v f inb w L (ix2 a b) rfl 1 ?_
      show b.val < o1 ∨ o1 + s1 ≤ b.val
      by_contra hc
      exact h ⟨h0, by omega, by omega⟩
    · refine read_writes_cons_unit_of_not_mem v f inb w L (ix2 a b) rfl 0 ?_
      show a.val < o0 ∨ o0 + s0 ≤ a.val
      omega

theorem canon2 [∀ e, Nonempty (Val e)] (w : (⟨2, ![s0, s1]⟩ : Shape).Idx → Val e)
    (L : List (Piece Val (⟨2, ![d0, d1]⟩ : Shape) e)) (a : Fin d0) (b : Fin d1) :
    View.canon ((⟨Rect.unit (s := (⟨2, ![d0, d1]⟩ : Shape)) ![o0, o1] ![s0, s1] inb, w⟩ : Piece Val _ e) :: L) (ix2 a b)
      = if h : In2 o0 o1 s0 s1 a b then w (at2 h) else View.canon L (ix2 a b) := by
  by_cases h : In2 o0 o1 s0 s1 a b
  · rw [dif_pos h]
    have he : (Rect.unit (s := (⟨2, ![d0, d1]⟩ : Shape)) ![o0, o1] ![s0, s1] inb).emb (at2 h) = ix2 a b := funext fun x => Fin.ext (by
      match x with
      | ⟨0, _⟩ => show o0 + 1 * (a.val - o0) = a.val; omega
      | ⟨1, _⟩ => show o1 + 1 * (b.val - o1) = b.val; omega)
    rw [← he]
    exact canon_cons_emb (Rect.unit (s := (⟨2, ![d0, d1]⟩ : Shape)) ![o0, o1] ![s0, s1] inb) w L (at2 h)
  · rw [dif_neg h]
    refine canon_cons_of_not_mem _ L ?_
    rw [Rect.mem_set_unit]
    intro hall
    exact h ⟨hall 0, hall 1⟩

/-- A load of the whole buffer after stores into it. -/
theorem whole2 [∀ e, Nonempty (Val e)] {inb : ∀ a : Fin 2, (![0, 0] : Fin 2 → ℕ) a + (![d0, d1] : Fin 2 → ℕ) a ≤ (⟨2, ![d0, d1]⟩ : Shape).size a}
    (v : View sig κ sp (⟨2, ![d0, d1]⟩ : Shape) e) (L : List (Piece Val (⟨2, ![d0, d1]⟩ : Shape) e)) :
    v.readCov L (Rect.unit (s := (⟨2, ![d0, d1]⟩ : Shape)) ![0, 0] ![d0, d1] inb).toLoadRect = View.canon L := by
  rw [readCov_eq_canon']
  refine funext fun j => congrArg (View.canon L) (funext fun x => Fin.ext ?_)
  match x with
  | ⟨0, _⟩ => show 0 + 1 * (j 0).val = (j 0).val; omega
  | ⟨1, _⟩ => show 0 + 1 * (j 1).val = (j 1).val; omega

end two

/-! ## A matrix stored by groups of columns

Every store holds its columns of one matrix `f`, whose columns are numbered by natural numbers. -/

section columns

variable {M W B o : ℕ} {e : EltTy} {f : Fin M → ℕ → Val e}

/-- Every store of the list holds `f`. -/
def Agree (f : Fin M → ℕ → Val e) (L : List (Piece Val (⟨2, ![M, W]⟩ : Shape) e)) : Prop :=
  PiecesOf (fun j : (⟨2, ![M, W]⟩ : Shape).Idx => f (j 0) (j 1)) L

/-- Column `k` is in a store of the list that holds all rows. -/
def Cols (L : List (Piece Val (⟨2, ![M, W]⟩ : Shape) e)) (k : ℕ) : Prop :=
  ∃ p ∈ L, ∀ y : (⟨2, ![M, W]⟩ : Shape).Idx, (y 1).val = k → y ∈ p.1.set

theorem agree_nil : Agree f ([] : List (Piece Val (⟨2, ![M, W]⟩ : Shape) e)) := trivial

theorem agree_cons {L : List (Piece Val (⟨2, ![M, W]⟩ : Shape) e)}
    {inb : ∀ a : Fin 2, (![0, o] : Fin 2 → ℕ) a + (![M, B] : Fin 2 → ℕ) a ≤ (⟨2, ![M, W]⟩ : Shape).size a}
    (g : (⟨2, ![M, B]⟩ : Shape).Idx → Val e) (hg : ∀ j, g j = f (j 0) (o + j 1)) (hL : Agree f L) :
    Agree f ((⟨Rect.unit (s := (⟨2, ![M, W]⟩ : Shape)) ![0, o] ![M, B] inb, g⟩ : Piece Val _ e) :: L) :=
  ⟨fun j => (hg j).trans (congr (congrArg f (Fin.ext (show (j 0).val = 0 + 1 * (j 0).val by omega)))
    (show o + (j 1).val = o + 1 * (j 1).val by omega)), hL⟩

theorem cols_head {L : List (Piece Val (⟨2, ![M, W]⟩ : Shape) e)}
    {inb : ∀ a : Fin 2, (![0, o] : Fin 2 → ℕ) a + (![M, B] : Fin 2 → ℕ) a ≤ (⟨2, ![M, W]⟩ : Shape).size a}
    (w : (⟨2, ![M, B]⟩ : Shape).Idx → Val e) {k : ℕ} (h : o ≤ k ∧ k < o + B) :
    Cols ((⟨Rect.unit (s := (⟨2, ![M, W]⟩ : Shape)) ![0, o] ![M, B] inb, w⟩ : Piece Val _ e) :: L) k := by
  refine ⟨_, List.mem_cons_self, fun y hy => ?_⟩
  rw [Rect.mem_set_unit]
  intro a
  match a with
  | ⟨0, _⟩ => exact ⟨Nat.zero_le _, (show (y 0).val < 0 + M by have : (y 0).val < M := (y 0).isLt; omega)⟩
  | ⟨1, _⟩ => exact ⟨show o ≤ (y 1).val by omega, show (y 1).val < o + B by omega⟩

theorem cols_step {L : List (Piece Val (⟨2, ![M, W]⟩ : Shape) e)}
    {inb : ∀ a : Fin 2, (![0, o] : Fin 2 → ℕ) a + (![M, B] : Fin 2 → ℕ) a ≤ (⟨2, ![M, W]⟩ : Shape).size a}
    {w : (⟨2, ![M, B]⟩ : Shape).Idx → Val e} {k : ℕ} (h : ¬ (o ≤ k ∧ k < o + B) → Cols L k) :
    Cols ((⟨Rect.unit (s := (⟨2, ![M, W]⟩ : Shape)) ![0, o] ![M, B] inb, w⟩ : Piece Val _ e) :: L) k := by
  by_cases hk : o ≤ k ∧ k < o + B
  · exact cols_head w hk
  · obtain ⟨q, hq, hy⟩ := h hk
    exact ⟨q, List.mem_cons_of_mem _ hq, hy⟩

variable [∀ e, Nonempty (Val e)]

theorem canon_cols {L : List (Piece Val (⟨2, ![M, W]⟩ : Shape) e)} (hL : Agree f L) (j : (⟨2, ![M, W]⟩ : Shape).Idx)
    (hc : Cols L (j 1)) : View.canon L j = f (j 0) (j 1) := by
  obtain ⟨p, hp, hy⟩ := hc
  have := canon_append_of_piecesOf _ [] L hL j ⟨p, hp, hy j rfl⟩
  rwa [List.append_nil] at this

theorem read_cols {L : List (Piece Val (⟨2, ![M, W]⟩ : Shape) e)}
    {inb : ∀ a : Fin 2, (![0, o] : Fin 2 → ℕ) a + (![M, B] : Fin 2 → ℕ) a ≤ (⟨2, ![M, W]⟩ : Shape).size a}
    (v : View sig κ sp (⟨2, ![M, W]⟩ : Shape) e) (hL : Agree f L) (hc : ∀ k, k < B → Cols L (o + k)) :
    v.readCov L (Rect.unit (s := (⟨2, ![M, W]⟩ : Shape)) ![0, o] ![M, B] inb).toLoadRect
      = fun j : (⟨2, ![M, B]⟩ : Shape).Idx => f (j 0) (o + j 1) := by
  rw [readCov_eq_canon']
  funext j
  have h0 : ((Rect.unit (s := (⟨2, ![M, W]⟩ : Shape)) ![0, o] ![M, B] inb).toLoadRect.idx j) 0 = j 0 :=
    Fin.ext (show 0 + 1 * (j 0).val = (j 0).val by omega)
  have h1 : (((Rect.unit (s := (⟨2, ![M, W]⟩ : Shape)) ![0, o] ![M, B] inb).toLoadRect.idx j) 1).val = o + j 1 :=
    show o + 1 * (j 1).val = o + (j 1).val by omega
  exact (canon_cols hL _ (h1 ▸ hc _ (j 1).isLt)).trans (congr (congrArg f h0) h1)

end columns

/-! The same at arrays of real numbers. -/

section columnsUp

variable {M W B o : ℕ} (f : Fin M → ℕ → ℝ)

theorem all_bf16 {L : List (Piece (Elt Ideal) (⟨2, ![M, W]⟩ : Shape) .bf16)} (hL : Agree (e := .bf16) (fun l k => ((f l k : ℝ) : EReal)) L)
    (hc : ∀ k, k < W → Cols L k) : View.canon L = Reals.up fun j : (⟨2, ![M, W]⟩ : Shape).Idx => f (j 0) (j 1) :=
  funext fun j => canon_cols hL j (hc _ (j 1).isLt)

theorem cols_bf16 {L : List (Piece (Elt Ideal) (⟨2, ![M, W]⟩ : Shape) .bf16)}
    {inb : ∀ a : Fin 2, (![0, o] : Fin 2 → ℕ) a + (![M, B] : Fin 2 → ℕ) a ≤ (⟨2, ![M, W]⟩ : Shape).size a}
    (v : View sig κ sp (⟨2, ![M, W]⟩ : Shape) .bf16) (hL : Agree (e := .bf16) (fun l k => ((f l k : ℝ) : EReal)) L)
    (hc : ∀ k, k < B → Cols L (o + k)) :
    v.readCov L (Rect.unit (s := (⟨2, ![M, W]⟩ : Shape)) ![0, o] ![M, B] inb).toLoadRect
      = Reals.up fun j : (⟨2, ![M, B]⟩ : Shape).Idx => f (j 0) (o + j 1) :=
  read_cols v hL hc

theorem cols_f32 {L : List (Piece (Elt Ideal) (⟨2, ![M, W]⟩ : Shape) .f32)}
    {inb : ∀ a : Fin 2, (![0, o] : Fin 2 → ℕ) a + (![M, B] : Fin 2 → ℕ) a ≤ (⟨2, ![M, W]⟩ : Shape).size a}
    (v : View sig κ sp (⟨2, ![M, W]⟩ : Shape) .f32) (hL : Agree (e := .f32) (fun l k => ((f l k : ℝ) : EReal)) L)
    (hc : ∀ k, k < B → Cols L (o + k)) :
    v.readCov L (Rect.unit (s := (⟨2, ![M, W]⟩ : Shape)) ![0, o] ![M, B] inb).toLoadRect
      = Reals.up fun j : (⟨2, ![M, B]⟩ : Shape).Idx => f (j 0) (o + j 1) :=
  read_cols v hL hc

end columnsUp

section three

variable {d0 d1 d2 o0 o1 o2 s0 s1 s2 : ℕ}
  {inb : ∀ a : Fin 3, (![o0, o1, o2] : Fin 3 → ℕ) a + (![s0, s1, s2] : Fin 3 → ℕ) a ≤ (⟨3, ![d0, d1, d2]⟩ : Shape).size a}

/-- Position `(a, b, c)` of the whole is in the rectangle. -/
abbrev In3 (o0 o1 o2 s0 s1 s2 a b c : ℕ) : Prop := (o0 ≤ a ∧ a < o0 + s0) ∧ (o1 ≤ b ∧ b < o1 + s1) ∧ o2 ≤ c ∧ c < o2 + s2

/-- The index within the rectangle. -/
abbrev at3 {o0 o1 o2 s0 s1 s2 a b c : ℕ} (h : In3 o0 o1 o2 s0 s1 s2 a b c) : (⟨3, ![s0, s1, s2]⟩ : Shape).Idx :=
  ix3 ⟨a - o0, by omega⟩ ⟨b - o1, by omega⟩ ⟨c - o2, by omega⟩

theorem written3 (v : View sig κ sp (⟨3, ![d0, d1, d2]⟩ : Shape) e) (f : v.ty.Contents Val)
    (w : (⟨3, ![s0, s1, s2]⟩ : Shape).Idx → Val e) (L : List (Piece Val (⟨3, ![d0, d1, d2]⟩ : Shape) e)) (a : Fin d0) (b : Fin d1)
    (c : Fin d2) :
    v.read Val (v.writes Val f ((⟨Rect.unit (s := (⟨3, ![d0, d1, d2]⟩ : Shape)) ![o0, o1, o2] ![s0, s1, s2] inb, w⟩ : Piece Val _ e) :: L))
        (ix3 a b c)
      = if h : In3 o0 o1 o2 s0 s1 s2 a b c then w (at3 h) else v.read Val (v.writes Val f L) (ix3 a b c) := by
  by_cases h : In3 o0 o1 o2 s0 s1 s2 a b c
  · rw [dif_pos h]
    refine read_writes_cons_unit_of_mem v f inb w L (ix3 a b c) (at3 h) rfl fun x => ?_
    match x with
    | ⟨0, _⟩ => show a.val = o0 + (a.val - o0); omega
    | ⟨1, _⟩ => show b.val = o1 + (b.val - o1); omega
    | ⟨2, _⟩ => show c.val = o2 + (c.val - o2); omega
  · rw [dif_neg h]
    by_cases h0 : o0 ≤ a.val ∧ a.val < o0 + s0
    · by_cases h1 : o1 ≤ b.val ∧ b.val < o1 + s1
      · refine read_writes_cons_unit_of_not_mem v f inb w L (ix3 a b c) rfl 2 ?_
        show c.val < o2 ∨ o2 + s2 ≤ c.val
        by_contra hc
        exact h ⟨h0, h1, by omega, by omega⟩
      · refine read_writes_cons_unit_of_not_mem v f inb w L (ix3 a b c) rfl 1 ?_
        show b.val < o1 ∨ o1 + s1 ≤ b.val
        omega
    · refine read_writes_cons_unit_of_not_mem v f inb w L (ix3 a b c) rfl 0 ?_
      show a.val < o0 ∨ o0 + s0 ≤ a.val
      omega

theorem canon3 [∀ e, Nonempty (Val e)] (w : (⟨3, ![s0, s1, s2]⟩ : Shape).Idx → Val e)
    (L : List (Piece Val (⟨3, ![d0, d1, d2]⟩ : Shape) e)) (a : Fin d0) (b : Fin d1) (c : Fin d2) :
    View.canon ((⟨Rect.unit (s := (⟨3, ![d0, d1, d2]⟩ : Shape)) ![o0, o1, o2] ![s0, s1, s2] inb, w⟩ : Piece Val _ e) :: L) (ix3 a b c)
      = if h : In3 o0 o1 o2 s0 s1 s2 a b c then w (at3 h) else View.canon L (ix3 a b c) := by
  by_cases h : In3 o0 o1 o2 s0 s1 s2 a b c
  · rw [dif_pos h]
    have he : (Rect.unit (s := (⟨3, ![d0, d1, d2]⟩ : Shape)) ![o0, o1, o2] ![s0, s1, s2] inb).emb (at3 h) = ix3 a b c :=
      funext fun x => Fin.ext (by
        match x with
        | ⟨0, _⟩ => show o0 + 1 * (a.val - o0) = a.val; omega
        | ⟨1, _⟩ => show o1 + 1 * (b.val - o1) = b.val; omega
        | ⟨2, _⟩ => show o2 + 1 * (c.val - o2) = c.val; omega)
    rw [← he]
    exact canon_cons_emb (Rect.unit (s := (⟨3, ![d0, d1, d2]⟩ : Shape)) ![o0, o1, o2] ![s0, s1, s2] inb) w L (at3 h)
  · rw [dif_neg h]
    refine canon_cons_of_not_mem _ L ?_
    rw [Rect.mem_set_unit]
    intro hall
    exact h ⟨hall 0, hall 1, hall 2⟩

end three

/-- A block read off a real array. -/
theorem ld_up {S : Shape} {ι : EltTy} (f : S.Idx → ℝ) (r : Rect S) :
    View.ld (Val := fun _ => EReal) (e' := ι) (Cert.Reals.up f) r = Cert.Reals.up fun x => f (r.idx x) := rfl

end Cert.Reads

end
-- ==== Proof.NormCtx.lean ====
/- The gradient of the context tokens' norm, modulation and projection: what the kernel writes. The kernel takes the four
   examples one at a time. Each writes its rows of the projection's cotangent; the shift's, the scale's and the gain's
   gradients are held across the grid and grow by one example's sum at each step (`term7`, `term8`). -/
module

public import proofs.«01_k».proof.Defs
public import proofs.«01_k».proof.Proof.Gen.Kernel2Ideal.Value
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Reals
public import proofs.«01_k».proof.Proof.Reads

@[expose] public section

set_option maxRecDepth 16384

noncomputable section

namespace Cert.Kernel2Ideal.Norm

open Cert.Kernel2Ideal Cert.Kernel2Ideal.Gen Idealize.ShloMosaic Idealize.ShloMosaic.TcCoe Idealize.SL.Sem
open Idealize.ShloMosaic.Pipeline (Dat)
open Cert.Reals (up up_apply)

section Spec

variable (a0 a1 : S1024x1024.Idx → ℝ) (a2 : S4x256x1024.Idx → ℝ) (a3 : S6x1024.Idx → ℝ) (a4 : S1x1024.Idx → ℝ)
  (a5 : S1x1024x5632.Idx → ℝ)

/-- The cotangent of the projected columns at token `l` of example `e`: the two scans' gate columns, then their
    shared input columns, which add up. -/
def dp (e : Fin 4) (l : Fin 256) (k : Fin 1536) : ℝ :=
  if h : k.val < 512 then a0 (ix2 ⟨e.val * 256 + l.val, by omega⟩ ⟨k.val, by omega⟩)
  else if h : k.val < 1024 then a1 (ix2 ⟨e.val * 256 + l.val, by omega⟩ ⟨k.val - 512, by omega⟩)
  else a0 (ix2 ⟨e.val * 256 + l.val, by omega⟩ ⟨k.val - 512, by omega⟩) + a1 (ix2 ⟨e.val * 256 + l.val, by omega⟩ ⟨k.val - 512, by omega⟩)

/-- The cotangent of the modulated rows. -/
def dh (e : Fin 4) (l : Fin 256) (n : Fin 1024) : ℝ := ∑ k : Fin 1536, dp a0 a1 e l k * a5 (ix3 0 n ⟨k.val, by omega⟩)

/-- The rows over their root mean square. -/
def xn (e : Fin 4) (l : Fin 256) (n : Fin 1024) : ℝ :=
  a2 (ix3 e l n) * (√((∑ j : Fin 1024, a2 (ix3 e l j) * a2 (ix3 e l j)) / 1024 + Reals.eps))⁻¹

end Spec

theorem pay7 (v : S256x1536.Idx → ℝ) (w : S1536x1024.Idx → ℝ) :
    k0_pay7 (F := Ideal) (up v) (up w) = up fun j => ∑ k : Fin 1536, v (ix2 (j 0) k) * w (ix2 k (j 1)) := by
  funext j; idx_vars j
  pointwise [k0_pay7, up_apply]
  simp only [Reals.mul, Reals.sum]

theorem pay9 (v : S256x1024.Idx → ℝ) :
    k0_pay9 (F := Ideal) (up v) = up fun j => v j * (√((∑ k : Fin 1024, v (ix2 (j 0) k) * v (ix2 (j 0) k)) / 1024 + Reals.eps))⁻¹ := by
  funext j; idx_vars j
  pointwise [k0_pay9, up_apply]
  simp only [Reals.mul, Reals.sum]
  rw [Reals.rms (Reals.sum_sq_nonneg _ _), Reals.mul]

theorem pay10 (v : S256x1024.Idx → ℝ) (w : FVec Ideal S1x1x1024 .f32) (j : S1x1x1024.Idx) :
    k0_pay10 (F := Ideal) (up v) w j = w (ix3 0 0 (j 2)) + ((∑ l : Fin 256, v (ix2 l (j 2)) : ℝ) : EReal) := by
  idx_vars j
  pointwise [k0_pay10, up_apply]
  simp only [Reals.sum]

theorem pay11 (v x : S256x1024.Idx → ℝ) (g : S1x1024.Idx → ℝ) (w : FVec Ideal S1x1x1024 .f32) (j : S1x1x1024.Idx) :
    k0_pay11 (F := Ideal) (up v) (up x) (up g) w j = w (ix3 0 0 (j 2)) + ((∑ l : Fin 256, v (ix2 l (j 2))
      * (x (ix2 l (j 2)) * (√((∑ k : Fin 1024, x (ix2 l k) * x (ix2 l k)) / 1024 + Reals.eps))⁻¹) * g (ix2 0 (j 2)) : ℝ) : EReal) := by
  idx_vars j
  unfold k0_pay11
  rw [pay9]
  pointwise [up_apply]
  simp only [Reals.mul, Reals.sum]

theorem pay1 (v x : S256x1024.Idx → ℝ) (w : FVec Ideal S1x1024 .f32) (s : S1x1024.Idx → ℝ) (j : S1x1024.Idx) :
    k0_pay1 (F := Ideal) (up v) (up x) w (up s) j
      = w (ix2 0 (j 1)) + ((∑ l : Fin 256, v (ix2 l (j 1)) * s (ix2 0 (j 1)) * x (ix2 l (j 1)) : ℝ) : EReal) := by
  idx_vars j
  obtain rfl : j0 = 0 := Subsingleton.elim _ _
  pointwise [k0_pay1, up_apply]
  simp only [Reals.mul, Reals.sum]

theorem scale (f : S1x6x1024.Idx → ℝ) (i) :
    k0_pay13 (F := Ideal) (View.ld (Val := Elt Ideal) (e' := .f32) (up f) (Rect.unit (s := S1x6x1024) ![0, 1, 0] ![1, 1, 1024] i))
      = up fun j : S1x1024.Idx => 1 + f (ix3 0 1 (j 1)) := by
  funext j; idx_vars j
  pointwise [k0_pay13, up_apply]
  simp only [Reals.one, Reals.add]

theorem pay2 : k0_pay2 (F := Ideal) = up fun _ => 0 := by
  funext j; idx_vars j
  pointwise [k0_pay2, up_apply]
  rfl

theorem pay3 : k0_pay3 (F := Ideal) = up fun _ => 0 := by
  funext j; idx_vars j
  pointwise [k0_pay3, up_apply]
  rfl

theorem pay8 (v : S256x1024.Idx → ℝ) : k0_pay8 (F := Ideal) (up v) = up v := by
  funext j; idx_vars j
  pointwise [k0_pay8, up_apply]

theorem pay12 (v : FVec Ideal S1x1024 .f32) : k0_pay12 (F := Ideal) v = v := by
  funext j; idx_vars j
  pointwise [k0_pay12]

section Run

variable (m : (ℓ : Loc nD τ sig) → Buf (Elt Ideal) ℓ) (c : Dev nD)
  {a0 a1 : S1024x1024.Idx → ℝ} {a2 : S4x256x1024.Idx → ℝ} {a3 : S6x1024.Idx → ℝ} {a4 : S1x1024.Idx → ℝ}
  {a5 : S1x1024x5632.Idx → ℝ}

theorem idx : ∀ t : Fin cfg0.N,
    (win0_0.index t 0 = t.val ∧ win0_0.index t 1 = 0) ∧ (win0_1.index t 0 = t.val ∧ win0_1.index t 1 = 0) ∧
    (win0_2.index t 0 = t.val ∧ win0_2.index t 1 = 0) ∧ (win0_3.index t 0 = 0 ∧ win0_3.index t 1 = 0 ∧ win0_3.index t 2 = 0) ∧
    (win0_4.index t 0 = 0 ∧ win0_4.index t 1 = 0) ∧ (win0_5.index t 0 = 0 ∧ win0_5.index t 1 = 0) ∧
    (win0_6.index t 0 = t.val ∧ win0_6.index t 1 = 0) ∧
    (win0_7.index t 0 = 0 ∧ win0_7.index t 1 = 0 ∧ win0_7.index t 2 = 0) ∧ (win0_8.index t 0 = 0 ∧ win0_8.index t 1 = 0) :=
  (by decide +kernel : ∀ t : Fin grid0.N, _)

theorem lt4 (t : Fin cfg0.N) : t.val < 4 := lt_of_lt_of_eq t.isLt N_0

theorem blk0 (h : m ((c : Thread nD τ).loc main_arg0) = up a0) (t : Fin cfg0.N) :
    iblk m c 0 t = up fun j : S256x1024.Idx => a0 (ix2 ⟨t.val * 256 + (j 0).val, by have := lt4 t; have : (j 0).val < 256 := (j 0).isLt; omega⟩ (j 1)) := by
  funext j; idx_vars j
  rw [up_apply, ← up_apply a0, ← h]
  blk_ext [iblk, V, idx t]

theorem blk1 (h : m ((c : Thread nD τ).loc main_arg1) = up a1) (t : Fin cfg0.N) :
    iblk m c 1 t = up fun j : S256x1024.Idx => a1 (ix2 ⟨t.val * 256 + (j 0).val, by have := lt4 t; have : (j 0).val < 256 := (j 0).isLt; omega⟩ (j 1)) := by
  funext j; idx_vars j
  rw [up_apply, ← up_apply a1, ← h]
  blk_ext [iblk, V, idx t]

theorem blk2 (h : m ((c : Thread nD τ).loc main_arg2) = up a2) (t : Fin cfg0.N) :
    iblk m c 2 t = up fun j : S256x1024.Idx => a2 (ix3 ⟨t.val, lt4 t⟩ (j 0) (j 1)) := by
  funext j; idx_vars j
  rw [up_apply, ← up_apply a2, ← h]
  blk_ext! [iblk, V, idx t]

theorem blk3 (h : m ((c : Thread nD τ).loc main_arg3) = up a3) (t : Fin cfg0.N) :
    iblk m c 3 t = up fun j : S1x6x1024.Idx => a3 (ix2 (j 1) (j 2)) := by
  funext j; idx_vars j
  rw [up_apply, ← up_apply a3, ← h]
  blk_ext! [iblk, V, idx t]

theorem blk4 (h : m ((c : Thread nD τ).loc main_arg4) = up a4) (t : Fin cfg0.N) : iblk m c 4 t = up a4 := by
  funext j; idx_vars j
  rw [← h]
  blk_ext! [iblk, V, idx t]

theorem blk5 (h : m ((c : Thread nD τ).loc main_arg5) = up a5) (t : Fin cfg0.N) :
    X0_5 m c t = up fun j : S1536x1024.Idx => a5 (ix3 0 (j 1) ⟨(j 0).val, by have : (j 0).val < 1536 := (j 0).isLt; omega⟩) := by
  funext j; idx_vars j
  rw [up_apply, ← up_apply a5, ← h]
  unfold X0_5
  unfold Pipeline.Window.fill; rw [dif_pos (moved0_5 t _)]
  blk_ext! [iblk, V, idx t]

/-- What the three column stores leave in the block of projected cotangents. -/
theorem cols (h0 : m ((c : Thread nD τ).loc main_arg0) = up a0) (h1 : m ((c : Thread nD τ).loc main_arg1) = up a1) (t : Fin cfg0.N)
    (i1 i2 i3) :
    View.canon (Val := Elt Ideal) (s := S256x1536) (e := .bf16)
      [⟨Rect.unit ![0, 1024] ![256, 512] i1, k0_pay6 (F := Ideal) (iblk m c 0 t) (iblk m c 1 t)⟩,
        ⟨Rect.unit ![0, 512] ![256, 512] i2, k0_pay5 (F := Ideal) (iblk m c 1 t)⟩,
        ⟨Rect.unit ![0, 0] ![256, 512] i3, k0_pay4 (F := Ideal) (iblk m c 0 t)⟩]
      = up fun j => dp a0 a1 ⟨t.val, lt4 t⟩ (j 0) (j 1) := by
  funext j; idx_vars j
  rw [Reads.canon2, Reads.canon2, Reads.canon2, blk0 m c h0, blk1 m c h1]
  unfold dp
  pointwise [k0_pay4, k0_pay5, k0_pay6, up_apply]
  simp only [Reals.add]
  have := j1.isLt
  have := j0.isLt
  split_ifs <;> first
    | omega
    | rfl
    | (refine congrArg _ (congrArg₂ _ (congrArg _ ?_) (congrArg _ ?_)) <;> (congr 1; apply Fin.ext; dsimp only; omega))

theorem last (t : Fin cfg0.N) (ht : t.val % 4 = 3) : t.val + 1 = cfg0.N := by
  have := lt4 t
  exact (show t.val + 1 = 4 by omega).trans N_0.symm

/-- What grid point `t` adds at row `r` of the block of shift and scale gradients, and of the block of the gain's. -/
def term7 (a0 a1 : S1024x1024.Idx → ℝ) (a2 : S4x256x1024.Idx → ℝ) (a4 : S1x1024.Idx → ℝ) (a5 : S1x1024x5632.Idx → ℝ)
    (t : Fin 4) (r : Fin 8) (n : Fin 1024) : ℝ :=
  if r.val = 0 then ∑ l : Fin 256, dh a0 a1 a5 t l n
  else if r.val = 1 then ∑ l : Fin 256, dh a0 a1 a5 t l n * xn a2 t l n * a4 (ix2 0 n)
  else 0
def term8 (a0 a1 : S1024x1024.Idx → ℝ) (a2 : S4x256x1024.Idx → ℝ) (a3 : S6x1024.Idx → ℝ) (a5 : S1x1024x5632.Idx → ℝ)
    (t : Fin 4) (r : Fin 8) (n : Fin 1024) : ℝ :=
  if r.val = 0 then ∑ l : Fin 256, dh a0 a1 a5 t l n * (1 + a3 (ix2 1 n)) * xn a2 t l n else 0

variable (h0 : m ((c : Thread nD τ).loc main_arg0) = up a0) (h1 : m ((c : Thread nD τ).loc main_arg1) = up a1)
  (h2 : m ((c : Thread nD τ).loc main_arg2) = up a2) (h3 : m ((c : Thread nD τ).loc main_arg3) = up a3)
  (h4 : m ((c : Thread nD τ).loc main_arg4) = up a4) (h5 : m ((c : Thread nD τ).loc main_arg5) = up a5)

include h0 h1 h2 h4 h5 in
theorem o7A (t : Fin cfg0.N) (ht : t.val % 4 = 0) (r : Fin 8) (k : Fin 1024) :
    (outsAt0 m c t.val t.isLt).2.1 (ix3 0 r k) = 0 + (term7 a0 a1 a2 a4 a5 ⟨t.val, lt4 t⟩ r k : EReal) := by
  rw [outsAt0_A m c t ht ht]; frame_open
  dsimp only
  simp (disch := decide) only [↓ View.readCov_skip, ↓ View.readCov_cons_toLoadRect, ↓ View.readCov_fill]; frame_out
  simp only [Reads.whole2, cols m c h0 h1, blk5 m c h5, blk2 m c h2, blk4 m c h4, pay7, pay8, pay3, Reads.ld_up, pay10, pay11,
    Reads.canon3, up_apply]
  unfold term7 dh xn
  have := r.isLt
  have := k.isLt
  split_ifs <;> first | omega | skip
  all_goals pointwise
  all_goals simp only [EReal.coe_zero, zero_add]

include h0 h1 h2 h4 h5 in
theorem o7B (t : Fin cfg0.N) (ht : ¬ t.val % 4 = 0) (r : Fin 8) (k : Fin 1024) :
    (outsAt0 m c t.val t.isLt).2.1 (ix3 0 r k) = (outsAt0 m c (t.val - 1) (Nat.lt_of_le_of_lt (Nat.sub_le _ _) t.isLt)).2.1 (ix3 0 r k)
      + (term7 a0 a1 a2 a4 a5 ⟨t.val, lt4 t⟩ r k : EReal) := by
  rw [outsAt0_B m c t ht ht]
  generalize (outsAt0 m c (t.val - 1) _).2.1 = X
  frame_out
  simp only [Reads.whole2, cols m c h0 h1, blk5 m c h5, blk2 m c h2, blk4 m c h4, pay7, pay8, pay3, pay10, pay11,
    Reads.written3, View.writes_nil, Memref.IsWhole.read_unread, up_apply]
  unfold term7 dh xn
  have := r.isLt
  have := k.isLt
  split_ifs <;> first | omega | skip
  · obtain rfl : r = 1 := Fin.ext ‹_›
    pointwise
  · obtain rfl : r = 0 := Fin.ext ‹_›
    pointwise
  · rw [EReal.coe_zero, add_zero]

include h0 h1 h2 h3 h5 in
theorem o8A (t : Fin cfg0.N) (ht : t.val % 4 = 0) (r : Fin 8) (k : Fin 1024) :
    (outsAt0 m c t.val t.isLt).2.2 (ix2 r k) = 0 + (term8 a0 a1 a2 a3 a5 ⟨t.val, lt4 t⟩ r k : EReal) := by
  rw [outsAt0_A m c t ht ht]; frame_open
  dsimp only
  simp (disch := decide) only [↓ View.readCov_skip, ↓ View.readCov_cons_toLoadRect, ↓ View.readCov_fill]; frame_out
  simp only [Reads.whole2, cols m c h0 h1, blk5 m c h5, blk2 m c h2, blk3 m c h3, pay7, pay8, pay2, pay12, scale, pay9]
  simp only [Reads.ld_up, pay1, Reads.canon2, up_apply]
  unfold term8 dh xn
  have := r.isLt
  have := k.isLt
  split_ifs <;> first | omega | skip
  · pointwise
    rw [EReal.coe_zero, zero_add]
  · rw [EReal.coe_zero, zero_add]

include h0 h1 h2 h3 h5 in
theorem o8B (t : Fin cfg0.N) (ht : ¬ t.val % 4 = 0) (r : Fin 8) (k : Fin 1024) :
    (outsAt0 m c t.val t.isLt).2.2 (ix2 r k) = (outsAt0 m c (t.val - 1) (Nat.lt_of_le_of_lt (Nat.sub_le _ _) t.isLt)).2.2 (ix2 r k)
      + (term8 a0 a1 a2 a3 a5 ⟨t.val, lt4 t⟩ r k : EReal) := by
  rw [outsAt0_B m c t ht ht]
  generalize (outsAt0 m c (t.val - 1) _).2.2 = X
  frame_out
  simp only [Reads.whole2, cols m c h0 h1, blk5 m c h5, blk2 m c h2, blk3 m c h3, pay7, pay8, pay12, scale, pay9, pay1,
    Reads.written2, View.writes_nil, Memref.IsWhole.read_unread, up_apply]
  unfold term8 dh xn
  have := r.isLt
  have := k.isLt
  split_ifs <;> first | omega | skip
  · obtain rfl : r = 0 := Fin.ext ‹_›
    pointwise
  · rw [EReal.coe_zero, add_zero]

/-- The three arrays after the run. -/
def G6 (a0 a1 : S1024x1024.Idx → ℝ) : S1024x1536.Idx → EReal := up fun j =>
  dp a0 a1 ⟨(j 0).val / 256, by have : (j 0).val < 1024 := (j 0).isLt; omega⟩ ⟨(j 0).val % 256, by omega⟩ (j 1)
def G7 (a0 a1 : S1024x1024.Idx → ℝ) (a2 : S4x256x1024.Idx → ℝ) (a4 : S1x1024.Idx → ℝ) (a5 : S1x1024x5632.Idx → ℝ) :
    S1x8x1024.Idx → EReal := up fun j => ∑ e : Fin 4, term7 a0 a1 a2 a4 a5 e (j 1) (j 2)
def G8 (a0 a1 : S1024x1024.Idx → ℝ) (a2 : S4x256x1024.Idx → ℝ) (a3 : S6x1024.Idx → ℝ) (a5 : S1x1024x5632.Idx → ℝ) :
    S8x1024.Idx → EReal := up fun j => ∑ e : Fin 4, term8 a0 a1 a2 a3 a5 e (j 0) (j 1)

include h0 h1 in
theorem value6 : (dats m 0 c).arrAt 6 cfg0.N = G6 a0 a1 := by
  refine (dats m 0 c).arrAt_eq_of_covers 6 _ (by decide +kernel) fun t hf y => ?_
  blk_simp
  rw [after0_6]
  have hb : (outsAt0 m c t.val t.isLt).1 = up fun j : S256x1536.Idx => dp a0 a1 ⟨t.val, lt4 t⟩ (j 0) (j 1) := by
    by_cases ht : t.val % 4 = 0
    · rw [outsAt0_A m c t ht ht]; frame_out; rw [cols m c h0 h1]
    · rw [outsAt0_B m c t ht ht]; frame_out; rw [cols m c h0 h1]
  rw [hb]
  idx_vars y
  have e : ((View.whole main_v5_0).slice (win0_6.rect t)).emb (ix2 y0 y1)
      = ix2 (⟨t.val * 256 + y0.val, by have := lt4 t; omega⟩ : Fin 1024) y1 := by blk_ext [idx t]
  rw [e]
  unfold G6
  rw [up_apply, up_apply]
  refine congrArg _ ?_
  show dp a0 a1 _ _ _ = dp a0 a1 _ _ _
  congr 1
  · exact Fin.ext (show t.val = (t.val * 256 + y0.val) / 256 by omega)
  · exact Fin.ext (show y0.val = (t.val * 256 + y0.val) % 256 by omega)

include h0 h1 h2 h4 h5 in
theorem value7 : (dats m 0 c).arrAt 7 cfg0.N = G7 a0 a1 a2 a4 a5 := by
  refine (dats m 0 c).arrAt_eq_of_covers 7 _ (by decide +kernel) fun t hf y => ?_
  blk_simp
  rw [after0_7]
  idx_vars y
  have ht : t.val % 4 = 3 := (flush0_7 t).mp hf
  have e : ((View.whole main_v5_1).slice (win0_7.rect t)).emb (ix3 y0 y1 y2) = ix3 y0 y1 y2 := by blk_ext [idx t]
  rw [e]
  obtain rfl : y0 = 0 := Subsingleton.elim _ _
  refine (Pipeline.eq_sum_fin_of_reset_step_apply_last
    (fun n h (j : Fin 8 × Fin 1024) => (outsAt0 m c n h).2.1 (ix3 0 j.1 j.2)) 4 (fun _ => 0)
    (fun t j => (term7 a0 a1 a2 a4 a5 ⟨t.val, lt4 t⟩ j.1 j.2 : EReal))
    (fun t ht j => o7A m c h0 h1 h2 h4 h5 t ht j.1 j.2) (fun t ht j => o7B m c h0 h1 h2 h4 h5 t ht j.1 j.2)
    (le_of_eq N_0) t (last t ht) (y1, y2)).trans ?_
  rw [zero_add, Reals.sum]
  rfl

include h0 h1 h2 h3 h5 in
theorem value8 : (dats m 0 c).arrAt 8 cfg0.N = G8 a0 a1 a2 a3 a5 := by
  refine (dats m 0 c).arrAt_eq_of_covers 8 _ (by decide +kernel) fun t hf y => ?_
  blk_simp
  rw [after0_8]
  idx_vars y
  have ht : t.val % 4 = 3 := (flush0_8 t).mp hf
  have e : ((View.whole main_v5_2).slice (win0_8.rect t)).emb (ix2 y0 y1) = ix2 y0 y1 := by blk_ext [idx t]
  rw [e]
  refine (Pipeline.eq_sum_fin_of_reset_step_apply_last
    (fun n h (j : Fin 8 × Fin 1024) => (outsAt0 m c n h).2.2 (ix2 j.1 j.2)) 4 (fun _ => 0)
    (fun t j => (term8 a0 a1 a2 a3 a5 ⟨t.val, lt4 t⟩ j.1 j.2 : EReal))
    (fun t ht j => o8A m c h0 h1 h2 h3 h5 t ht j.1 j.2) (fun t ht j => o8B m c h0 h1 h2 h3 h5 t ht j.1 j.2)
    (le_of_eq N_0) t (last t ht) (y0, y1)).trans ?_
  rw [zero_add, Reals.sum]
  rfl

end Run
end Cert.Kernel2Ideal.Norm
end
-- ==== Proof.NormCtxRef.lean ====
/- The gradient of the context tokens' norm, modulation and projection: what the reference computes, operation by
   operation, and its equality with the kernel's arrays. -/
module

public import proofs.«01_k».proof.Proof.NormCtx
public import proofs.«01_k».proof.Proof.Gen.Reference2Ideal.Run
public import proofs.«01_k».proof.Proof.Gen.Reference2Ideal.Read
public import proofs.«01_k».proof.Proof.Gen.Pre_finite_inc
public import proofs.«01_k».proof.Defs
public import Idealize.ShloMosaic.Lib.Quiescent

@[expose] public section

set_option maxRecDepth 16384

noncomputable section

namespace Cert.Reference2Ideal.Norm

open Cert.Reference2Ideal Cert.Reference2Ideal.Gen Cert.Reference2Ideal.Read Idealize.ShloMosaic
open Cert.Reals (up up_apply)
open Cert.Kernel2Ideal.Norm (dp dh xn)

variable (a0 a1 : S1024x1024.Idx → ℝ) (a2 : S4x256x1024.Idx → ℝ) (a3 : S6x1024.Idx → ℝ) (a4 : S1x1024.Idx → ℝ)
  (a5 : S1x1024x5632.Idx → ℝ)

theorem v43 : val_main_v43 (F := Ideal) (up a0) (up a1) = up fun j => dp a0 a1 (j 0) (j 1) (j 2) := by
  funext j; idx_vars j
  pointwise [val_main_v43, val_main_v40, val_main_v38, val_main_v42, val_main_v39, val_main_v41, val_main_v30, val_main_v32,
    val_main_v29, val_main_v31, up_apply, dp]
  simp only [Reals.add]
  by_cases h : j2.val < 512
  · rw [dif_pos h, dif_pos h]
  · rw [dif_neg h, dif_neg h]
    by_cases h' : j2.val < 1024
    · rw [dif_pos h', dif_pos (show j2.val - 512 < 512 by omega)]
    · rw [dif_neg h', dif_neg (show ¬ j2.val - 512 < 512 by omega)]
      simp only [show 512 + (j2.val - 512 - 512) = j2.val - 512 by omega, add_comm]

theorem v44 : val_main_v44 (F := Ideal) (up a0) (up a1) (up a5) = up fun j => dh a0 a1 a5 (j 0) (j 1) (j 2) := by
  funext j; idx_vars j
  unfold val_main_v44
  rw [v43]
  pointwise [val_main_v27, val_main_v26, up_apply, dh]
  simp only [Reals.mul, Reals.sum]

theorem v14 : val_main_v14 (F := Ideal) (up a2) = up fun j => xn a2 (j 0) (j 1) (j 2) := by
  funext j; idx_vars j
  pointwise [val_main_v14, val_main_v13, val_main_v12, val_main_v11, val_main_v10, val_main_v9, val_main_v8, val_main_v7, val_main_v6,
    val_main_v5, val_main_cst, val_main_cst_0, val_main_cst_1, up_apply, xn]
  simp only [Reals.mul, Reals.sum]
  rw [Reals.rms (Reals.sum_sq_nonneg _ _), Reals.mul]

theorem v47 : val_main_v47 (F := Ideal) (up a0) (up a1) (up a5) = up fun j => ∑ e : Fin 4, ∑ l : Fin 256, dh a0 a1 a5 e l (j 0) := by
  funext j; idx_vars j
  unfold val_main_v47 val_main_v46 val_main_v45
  rw [v44]
  pointwise [up_apply, Reals.hostSum01, val_main_cst_3, val_main_cst_4]
  simp only [Reals.sum, Fin.sum_univ_one]

theorem v53 : val_main_v53 (F := Ideal) (up a0) (up a1) (up a2) (up a4) (up a5)
    = up fun j => ∑ e : Fin 4, ∑ l : Fin 256, dh a0 a1 a5 e l (j 0) * xn a2 e l (j 0) * a4 (ix2 0 (j 0)) := by
  funext j; idx_vars j
  unfold val_main_v53 val_main_v50 val_main_v49 val_main_v48 val_main_v17
  rw [v44, v14]
  pointwise [up_apply, Reals.hostSum01, val_main_cst_5, val_main_cst_6, val_main_v16, val_main_v15, val_main_v4]
  simp only [Reals.mul, Reals.sum, Fin.sum_univ_one]
  refine congrArg _ (Finset.sum_congr rfl fun e _ => Finset.sum_congr rfl fun l _ => ?_)
  ring

theorem v57 : val_main_v57 (F := Ideal) (up a0) (up a1) (up a2) (up a3) (up a5)
    = up fun j => ∑ e : Fin 4, ∑ l : Fin 256, dh a0 a1 a5 e l (j 0) * (1 + a3 (ix2 1 (j 0))) * xn a2 e l (j 0) := by
  funext j; idx_vars j
  unfold val_main_v57 val_main_v56 val_main_v55 val_main_v54 val_main_v52
  rw [v44, v14]
  pointwise [up_apply, Reals.hostSum01, val_main_cst_7, val_main_cst_8, val_main_cst_2, val_main_v51, val_main_v20, val_main_v19, val_main_v18, val_main_v3, val_main_v2]
  simp only [Reals.one, Reals.add, Reals.mul, Reals.sum, Fin.sum_univ_one]
  refine congrArg _ (Finset.sum_congr rfl fun e _ => Finset.sum_congr rfl fun l _ => ?_)
  ring

theorem g6 : val_main_v59 (F := Ideal) (up a0) (up a1) = Cert.Kernel2Ideal.Norm.G6 a0 a1 := by
  funext j; idx_vars j
  unfold val_main_v59 val_main_v58
  rw [v43]
  unfold Cert.Kernel2Ideal.Norm.G6
  pointwise [up_apply]

theorem g7 : val_main_v64 (F := Ideal) (up a0) (up a1) (up a2) (up a4) (up a5) = Cert.Kernel2Ideal.Norm.G7 a0 a1 a2 a4 a5 := by
  funext j; idx_vars j
  unfold val_main_v64 val_main_v63 val_main_v62 val_main_cst_9 val_main_v61 val_main_v60
  rw [v53, v47]
  unfold Cert.Kernel2Ideal.Norm.G7 Cert.Kernel2Ideal.Norm.term7
  pointwise [up_apply]
  by_cases h : j1.val = 0
  · simp only [h, Nat.zero_lt_one, dite_true, ite_true]
  · by_cases h' : j1.val = 1
    · simp only [h', Nat.lt_irrefl, Nat.sub_self, Nat.zero_lt_one, one_ne_zero, dite_true, dite_false, ite_true, ite_false]
    · rw [dif_neg (show ¬ j1.val < 1 by omega), dif_neg (show ¬ j1.val - 1 < 1 by omega)]
      simp only [h, h', ite_false, Finset.sum_const_zero, EReal.coe_zero]

theorem g8 : val_main_v67 (F := Ideal) (up a0) (up a1) (up a2) (up a3) (up a5) = Cert.Kernel2Ideal.Norm.G8 a0 a1 a2 a3 a5 := by
  funext j; idx_vars j
  unfold val_main_v67 val_main_v66 val_main_cst_10 val_main_v65
  rw [v57]
  unfold Cert.Kernel2Ideal.Norm.G8 Cert.Kernel2Ideal.Norm.term8
  pointwise [up_apply]
  by_cases h : j0.val = 0
  · simp only [h, Nat.zero_lt_one, dite_true, ite_true]
  · rw [dif_neg (show ¬ j0.val < 1 by omega)]
    simp only [h, ite_false, Finset.sum_const_zero, EReal.coe_zero]

end Cert.Reference2Ideal.Norm

namespace Cert.Kernel2Ideal.Norm

open Cert.Kernel2Ideal Cert.Kernel2Ideal.Gen Idealize.ShloMosaic Idealize.ShloMosaic.TcCoe Idealize.SL.Sem
open Cert.Reals (up)

/-! ## The claims -/

theorem frame_r : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

theorem algebraic : Cert.algebraic_Kernel2Ideal_Reference2Ideal_pre_finite_inc := by
  intro m ρ m' ρ' hpre hagree
  refine ⟨_, _, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨p0, p1, p2, p3, p4, p5⟩ := hpre c
  obtain ⟨a0, h0⟩ : ∃ a : S1024x1024.Idx → ℝ, m ((c : Thread nD τ).loc main_arg0) = up a := Reals.lift_finite p0
  obtain ⟨a1, h1⟩ : ∃ a : S1024x1024.Idx → ℝ, m ((c : Thread nD τ).loc main_arg1) = up a := Reals.lift_finite p1
  obtain ⟨a2, h2⟩ : ∃ a : S4x256x1024.Idx → ℝ, m ((c : Thread nD τ).loc main_arg2) = up a := Reals.lift_finite p2
  obtain ⟨a3, h3⟩ : ∃ a : S6x1024.Idx → ℝ, m ((c : Thread nD τ).loc main_arg3) = up a := Reals.lift_finite p3
  obtain ⟨a4, h4⟩ : ∃ a : S1x1024.Idx → ℝ, m ((c : Thread nD τ).loc main_arg4) = up a := Reals.lift_finite p4
  obtain ⟨a5, h5⟩ : ∃ a : S1x1024x5632.Idx → ℝ, m ((c : Thread nD τ).loc main_arg5) = up a := Reals.lift_finite p5
  obtain ⟨q0, q1, q2, q3, q4, q5⟩ := hagree c
  refine ⟨(h c).1.trans ?_, (h c).2.1.trans ?_, (h c).2.2.1.trans ?_, (h c).2.2.2⟩ <;> clear h
  · refine (Cert.Reference2Ideal.Read.val_main_v59_eq _ _).trans (Eq.trans ?_ (value6 m c h0 h1).symm)
    rw [q0, q1, h0, h1]
    exact Cert.Reference2Ideal.Norm.g6 a0 a1
  · refine (Cert.Reference2Ideal.Read.val_main_v64_eq _ _).trans (Eq.trans ?_ (value7 m c h0 h1 h2 h4 h5).symm)
    rw [q0, q1, q2, q4, q5, h0, h1, h2, h4, h5]
    exact Cert.Reference2Ideal.Norm.g7 a0 a1 a2 a4 a5
  · refine (Cert.Reference2Ideal.Read.val_main_v67_eq _ _ _ _ _).trans (Eq.trans ?_ (value8 m c h0 h1 h2 h3 h5).symm)
    rw [q0, q1, q2, q3, q5, h0, h1, h2, h3, h5]
    exact Cert.Reference2Ideal.Norm.g8 a0 a1 a2 a3 a5

end Cert.Kernel2Ideal.Norm
end
-- ==== Proof.NormLat.lean ====
/- The gradient of the latent tokens' norm, modulation and projection: what the kernel writes. The kernel takes the rows in
   sixteen tiles of 512, four tiles to an example. Each tile's rows of the input's gradient are written once; the shift's and
   the scale's gradients grow over the four tiles of an example, the gain's over all sixteen. -/
module

public import proofs.«01_k».proof.Defs
public import proofs.«01_k».proof.Proof.Gen.Kernel3Ideal.Value
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Reals
public import proofs.«01_k».proof.Proof.Reads

@[expose] public section

set_option maxRecDepth 16384

noncomputable section

namespace Cert.Kernel3Ideal.Norm

open Cert.Kernel3Ideal Cert.Kernel3Ideal.Gen Idealize.ShloMosaic Idealize.ShloMosaic.TcCoe Idealize.SL.Sem
open Idealize.ShloMosaic.Pipeline (Dat)
open Cert.Reals (up up_apply)

section Spec

variable (a0 a1 : S8192x1536.Idx → ℝ) (a2 : S8192x3584.Idx → ℝ) (a3 a4 : S4x2048x1024.Idx → ℝ) (a5 : S4x6x1024.Idx → ℝ)
  (a6 : S1x1024.Idx → ℝ) (a7 : S1x1024x5632.Idx → ℝ)

/-- Row `r` of all tokens, as an example and a token of it. -/
def ex (r : Fin 8192) : Fin 4 := ⟨r.val / 2048, by omega⟩
def tok (r : Fin 8192) : Fin 2048 := ⟨r.val % 2048, by omega⟩

/-- The cotangent of the first 2048 projected columns at row `r`: the two scans' gate columns, then the columns they
    share, which add up. -/
def dp (r : Fin 8192) (k : Fin 2048) : ℝ :=
  if h : k.val < 512 then a0 (ix2 r ⟨k.val, by omega⟩)
  else if h : k.val < 1024 then a1 (ix2 r ⟨k.val - 512, by omega⟩)
  else a0 (ix2 r ⟨k.val - 512, by omega⟩) + a1 (ix2 r ⟨k.val - 512, by omega⟩)

/-- The cotangent of the modulated rows. -/
def dh (r : Fin 8192) (n : Fin 1024) : ℝ :=
  (∑ k : Fin 2048, dp a0 a1 r k * a7 (ix3 0 n ⟨k.val, by omega⟩)) + ∑ k : Fin 3584, a2 (ix2 r k) * a7 (ix3 0 n ⟨2048 + k.val, by omega⟩)

/-- The reciprocal root mean square of a row, and the row over its root mean square. -/
def rr (r : Fin 8192) : ℝ := (√((∑ j : Fin 1024, a3 (ix3 (ex r) (tok r) j) * a3 (ix3 (ex r) (tok r) j)) / 1024 + Reals.eps))⁻¹
def xn (r : Fin 8192) (n : Fin 1024) : ℝ := a3 (ix3 (ex r) (tok r) n) * rr a3 r

/-- The cotangent of the normalized rows. -/
def dxn (r : Fin 8192) (n : Fin 1024) : ℝ := dh a0 a1 a2 a7 r n * a6 (ix2 0 n) * (1 + a5 (ix3 (ex r) 1 n))

/-- The gradient of the tokens, with what the residual brings. -/
def dx (r : Fin 8192) (n : Fin 1024) : ℝ :=
  a4 (ix3 (ex r) (tok r) n) + rr a3 r * (dxn a0 a1 a2 a5 a6 a7 r n
    - xn a3 r n * ((∑ j : Fin 1024, dxn a0 a1 a2 a5 a6 a7 r j * xn a3 r j) / 1024))

/-- Token `l` of example `e`, as a row of all tokens. -/
def join (e : Fin 4) (l : Fin 2048) : Fin 8192 := ⟨e.val * 2048 + l.val, by omega⟩

/-- Row `l` of tile `t`. -/
def row (t : Fin 16) (l : Fin 512) : Fin 8192 := ⟨t.val * 512 + l.val, by omega⟩

/-- What tile `t` adds at row `s` of its example's block of shift and scale gradients, and of the gain's block. -/
def term9 (t : Fin 16) (s : Fin 8) (n : Fin 1024) : ℝ :=
  if s.val = 0 then ∑ l : Fin 512, dh a0 a1 a2 a7 (row t l) n
  else if s.val = 1 then ∑ l : Fin 512, dh a0 a1 a2 a7 (row t l) n * xn a3 (row t l) n * a6 (ix2 0 n)
  else 0
def term10 (t : Fin 16) (s : Fin 8) (n : Fin 1024) : ℝ :=
  if s.val = 0 then ∑ l : Fin 512, dh a0 a1 a2 a7 (row t l) n * (1 + a5 (ix3 (ex (row t l)) 1 n)) * xn a3 (row t l) n else 0

end Spec

/-! ## The payloads -/

theorem pay11 (v : S512x2048.Idx → ℝ) (u : S512x3584.Idx → ℝ) (w : S5632x1024.Idx → ℝ) (i i') :
    k0_pay11 (F := Ideal) (up v) (View.ld (Val := Elt Ideal) (e' := .bf16) (up w) (Rect.unit (s := S5632x1024) ![0, 0] ![2048, 1024] i))
      (up u) (View.ld (Val := Elt Ideal) (e' := .bf16) (up w) (Rect.unit (s := S5632x1024) ![2048, 0] ![3584, 1024] i'))
      = up fun j => (∑ k : Fin 2048, v (ix2 (j 0) k) * w (ix2 ⟨k.val, by omega⟩ (j 1)))
          + ∑ k : Fin 3584, u (ix2 (j 0) k) * w (ix2 ⟨2048 + k.val, by omega⟩ (j 1)) := by
  funext j; idx_vars j
  pointwise [k0_pay11, up_apply]
  simp only [Reals.mul, Reals.sum, Reals.add]

theorem pay12 (v : FVec Ideal S512x1024 .f32) : k0_pay12 (F := Ideal) v = v := by
  funext j; idx_vars j
  pointwise [k0_pay12]

theorem pay14 (v : S512x1024.Idx → ℝ) :
    k0_pay14 (F := Ideal) (up v) = up fun j => (√((∑ k : Fin 1024, v (ix2 (j 0) k) * v (ix2 (j 0) k)) / 1024 + Reals.eps))⁻¹ := by
  funext j; idx_vars j
  unfold k0_pay14
  rw [pay12]
  pointwise [up_apply]
  simp only [Reals.mul, Reals.sum]
  rw [Reals.rms (Reals.sum_sq_nonneg _ _)]

theorem pay15 (v : S512x1024.Idx → ℝ) :
    k0_pay15 (F := Ideal) (up v) = up fun j => (√((∑ k : Fin 1024, v (ix2 (j 0) k) * v (ix2 (j 0) k)) / 1024 + Reals.eps))⁻¹ := by
  funext j; idx_vars j
  unfold k0_pay15
  rw [pay14]
  pointwise [up_apply]

theorem pay16 (v w : S512x1024.Idx → ℝ) : k0_pay16 (F := Ideal) (up v) (up w) = up fun j => v j * w j := by
  funext j; idx_vars j
  pointwise [k0_pay16, up_apply]
  simp only [Reals.mul]

theorem scale (f : S1x6x1024.Idx → ℝ) (i) :
    k0_pay13 (F := Ideal) (View.ld (Val := Elt Ideal) (e' := .f32) (up f) (Rect.unit (s := S1x6x1024) ![0, 1, 0] ![1, 1, 1024] i))
      = up fun j : S1x1024.Idx => f (ix3 0 1 (j 1)) := by
  funext j; idx_vars j
  pointwise [k0_pay13, up_apply]

theorem pay2 : k0_pay2 (F := Ideal) = up fun _ => 0 := by
  funext j; idx_vars j
  pointwise [k0_pay2, up_apply]
  rfl

theorem pay3 : k0_pay3 (F := Ideal) = up fun _ => 0 := by
  funext j; idx_vars j
  pointwise [k0_pay3, up_apply]
  rfl

theorem pay17 (v : S512x1024.Idx → ℝ) (w : FVec Ideal S1x1x1024 .f32) (j : S1x1x1024.Idx) :
    k0_pay17 (F := Ideal) (up v) w j = w (ix3 0 0 (j 2)) + ((∑ l : Fin 512, v (ix2 l (j 2)) : ℝ) : EReal) := by
  idx_vars j
  pointwise [k0_pay17, up_apply]
  simp only [Reals.sum]

theorem pay18 (v x r : S512x1024.Idx → ℝ) (g : S1x1024.Idx → ℝ) (w : FVec Ideal S1x1x1024 .f32) (j : S1x1x1024.Idx) :
    k0_pay18 (F := Ideal) (up v) (up x) (up g) (up r) w j = w (ix3 0 0 (j 2)) + ((∑ l : Fin 512, v (ix2 l (j 2))
      * (x (ix2 l (j 2)) * r (ix2 l (j 2))) * g (ix2 0 (j 2)) : ℝ) : EReal) := by
  idx_vars j
  unfold k0_pay18
  rw [pay16]
  pointwise [up_apply]
  simp only [Reals.mul, Reals.sum]

theorem pay19 (v x r : S512x1024.Idx → ℝ) (s : S1x1024.Idx → ℝ) (w : FVec Ideal S1x1024 .f32) (j : S1x1024.Idx) :
    k0_pay19 (F := Ideal) (up v) (up x) (up s) (up r) w j = w (ix2 0 (j 1)) + ((∑ l : Fin 512, v (ix2 l (j 1)) * (1 + s (ix2 0 (j 1)))
      * (x (ix2 l (j 1)) * r (ix2 l (j 1))) : ℝ) : EReal) := by
  idx_vars j
  obtain rfl : j0 = 0 := Subsingleton.elim _ _
  unfold k0_pay19
  rw [pay16]
  pointwise [up_apply]
  simp only [Reals.one, Reals.add, Reals.mul, Reals.sum]

theorem pay20 (v : S512x1024.Idx → ℝ) (g : S1x1024.Idx → ℝ) : k0_pay20 (F := Ideal) (up v) (up g) = up fun j => v j * g (ix2 0 (j 1)) := by
  funext j; idx_vars j
  pointwise [k0_pay20, up_apply]
  simp only [Reals.mul]

theorem pay21 (s : S1x1024.Idx → ℝ) : k0_pay21 (F := Ideal) (up s) = up fun j => 1 + s (ix2 0 (j 1)) := by
  funext j; idx_vars j
  pointwise [k0_pay21, up_apply]
  simp only [Reals.one, Reals.add]

theorem pay1 (r : S512x1.Idx → ℝ) (x v s y : S512x1024.Idx → ℝ) :
    k0_pay1 (F := Ideal) (up r) (up x) (up v) (up s) (up y) = up fun j => y j + r (ix2 (j 0) 0) * (v j * s j
      - x j * ((∑ k : Fin 1024, v (ix2 (j 0) k) * s (ix2 (j 0) k) * x (ix2 (j 0) k)) / 1024)) := by
  funext j; idx_vars j
  pointwise [k0_pay1, up_apply]
  simp only [Reals.mul, Reals.sum, Reals.ofBits_1024]
  rw [Reals.div _ _ (by norm_num)]
  simp only [Reals.mul, Reals.sub, Reals.add]

/-! ## Rows, tiles and examples -/

theorem ex_join (e : Fin 4) (l : Fin 2048) : ex (join e l) = e := Fin.ext (show (e.val * 2048 + l.val) / 2048 = e.val by omega)
theorem tok_join (e : Fin 4) (l : Fin 2048) : tok (join e l) = l := Fin.ext (show (e.val * 2048 + l.val) % 2048 = l.val by omega)

/-- The four tiles of an example hold its rows, the sixteen tiles all rows. -/
theorem tiles (f : Fin 8192 → ℝ) (e : Fin 4) :
    (∑ s : Fin 4, ∑ l : Fin 512, f (row ⟨4 * e.val + s.val, by omega⟩ l)) = ∑ l : Fin 2048, f (join e l) := by
  rw [← Reals.sum_blocks (P := 4) (L := 512) rfl]
  refine Finset.sum_congr rfl fun s _ => Finset.sum_congr rfl fun l _ => congrArg f (Fin.ext ?_)
  simp only [row, join]
  omega

theorem tiles_all (f : Fin 8192 → ℝ) :
    (∑ t : Fin 16, ∑ l : Fin 512, f (row t l)) = ∑ e : Fin 4, ∑ l : Fin 2048, f (join e l) :=
  (Reals.sum_blocks (P := 16) (L := 512) rfl f).trans (Reals.sum_blocks (P := 4) (L := 2048) rfl f).symm

section Run

variable (m : (ℓ : Loc nD τ sig) → Buf (Elt Ideal) ℓ) (c : Dev nD)
  {a0 a1 : S8192x1536.Idx → ℝ} {a2 : S8192x3584.Idx → ℝ} {a3 a4 : S4x2048x1024.Idx → ℝ} {a5 : S4x6x1024.Idx → ℝ}
  {a6 : S1x1024.Idx → ℝ} {a7 : S1x1024x5632.Idx → ℝ}

theorem idx : ∀ t : Fin cfg0.N,
    (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) ∧
    (win0_4.index t 0 = t.val ∧ win0_4.index t 1 = 0) ∧
    (win0_5.index t 0 = t.val / 4 ∧ win0_5.index t 1 = 0 ∧ win0_5.index t 2 = 0) ∧
    (win0_6.index t 0 = 0 ∧ win0_6.index t 1 = 0) ∧ (win0_7.index t 0 = 0 ∧ win0_7.index t 1 = 0) ∧
    (win0_8.index t 0 = t.val ∧ win0_8.index t 1 = 0) ∧
    (win0_9.index t 0 = t.val / 4 ∧ win0_9.index t 1 = 0 ∧ win0_9.index t 2 = 0) ∧ (win0_10.index t 0 = 0 ∧ win0_10.index t 1 = 0) :=
  (by decide +kernel : ∀ t : Fin grid0.N, _)

theorem lt16 (t : Fin cfg0.N) : t.val < 16 := lt_of_lt_of_eq t.isLt N_0

/-- A grid point's tile. -/
def tl (t : Fin cfg0.N) : Fin 16 := ⟨t.val, lt16 t⟩

theorem blk0 (h : m ((c : Thread nD τ).loc main_arg0) = up a0) (t : Fin cfg0.N) :
    iblk m c 0 t = up fun j : S512x1536.Idx => a0 (ix2 (row (tl t) (j 0)) (j 1)) := by
  funext j; idx_vars j
  rw [up_apply, ← up_apply a0, ← h]
  blk_ext [iblk, V, idx t, row, tl]

theorem blk1 (h : m ((c : Thread nD τ).loc main_arg1) = up a1) (t : Fin cfg0.N) :
    iblk m c 1 t = up fun j : S512x1536.Idx => a1 (ix2 (row (tl t) (j 0)) (j 1)) := by
  funext j; idx_vars j
  rw [up_apply, ← up_apply a1, ← h]
  blk_ext [iblk, V, idx t, row, tl]

theorem blk2 (h : m ((c : Thread nD τ).loc main_arg2) = up a2) (t : Fin cfg0.N) :
    iblk m c 2 t = up fun j : S512x3584.Idx => a2 (ix2 (row (tl t) (j 0)) (j 1)) := by
  funext j; idx_vars j
  rw [up_apply, ← up_apply a2, ← h]
  blk_ext [iblk, V, idx t, row, tl]

theorem blk3 (h : m ((c : Thread nD τ).loc main_arg3) = up a3) (t : Fin cfg0.N) :
    iblk m c 3 t = up fun j : S512x1024.Idx => a3 (ix3 (ex (row (tl t) (j 0))) (tok (row (tl t) (j 0))) (j 1)) := by
  funext j; idx_vars j
  rw [up_apply, ← up_apply a3, ← h]
  blk_ext! [iblk, V, idx t, row, tl, ex, tok]

theorem blk4 (h : m ((c : Thread nD τ).loc main_arg4) = up a4) (t : Fin cfg0.N) :
    iblk m c 4 t = up fun j : S512x1024.Idx => a4 (ix3 (ex (row (tl t) (j 0))) (tok (row (tl t) (j 0))) (j 1)) := by
  funext j; idx_vars j
  rw [up_apply, ← up_apply a4, ← h]
  blk_ext! [iblk, V, idx t, row, tl, ex, tok]

theorem blk5 (h : m ((c : Thread nD τ).loc main_arg5) = up a5) (t : Fin cfg0.N) :
    iblk m c 5 t = up fun j : S1x6x1024.Idx => a5 (ix3 ⟨t.val / 4, by have := lt16 t; omega⟩ (j 1) (j 2)) := by
  funext j; idx_vars j
  rw [up_apply, ← up_apply a5, ← h]
  blk_ext [iblk, V, idx t]

theorem blk6 (h : m ((c : Thread nD τ).loc main_arg6) = up a6) (t : Fin cfg0.N) : iblk m c 6 t = up a6 := by
  funext j; idx_vars j
  rw [← h]
  blk_ext! [iblk, V, idx t]

theorem blk7 (h : m ((c : Thread nD τ).loc main_arg7) = up a7) (t : Fin cfg0.N) :
    iblk m c 7 t = up fun j : S5632x1024.Idx => a7 (ix3 0 (j 1) (j 0)) := by
  funext j; idx_vars j
  rw [up_apply, ← up_apply a7, ← h]
  blk_ext! [iblk, V, idx t]

theorem ex_row (t : Fin cfg0.N) (l : Fin 512) : ex (row (tl t) l) = ⟨t.val / 4, by have := lt16 t; omega⟩ :=
  Fin.ext (show (t.val * 512 + l.val) / 2048 = t.val / 4 by omega)

/-- What the four column stores leave in the block of projected cotangents. -/
theorem cols (h0 : m ((c : Thread nD τ).loc main_arg0) = up a0) (h1 : m ((c : Thread nD τ).loc main_arg1) = up a1) (t : Fin cfg0.N)
    (i1 i2 i3 i4) :
    View.canon (Val := Elt Ideal) (s := S512x2048) (e := .bf16)
      [⟨Rect.unit ![0, 1536] ![512, 512] i1, k0_pay10 (F := Ideal) (k0_pay5 (F := Ideal) (iblk m c 0 t) (iblk m c 1 t))⟩,
        ⟨Rect.unit ![0, 1024] ![512, 512] i2, k0_pay9 (F := Ideal) (k0_pay4 (F := Ideal) (iblk m c 0 t) (iblk m c 1 t))⟩,
        ⟨Rect.unit ![0, 512] ![512, 512] i3, k0_pay8 (F := Ideal) (k0_pay7 (F := Ideal) (iblk m c 1 t))⟩,
        ⟨Rect.unit ![0, 0] ![512, 512] i4, k0_pay6 (F := Ideal) (iblk m c 0 t)⟩]
      = up fun j => dp a0 a1 (row (tl t) (j 0)) (j 1) := by
  funext j; idx_vars j
  rw [Reads.canon2, Reads.canon2, Reads.canon2, Reads.canon2, blk0 m c h0, blk1 m c h1]
  unfold dp
  pointwise [k0_pay4, k0_pay5, k0_pay6, k0_pay7, k0_pay8, k0_pay9, k0_pay10, up_apply]
  simp only [Reals.add]
  have := j1.isLt
  have := j0.isLt
  split_ifs <;> first
    | omega
    | rfl
    | (refine congrArg _ (congrArg₂ _ (congrArg _ ?_) (congrArg _ ?_)) <;> (congr 1; apply Fin.ext; dsimp only; omega))

variable (h0 : m ((c : Thread nD τ).loc main_arg0) = up a0) (h1 : m ((c : Thread nD τ).loc main_arg1) = up a1)
  (h2 : m ((c : Thread nD τ).loc main_arg2) = up a2) (h3 : m ((c : Thread nD τ).loc main_arg3) = up a3)
  (h4 : m ((c : Thread nD τ).loc main_arg4) = up a4) (h5 : m ((c : Thread nD τ).loc main_arg5) = up a5)
  (h6 : m ((c : Thread nD τ).loc main_arg6) = up a6) (h7 : m ((c : Thread nD τ).loc main_arg7) = up a7)

/-- The cotangent of the tile's modulated rows, from the stored columns and the two parts of the weights. -/
theorem prod (t : Fin cfg0.N) (i i') (v : S512x2048.Idx → ℝ) (hv : v = fun j => dp a0 a1 (row (tl t) (j 0)) (j 1)) :
    k0_pay11 (F := Ideal) (up v)
      (View.ld (Val := Elt Ideal) (e' := .bf16) (up fun j : S5632x1024.Idx => a7 (ix3 0 (j 1) (j 0))) (Rect.unit (s := S5632x1024) ![0, 0] ![2048, 1024] i))
      (up fun j : S512x3584.Idx => a2 (ix2 (row (tl t) (j 0)) (j 1)))
      (View.ld (Val := Elt Ideal) (e' := .bf16) (up fun j : S5632x1024.Idx => a7 (ix3 0 (j 1) (j 0))) (Rect.unit (s := S5632x1024) ![2048, 0] ![3584, 1024] i'))
      = up fun j => dh a0 a1 a2 a7 (row (tl t) (j 0)) (j 1) := by
  subst hv
  rw [pay11]
  rfl

include h0 h1 h2 h3 h4 h5 h6 h7 in
/-- The tile's rows of the tokens' gradient. -/
theorem o8 (t : Fin cfg0.N) : (outsAt0 m c t.val t.isLt).1 = up fun j : S512x1024.Idx => dx a0 a1 a2 a3 a4 a5 a6 a7 (row (tl t) (j 0)) (j 1) := by
  have key : ∀ i i' i3,
      k0_pay1 (F := Ideal) (k0_pay14 (F := Ideal) (iblk m c 3 t))
        (k0_pay16 (F := Ideal) (iblk m c 3 t) (k0_pay15 (F := Ideal) (iblk m c 3 t)))
        (k0_pay20 (F := Ideal) (k0_pay11 (F := Ideal) (up fun j => dp a0 a1 (row (tl t) (j 0)) (j 1))
          (View.ld (Val := Elt Ideal) (e' := .bf16) (iblk m c 7 t) (Rect.unit (s := S5632x1024) ![0, 0] ![2048, 1024] i)) (iblk m c 2 t)
          (View.ld (Val := Elt Ideal) (e' := .bf16) (iblk m c 7 t) (Rect.unit (s := S5632x1024) ![2048, 0] ![3584, 1024] i'))) (iblk m c 6 t))
        (k0_pay21 (F := Ideal) (k0_pay13 (F := Ideal) (View.ld (Val := Elt Ideal) (e' := .f32) (iblk m c 5 t) (Rect.unit (s := S1x6x1024) ![0, 1, 0] ![1, 1, 1024] i3))))
        (iblk m c 4 t)
      = up fun j : S512x1024.Idx => dx a0 a1 a2 a3 a4 a5 a6 a7 (row (tl t) (j 0)) (j 1) := by
    intro i i' i3
    simp only [blk2 m c h2, blk3 m c h3, blk4 m c h4, blk5 m c h5, blk6 m c h6, blk7 m c h7, prod t _ _ _ rfl, pay14, pay15, pay16, scale, pay20, pay21, pay1]
    funext j; idx_vars j
    simp only [up_apply]
    unfold dx dxn xn rr
    pointwise [ex_row]
  by_cases h : t.val % 4 = 0
  · by_cases h' : t.val % 16 = 0
    · rw [outsAt0_A m c t h' h]; frame_out
      rw [Reads.whole2, cols m c h0 h1]
      rw [pay12]
      exact key _ _ _
    · rw [outsAt0_C m c t h' h]; frame_out
      rw [Reads.whole2, cols m c h0 h1]
      rw [pay12]
      exact key _ _ _
  · rw [outsAt0_B m c t (by omega) h]; frame_out
    rw [Reads.whole2, cols m c h0 h1]
    rw [pay12]
    exact key _ _ _

include h0 h1 h2 h3 h6 h7 in
theorem o9R (t : Fin cfg0.N) (ht : t.val % 4 = 0) (r : Fin 8) (k : Fin 1024) :
    (outsAt0 m c t.val t.isLt).2.1 (ix3 0 r k) = 0 + (term9 a0 a1 a2 a3 a6 a7 (tl t) r k : EReal) := by
  by_cases h : t.val % 16 = 0
  · rw [outsAt0_A m c t h ht]; frame_open
    dsimp only
    simp (disch := decide) only [↓ View.readCov_skip, ↓ View.readCov_cons_toLoadRect, ↓ View.readCov_fill]; frame_out
    simp only [Reads.whole2, cols m c h0 h1, blk2 m c h2, blk3 m c h3, blk6 m c h6, blk7 m c h7, prod t _ _ _ rfl, pay12, pay3, pay15]
    simp only [Reads.ld_up, pay17, pay18, Reads.canon3, up_apply]
    unfold term9 xn rr
    have := r.isLt
    have := k.isLt
    split_ifs <;> first | omega | skip
    all_goals pointwise
    all_goals simp only [EReal.coe_zero, zero_add]
  · rw [outsAt0_C m c t h ht]; frame_open
    dsimp only
    simp (disch := decide) only [↓ View.readCov_skip, ↓ View.readCov_cons_toLoadRect, ↓ View.readCov_fill]; frame_out
    simp only [Reads.whole2, cols m c h0 h1, blk2 m c h2, blk3 m c h3, blk6 m c h6, blk7 m c h7, prod t _ _ _ rfl, pay12, pay3, pay15]
    simp only [Reads.ld_up, pay17, pay18, Reads.canon3, up_apply]
    unfold term9 xn rr
    have := r.isLt
    have := k.isLt
    split_ifs <;> first | omega | skip
    all_goals pointwise
    all_goals simp only [EReal.coe_zero, zero_add]

include h0 h1 h2 h3 h6 h7 in
theorem o9S (t : Fin cfg0.N) (ht : ¬ t.val % 4 = 0) (r : Fin 8) (k : Fin 1024) :
    (outsAt0 m c t.val t.isLt).2.1 (ix3 0 r k) = (outsAt0 m c (t.val - 1) (Nat.lt_of_le_of_lt (Nat.sub_le _ _) t.isLt)).2.1 (ix3 0 r k)
      + (term9 a0 a1 a2 a3 a6 a7 (tl t) r k : EReal) := by
  rw [outsAt0_B m c t (by omega) ht]
  generalize (outsAt0 m c (t.val - 1) _).2.1 = X
  frame_out
  simp only [Reads.whole2, cols m c h0 h1, blk2 m c h2, blk3 m c h3, blk6 m c h6, blk7 m c h7, prod t _ _ _ rfl, pay12, pay3, pay15,
    pay17, pay18, Reads.written3, View.writes_nil, Memref.IsWhole.read_unread, up_apply]
  unfold term9 xn rr
  have := r.isLt
  have := k.isLt
  split_ifs <;> first | omega | skip
  · obtain rfl : r = 1 := Fin.ext ‹_›
    pointwise
  · obtain rfl : r = 0 := Fin.ext ‹_›
    pointwise
  · rw [EReal.coe_zero, add_zero]

include h0 h1 h2 h3 h5 h7 in
theorem o10R (t : Fin cfg0.N) (ht : t.val % 16 = 0) (r : Fin 8) (k : Fin 1024) :
    (outsAt0 m c t.val t.isLt).2.2 (ix2 r k) = 0 + (term10 a0 a1 a2 a3 a5 a7 (tl t) r k : EReal) := by
  rw [outsAt0_A m c t ht (by omega)]; frame_open
  dsimp only
  simp (disch := decide) only [↓ View.readCov_skip, ↓ View.readCov_cons_toLoadRect, ↓ View.readCov_fill]; frame_out
  simp only [Reads.whole2, cols m c h0 h1, blk2 m c h2, blk3 m c h3, blk5 m c h5, blk7 m c h7, prod t _ _ _ rfl, pay12, pay2, pay15, scale]
  simp only [Reads.ld_up, pay19, Reads.canon2, up_apply]
  unfold term10 xn rr
  have := r.isLt
  have := k.isLt
  split_ifs <;> first | omega | skip
  · pointwise [ex_row]
    rw [EReal.coe_zero, zero_add]
  · rw [EReal.coe_zero, zero_add]

include h0 h1 h2 h3 h5 h7 in
theorem o10S (t : Fin cfg0.N) (ht : ¬ t.val % 16 = 0) (r : Fin 8) (k : Fin 1024) :
    (outsAt0 m c t.val t.isLt).2.2 (ix2 r k) = (outsAt0 m c (t.val - 1) (Nat.lt_of_le_of_lt (Nat.sub_le _ _) t.isLt)).2.2 (ix2 r k)
      + (term10 a0 a1 a2 a3 a5 a7 (tl t) r k : EReal) := by
  by_cases h : t.val % 4 = 0
  · rw [outsAt0_C m c t ht h]
    generalize (outsAt0 m c (t.val - 1) _).2.2 = X
    frame_open
    frame_out
    simp only [Reads.whole2, cols m c h0 h1, blk2 m c h2, blk3 m c h3, blk5 m c h5, blk7 m c h7, prod t _ _ _ rfl, pay12, pay2, pay15, scale, pay19,
      Reads.written2, View.writes_nil, Memref.IsWhole.read_unread, up_apply]
    unfold term10 xn rr
    have := r.isLt
    have := k.isLt
    split_ifs <;> first | omega | skip
    · obtain rfl : r = 0 := Fin.ext ‹_›
      pointwise [ex_row]
    · rw [EReal.coe_zero, add_zero]
  · rw [outsAt0_B m c t ht h]
    generalize (outsAt0 m c (t.val - 1) _).2.2 = X
    frame_out
    simp only [Reads.whole2, cols m c h0 h1, blk2 m c h2, blk3 m c h3, blk5 m c h5, blk7 m c h7, prod t _ _ _ rfl, pay12, pay2, pay15, scale, pay19,
      Reads.written2, View.writes_nil, Memref.IsWhole.read_unread, up_apply]
    unfold term10 xn rr
    have := r.isLt
    have := k.isLt
    split_ifs <;> first | omega | skip
    · obtain rfl : r = 0 := Fin.ext ‹_›
      pointwise [ex_row]
    · rw [EReal.coe_zero, add_zero]

/-- The three arrays after the run. -/
def G8 (a0 a1 : S8192x1536.Idx → ℝ) (a2 : S8192x3584.Idx → ℝ) (a3 a4 : S4x2048x1024.Idx → ℝ) (a5 : S4x6x1024.Idx → ℝ)
    (a6 : S1x1024.Idx → ℝ) (a7 : S1x1024x5632.Idx → ℝ) : S8192x1024.Idx → EReal := up fun j => dx a0 a1 a2 a3 a4 a5 a6 a7 (j 0) (j 1)
def g9 (a0 a1 : S8192x1536.Idx → ℝ) (a2 : S8192x3584.Idx → ℝ) (a3 : S4x2048x1024.Idx → ℝ) (a6 : S1x1024.Idx → ℝ)
    (a7 : S1x1024x5632.Idx → ℝ) (e : Fin 4) (s : Fin 8) (n : Fin 1024) : ℝ :=
  if s.val = 0 then ∑ l : Fin 2048, dh a0 a1 a2 a7 (join e l) n
  else if s.val = 1 then ∑ l : Fin 2048, dh a0 a1 a2 a7 (join e l) n * xn a3 (join e l) n * a6 (ix2 0 n)
  else 0
def G9 (a0 a1 : S8192x1536.Idx → ℝ) (a2 : S8192x3584.Idx → ℝ) (a3 : S4x2048x1024.Idx → ℝ) (a6 : S1x1024.Idx → ℝ)
    (a7 : S1x1024x5632.Idx → ℝ) : S4x8x1024.Idx → EReal := up fun j => g9 a0 a1 a2 a3 a6 a7 (j 0) (j 1) (j 2)
def g10 (a0 a1 : S8192x1536.Idx → ℝ) (a2 : S8192x3584.Idx → ℝ) (a3 : S4x2048x1024.Idx → ℝ) (a5 : S4x6x1024.Idx → ℝ)
    (a7 : S1x1024x5632.Idx → ℝ) (s : Fin 8) (n : Fin 1024) : ℝ :=
  if s.val = 0 then ∑ e : Fin 4, ∑ l : Fin 2048,
    dh a0 a1 a2 a7 (join e l) n * (1 + a5 (ix3 (ex (join e l)) 1 n)) * xn a3 (join e l) n
  else 0
def G10 (a0 a1 : S8192x1536.Idx → ℝ) (a2 : S8192x3584.Idx → ℝ) (a3 : S4x2048x1024.Idx → ℝ) (a5 : S4x6x1024.Idx → ℝ)
    (a7 : S1x1024x5632.Idx → ℝ) : S8x1024.Idx → EReal := up fun j => g10 a0 a1 a2 a3 a5 a7 (j 0) (j 1)

theorem last (t : Fin cfg0.N) (ht : t.val % 16 = 15) : t.val + 1 = cfg0.N := by
  have := lt16 t
  exact (show t.val + 1 = 16 by omega).trans N_0.symm

include h0 h1 h2 h3 h4 h5 h6 h7 in
theorem value8 : (dats m 0 c).arrAt 8 cfg0.N = G8 a0 a1 a2 a3 a4 a5 a6 a7 := by
  refine (dats m 0 c).arrAt_eq_of_covers 8 _ (by decide +kernel) fun t hf y => ?_
  blk_simp
  rw [after0_8, o8 m c h0 h1 h2 h3 h4 h5 h6 h7]
  idx_vars y
  have e : ((View.whole main_v5_0).slice (win0_8.rect t)).emb (ix2 y0 y1) = ix2 (row (tl t) y0) y1 := by blk_ext [idx t, row, tl]
  rw [e]
  rfl

include h0 h1 h2 h3 h6 h7 in
theorem value9 : (dats m 0 c).arrAt 9 cfg0.N = G9 a0 a1 a2 a3 a6 a7 := by
  refine (dats m 0 c).arrAt_eq_of_covers 9 _ (by decide +kernel) fun t hf y => ?_
  blk_simp
  rw [after0_9]
  idx_vars y
  have ht : t.val % 4 = 3 := (flush0_9 t).mp hf
  have e : ((View.whole main_v5_1).slice (win0_9.rect t)).emb (ix3 y0 y1 y2)
      = ix3 (⟨t.val / 4, by have := lt16 t; omega⟩ : Fin 4) y1 y2 := by blk_ext [idx t]
  rw [e]
  obtain rfl : y0 = 0 := Subsingleton.elim _ _
  refine (Pipeline.eq_sum_fin_of_reset_step_apply_of_flush
    (fun n h (j : Fin 8 × Fin 1024) => (outsAt0 m c n h).2.1 (ix3 0 j.1 j.2)) 4 (fun _ => 0)
    (fun t j => (term9 a0 a1 a2 a3 a6 a7 (tl t) j.1 j.2 : EReal))
    (fun t ht j => o9R m c h0 h1 h2 h3 h6 h7 t ht j.1 j.2) (fun t ht j => o9S m c h0 h1 h2 h3 h6 h7 t ht j.1 j.2)
    t ht (y1, y2)).trans ?_
  rw [zero_add, Reals.sum]
  refine congrArg _ ?_
  show (∑ s : Fin 4, term9 a0 a1 a2 a3 a6 a7 ⟨4 * (t.val / 4) + s.val, _⟩ y1 y2) = g9 a0 a1 a2 a3 a6 a7 ⟨t.val / 4, _⟩ y1 y2
  unfold term9 g9
  split_ifs with p q
  · exact tiles (fun r => dh a0 a1 a2 a7 r y2) ⟨t.val / 4, _⟩
  · exact tiles (fun r => dh a0 a1 a2 a7 r y2 * xn a3 r y2 * a6 (ix2 0 y2)) ⟨t.val / 4, _⟩
  · exact Finset.sum_const_zero

include h0 h1 h2 h3 h5 h7 in
theorem value10 : (dats m 0 c).arrAt 10 cfg0.N = G10 a0 a1 a2 a3 a5 a7 := by
  refine (dats m 0 c).arrAt_eq_of_covers 10 _ (by decide +kernel) fun t hf y => ?_
  blk_simp
  rw [after0_10]
  idx_vars y
  have ht : t.val % 16 = 15 := (flush0_10 t).mp hf
  have e : ((View.whole main_v5_2).slice (win0_10.rect t)).emb (ix2 y0 y1) = ix2 y0 y1 := by blk_ext [idx t]
  rw [e]
  refine (Pipeline.eq_sum_fin_of_reset_step_apply_last
    (fun n h (j : Fin 8 × Fin 1024) => (outsAt0 m c n h).2.2 (ix2 j.1 j.2)) 16 (fun _ => 0)
    (fun t j => (term10 a0 a1 a2 a3 a5 a7 (tl t) j.1 j.2 : EReal))
    (fun t ht j => o10R m c h0 h1 h2 h3 h5 h7 t ht j.1 j.2) (fun t ht j => o10S m c h0 h1 h2 h3 h5 h7 t ht j.1 j.2)
    (le_of_eq N_0) t (last t ht) (y0, y1)).trans ?_
  rw [zero_add, Reals.sum]
  refine congrArg _ ?_
  show (∑ t : Fin 16, term10 a0 a1 a2 a3 a5 a7 t y0 y1) = g10 a0 a1 a2 a3 a5 a7 y0 y1
  unfold term10 g10
  split_ifs with p
  · exact tiles_all fun r => dh a0 a1 a2 a7 r y1 * (1 + a5 (ix3 (ex r) 1 y1)) * xn a3 r y1
  · exact Finset.sum_const_zero

end Run
end Cert.Kernel3Ideal.Norm
end
-- ==== Proof.NormLatRef.lean ====
/- The gradient of the latent tokens' norm, modulation and projection: what the reference computes, operation by
   operation, and its equality with the kernel's arrays. -/
module

public import proofs.«01_k».proof.Proof.NormLat
public import proofs.«01_k».proof.Proof.Gen.Reference3Ideal.Run
public import proofs.«01_k».proof.Proof.Gen.Reference3Ideal.Read
public import proofs.«01_k».proof.Proof.Gen.Pre_finite_inl
public import proofs.«01_k».proof.Defs
public import Idealize.ShloMosaic.Lib.Quiescent

@[expose] public section

set_option maxRecDepth 16384

noncomputable section

namespace Cert.Reference3Ideal.Norm

open Cert.Reference3Ideal Cert.Reference3Ideal.Gen Cert.Reference3Ideal.Read Idealize.ShloMosaic
open Cert.Reals (up up_apply)
open Cert.Kernel3Ideal.Norm (dp dh xn rr dxn dx join ex tok ex_join tok_join G8 G9 G10)

variable (a0 a1 : S8192x1536.Idx → ℝ) (a2 : S8192x3584.Idx → ℝ) (a3 a4 : S4x2048x1024.Idx → ℝ) (a5 : S4x6x1024.Idx → ℝ)
  (a6 : S1x1024.Idx → ℝ) (a7 : S1x1024x5632.Idx → ℝ)

/-- The cotangent of all projected columns. -/
def dpa (r : Fin 8192) (k : Fin 5632) : ℝ :=
  if h : k.val < 2048 then dp a0 a1 r ⟨k.val, h⟩ else a2 (ix2 r ⟨k.val - 2048, by omega⟩)

theorem v52 : val_main_v52 (F := Ideal) (up a0) (up a1) (up a2) = up fun j => dpa a0 a1 a2 (join (j 0) (j 1)) (j 2) := by
  funext j; idx_vars j
  pointwise [val_main_v52, val_main_v51, val_main_v50, val_main_v49, val_main_v48, val_main_v47, val_main_v46, val_main_v45,
    val_main_v44, val_main_v5, val_main_v4, val_main_v3, val_main_v2, val_main_v1, val_main_v0, up_apply, dpa, dp, join]
  simp only [Reals.add]
  by_cases h1 : j2.val < 512
  · simp only [h1, show j2.val < 2048 by omega, dite_true]
  by_cases h2 : j2.val < 1024
  · simp only [h1, h2, show j2.val - 512 < 512 by omega, show j2.val < 2048 by omega, dite_true, dite_false]
  by_cases h3 : j2.val < 1536
  · simp only [h1, h2, show ¬ j2.val - 512 < 512 by omega, show j2.val - 512 - 512 < 512 by omega, show j2.val < 2048 by omega,
      show 512 + (j2.val - 512 - 512) = j2.val - 512 by omega, dite_true, dite_false, add_comm]
  by_cases h4 : j2.val < 2048
  · simp only [h1, h2, h4, show ¬ j2.val - 512 < 512 by omega, show ¬ j2.val - 512 - 512 < 512 by omega,
      show j2.val - 512 - 512 - 512 < 512 by omega, show 1024 + (j2.val - 512 - 512 - 512) = j2.val - 512 by omega,
      dite_true, dite_false, add_comm]
  · simp only [h1, h4, show ¬ j2.val - 512 < 512 by omega, show ¬ j2.val - 512 - 512 < 512 by omega,
      show ¬ j2.val - 512 - 512 - 512 < 512 by omega, show j2.val - 512 - 512 - 512 - 512 = j2.val - 2048 by omega, dite_false]

theorem v53 : val_main_v53 (F := Ideal) (up a0) (up a1) (up a2) (up a7) = up fun j => dh a0 a1 a2 a7 (join (j 0) (j 1)) (j 2) := by
  funext j; idx_vars j
  unfold val_main_v53
  rw [v52]
  pointwise [val_main_v35, up_apply]
  simp only [Reals.mul, Reals.sum]
  refine congrArg _ ((Fin.sum_univ_two_halves 2048 3584 rfl _).trans (congrArg₂ _ ?_ ?_))
  · refine Finset.sum_congr rfl fun k _ => ?_
    unfold dpa
    rw [dif_pos k.isLt]
  · refine Finset.sum_congr rfl fun k _ => ?_
    unfold dpa
    rw [dif_neg (by simp)]
    simp

theorem v18 : val_main_v18 (F := Ideal) (up a3) = up fun j => rr a3 (join (j 0) (j 1)) := by
  funext j; idx_vars j
  pointwise [val_main_v18, val_main_v17, val_main_v16, val_main_v15, val_main_v14, val_main_v13, val_main_v12, val_main_v11,
    val_main_cst, val_main_cst_0, val_main_cst_1, up_apply, rr]
  simp only [Reals.mul, Reals.sum, ex_join, tok_join]
  rw [Reals.rms (Reals.sum_sq_nonneg _ _)]

theorem v21 : val_main_v21 (F := Ideal) (up a3)
    = up fun j => -(1 / 2) * (rr a3 (join (j 0) (j 1)) * (rr a3 (join (j 0) (j 1)) * rr a3 (join (j 0) (j 1)))) := by
  funext j; idx_vars j
  unfold val_main_v21 val_main_v19
  rw [v18]
  pointwise [val_main_v20, val_main_cst_2, val_main_v17, val_main_v16, val_main_v15, val_main_v14, val_main_v13, val_main_v12, val_main_v11,
    val_main_cst, val_main_cst_0, val_main_cst_1, up_apply, rr]
  simp only [Reals.mul, Reals.sum, ex_join, tok_join]
  have h := Reals.sum_sq_nonneg Finset.univ fun x => a3 (ix3 j0 j1 x)
  rw [Reals.ofBits_1024, Reals.ofBits_eps, Reals.ofBits_neg_half, Reals.div _ _ (by norm_num), Reals.add,
    Reals.div _ _ (add_pos_of_nonneg_of_pos (div_nonneg h (by norm_num)) Reals.eps_pos).ne', Reals.mul, Reals.rms_div h]

theorem v23 : val_main_v23 (F := Ideal) (up a3) = up fun j => xn a3 (join (j 0) (j 1)) (j 2) := by
  funext j; idx_vars j
  unfold val_main_v23 val_main_v22
  rw [v18]
  pointwise [up_apply, xn]
  simp only [Reals.mul, ex_join, tok_join]

theorem v60 : val_main_v60 (F := Ideal) (up a0) (up a1) (up a2) (up a5) (up a7)
    = up fun j => dh a0 a1 a2 a7 (join (j 0) (j 1)) (j 2) * (1 + a5 (ix3 (j 0) 1 (j 2))) := by
  funext j; idx_vars j
  unfold val_main_v60
  rw [v53]
  pointwise [val_main_v59, val_main_v30, val_main_v29, val_main_v28, val_main_v9, val_main_v8, val_main_cst_3, up_apply]
  simp only [Reals.one, Reals.add, Reals.mul]

theorem v67 : val_main_v67 (F := Ideal) (up a0) (up a1) (up a2) (up a5) (up a6) (up a7)
    = up fun j => dxn a0 a1 a2 a5 a6 a7 (join (j 0) (j 1)) (j 2) := by
  funext j; idx_vars j
  unfold val_main_v67
  rw [v60]
  pointwise [val_main_v66, val_main_v24, val_main_v10, up_apply, dxn, ex_join]
  simp only [Reals.mul]
  exact congrArg _ (by ring)

theorem v79 : val_main_v79 (F := Ideal) (up a0) (up a1) (up a2) (up a3) (up a5) (up a6) (up a7)
    = up fun j => (∑ n : Fin 1024, a3 (ix3 (j 0) (j 1) n) * dxn a0 a1 a2 a5 a6 a7 (join (j 0) (j 1)) n)
        * (-(1 / 2) * (rr a3 (join (j 0) (j 1)) * (rr a3 (join (j 0) (j 1)) * rr a3 (join (j 0) (j 1))))) / 1024 := by
  funext j; idx_vars j
  unfold val_main_v79 val_main_v78 val_main_v77 val_main_v75 val_main_v71 val_main_v70 val_main_v69
  rw [v67, v21]
  pointwise [val_main_v76, val_main_cst_10, val_main_cst_11, val_main_cst_12, up_apply]
  simp only [Reals.mul, Reals.sum, Reals.ofBits_1024, Fin.sum_univ_one]
  rw [Reals.div _ _ (by norm_num)]

theorem v83 : val_main_v83 (F := Ideal) (up a0) (up a1) (up a2) (up a3) (up a4) (up a5) (up a6) (up a7)
    = up fun j => dx a0 a1 a2 a3 a4 a5 a6 a7 (join (j 0) (j 1)) (j 2) := by
  funext j; idx_vars j
  unfold val_main_v83 val_main_v82 val_main_v81 val_main_v80 val_main_v74 val_main_v73 val_main_v72
  rw [v79, v67, v18]
  pointwise [up_apply, dx, xn]
  simp only [Reals.mul, Reals.add, ex_join, tok_join]
  refine congrArg _ ?_
  have : (∑ n : Fin 1024, dxn a0 a1 a2 a5 a6 a7 (join j0 j1) n * (a3 (ix3 j0 j1 n) * rr a3 (join j0 j1)))
      = (∑ n : Fin 1024, a3 (ix3 j0 j1 n) * dxn a0 a1 a2 a5 a6 a7 (join j0 j1) n) * rr a3 (join j0 j1) := by
    rw [Finset.sum_mul]
    exact Finset.sum_congr rfl fun n _ => by ring
  rw [this]
  ring

theorem v62 : val_main_v62 (F := Ideal) (up a0) (up a1) (up a2) (up a7) = up fun j => ∑ l : Fin 2048, dh a0 a1 a2 a7 (join (j 0) l) (j 1) := by
  funext j; idx_vars j
  unfold val_main_v62 val_main_v55 val_main_v54
  rw [v53]
  pointwise [up_apply, val_main_cst_4, val_main_cst_7]
  simp only [Reals.sum, Fin.sum_univ_one]

theorem v61 : val_main_v61 (F := Ideal) (up a0) (up a1) (up a2) (up a3) (up a6) (up a7)
    = up fun j => ∑ l : Fin 2048, dh a0 a1 a2 a7 (join (j 0) l) (j 1) * xn a3 (join (j 0) l) (j 1) * a6 (ix2 0 (j 1)) := by
  funext j; idx_vars j
  unfold val_main_v61 val_main_v58 val_main_v57 val_main_v56 val_main_v26
  rw [v53, v23]
  pointwise [up_apply, val_main_cst_5, val_main_cst_6, val_main_v25, val_main_v24, val_main_v10]
  simp only [Reals.mul, Reals.sum, Fin.sum_univ_one]
  exact congrArg _ (Finset.sum_congr rfl fun l _ => by ring)

theorem v68 : val_main_v68 (F := Ideal) (up a0) (up a1) (up a2) (up a3) (up a5) (up a7)
    = up fun j => ∑ e : Fin 4, ∑ l : Fin 2048, dh a0 a1 a2 a7 (join e l) (j 0) * (1 + a5 (ix3 e 1 (j 0))) * xn a3 (join e l) (j 0) := by
  funext j; idx_vars j
  unfold val_main_v68 val_main_v65 val_main_v64 val_main_v63
  rw [v60, v23]
  pointwise [up_apply, Reals.hostSum01, val_main_cst_8, val_main_cst_9]
  simp only [Reals.mul, Reals.sum, Fin.sum_univ_one]
  exact congrArg _ (Finset.sum_congr rfl fun e _ => Finset.sum_congr rfl fun l _ => by ring)

theorem g8 : val_main_v88 (F := Ideal) (up a0) (up a1) (up a2) (up a3) (up a4) (up a5) (up a6) (up a7) = G8 a0 a1 a2 a3 a4 a5 a6 a7 := by
  funext j; idx_vars j
  unfold val_main_v88
  rw [v83]
  unfold G8
  pointwise [up_apply]
  refine congrArg _ (congrArg (fun r => dx a0 a1 a2 a3 a4 a5 a6 a7 r j1) (Fin.ext ?_))
  simp only [join]
  omega

theorem g9 : val_main_v87 (F := Ideal) (up a0) (up a1) (up a2) (up a3) (up a6) (up a7) = G9 a0 a1 a2 a3 a6 a7 := by
  funext j; idx_vars j
  unfold val_main_v87 val_main_v86 val_main_v85 val_main_v84 val_main_cst_13
  rw [v62, v61]
  unfold G9 Cert.Kernel3Ideal.Norm.g9
  pointwise [up_apply]
  by_cases h : j1.val = 0
  · simp only [h, Nat.zero_lt_one, dite_true, ite_true]
  · by_cases h' : j1.val = 1
    · simp only [h', Nat.lt_irrefl, Nat.sub_self, Nat.zero_lt_one, one_ne_zero, dite_true, dite_false, ite_true, ite_false]
    · rw [dif_neg (show ¬ j1.val < 1 by omega), dif_neg (show ¬ j1.val - 1 < 1 by omega)]
      simp only [h, h', ite_false, EReal.coe_zero]

theorem g10 : val_main_v91 (F := Ideal) (up a0) (up a1) (up a2) (up a3) (up a5) (up a7) = G10 a0 a1 a2 a3 a5 a7 := by
  funext j; idx_vars j
  unfold val_main_v91 val_main_v90 val_main_cst_14 val_main_v89
  rw [v68]
  unfold G10 Cert.Kernel3Ideal.Norm.g10
  pointwise [up_apply, ex_join]
  by_cases h : j0.val = 0
  · simp only [h, Nat.zero_lt_one, dite_true, ite_true]
  · rw [dif_neg (show ¬ j0.val < 1 by omega)]
    simp only [h, ite_false, EReal.coe_zero]

end Cert.Reference3Ideal.Norm

namespace Cert.Kernel3Ideal.Norm

open Cert.Kernel3Ideal Cert.Kernel3Ideal.Gen Idealize.ShloMosaic Idealize.ShloMosaic.TcCoe Idealize.SL.Sem
open Cert.Reals (up)

/-! ## The claims -/

theorem frame_r : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

theorem algebraic : Cert.algebraic_Kernel3Ideal_Reference3Ideal_pre_finite_inl := by
  intro m ρ m' ρ' hpre hagree
  refine ⟨_, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨p0, p1, p2, p3, p4, p5, p6, p7⟩ := hpre c
  obtain ⟨a0, h0⟩ : ∃ a : S8192x1536.Idx → ℝ, m ((c : Thread nD τ).loc main_arg0) = up a := Reals.lift_finite p0
  obtain ⟨a1, h1⟩ : ∃ a : S8192x1536.Idx → ℝ, m ((c : Thread nD τ).loc main_arg1) = up a := Reals.lift_finite p1
  obtain ⟨a2, h2⟩ : ∃ a : S8192x3584.Idx → ℝ, m ((c : Thread nD τ).loc main_arg2) = up a := Reals.lift_finite p2
  obtain ⟨a3, h3⟩ : ∃ a : S4x2048x1024.Idx → ℝ, m ((c : Thread nD τ).loc main_arg3) = up a := Reals.lift_finite p3
  obtain ⟨a4, h4⟩ : ∃ a : S4x2048x1024.Idx → ℝ, m ((c : Thread nD τ).loc main_arg4) = up a := Reals.lift_finite p4
  obtain ⟨a5, h5⟩ : ∃ a : S4x6x1024.Idx → ℝ, m ((c : Thread nD τ).loc main_arg5) = up a := Reals.lift_finite p5
  obtain ⟨a6, h6⟩ : ∃ a : S1x1024.Idx → ℝ, m ((c : Thread nD τ).loc main_arg6) = up a := Reals.lift_finite p6
  obtain ⟨a7, h7⟩ : ∃ a : S1x1024x5632.Idx → ℝ, m ((c : Thread nD τ).loc main_arg7) = up a := Reals.lift_finite p7
  obtain ⟨q0, q1, q2, q3, q4, q5, q6, q7⟩ := hagree c
  refine ⟨(h c).1.trans ?_, (h c).2.1.trans ?_, (h c).2.2.1.trans ?_, (h c).2.2.2⟩ <;> clear h
  · refine (Cert.Reference3Ideal.Read.val_main_v88_eq _ _).trans (Eq.trans ?_ (value8 m c h0 h1 h2 h3 h4 h5 h6 h7).symm)
    rw [q0, q1, q2, q3, q4, q5, q6, q7, h0, h1, h2, h3, h4, h5, h6, h7]
    exact Cert.Reference3Ideal.Norm.g8 a0 a1 a2 a3 a4 a5 a6 a7
  · refine (Cert.Reference3Ideal.Read.val_main_v87_eq _ _).trans (Eq.trans ?_ (value9 m c h0 h1 h2 h3 h6 h7).symm)
    rw [q0, q1, q2, q3, q6, q7, h0, h1, h2, h3, h6, h7]
    exact Cert.Reference3Ideal.Norm.g9 a0 a1 a2 a3 a6 a7
  · refine (Cert.Reference3Ideal.Read.val_main_v91_eq _ _ _ _ _ _).trans (Eq.trans ?_ (value10 m c h0 h1 h2 h3 h5 h7).symm)
    rw [q0, q1, q2, q3, q5, q7, h0, h1, h2, h3, h5, h7]
    exact Cert.Reference3Ideal.Norm.g10 a0 a1 a2 a3 a5 a7

end Cert.Kernel3Ideal.Norm
end
-- ==== Proof.Ups.lean ====
/- The operations on whole arrays, at arrays of real numbers: each gives an array of real numbers. With these lemmas one
   rewriting carries the value a program stores, operation by operation, to one array of real expressions. -/
module

public import Idealize.ShloMosaic.Lib.Pointwise
public import proofs.«01_k».proof.Proof.Reals

@[expose] public section

noncomputable section

namespace Cert.Ups

open Idealize.ShloMosaic
open Cert.Reals (up up_apply)

section Elementwise

variable {s : Shape} {φ : FTy} (f g : s.Idx → ℝ)

theorem mulf : Idealize.ShloMosaic.mulf (F := Ideal) (φ := φ) (up f) (up g) = up fun j => f j * g j :=
  funext fun j => Reals.mul (f j) (g j)
theorem addf : Idealize.ShloMosaic.addf (F := Ideal) (φ := φ) (up f) (up g) = up fun j => f j + g j :=
  funext fun j => Reals.add (f j) (g j)
theorem subf : Idealize.ShloMosaic.subf (F := Ideal) (φ := φ) (up f) (up g) = up fun j => f j - g j :=
  funext fun j => Reals.sub (f j) (g j)
theorem tanh : Idealize.ShloMosaic.tanh (F := Ideal) (φ := φ) (up f) = up fun j => Real.tanh (f j) :=
  funext fun _ => rfl
theorem exp : Idealize.ShloMosaic.exp (F := Ideal) (φ := φ) (up f) = up fun j => Real.exp (f j) :=
  funext fun _ => rfl
theorem div_const (c : ℝ) (hc : c ≠ 0) :
    Idealize.ShloMosaic.divf (F := Ideal) (φ := φ) (up f) (up fun _ => c) = up fun j => f j / c :=
  funext fun j => Reals.div (f j) c hc
theorem truncf (ψ : FTy) (h : ψ.bits < φ.bits) : Idealize.ShloMosaic.truncf (F := Ideal) (φ := φ) ψ (up f) h = up f := rfl
theorem extf (ψ : FTy) (h : φ.bits < ψ.bits) : Idealize.ShloMosaic.extf (F := Ideal) (φ := φ) ψ (up f) h = up f := rfl

/-- The reciprocal root of a mean square and a little more. -/
theorem rsqrt {ι : Type*} [Fintype ι] (v : s.Idx → ι → ℝ) :
    Idealize.ShloMosaic.rsqrt (F := Ideal) (φ := φ) (up fun j => (∑ k, v j k * v j k) / 1024 + Reals.eps)
      = up fun j => (√((∑ k, v j k * v j k) / 1024 + Reals.eps))⁻¹ :=
  funext fun j => Reals.rsqrt _ (add_pos_of_nonneg_of_pos (div_nonneg (Reals.sum_sq_nonneg _ _) (by norm_num)) Reals.eps_pos)

end Elementwise

/-! ## Constants -/

theorem const (s : Shape) (c : ℝ) : broadcast s (c : EReal) = up fun _ => c := rfl
theorem half : Scalar.ofBits (F := Ideal) .f32 0x3F000000#32 = ((1 / 2 : ℝ) : EReal) := Reals.ofBits_half
theorem one : Scalar.ofBits (F := Ideal) .f32 0x3F800000#32 = ((1 : ℝ) : EReal) := by
  show Ideal.ofBits .f32 0x3F800000#32 = _
  pointwise
  rfl
theorem zero : Scalar.ofBits (F := Ideal) .f32 0x00000000#32 = ((0 : ℝ) : EReal) := by
  show Ideal.ofBits .f32 0x00000000#32 = _
  pointwise
  rfl
theorem n1024 : Scalar.ofBits (F := Ideal) .f32 0x44800000#32 = ((1024 : ℝ) : EReal) := Reals.ofBits_1024
theorem inv1024 : Scalar.ofBits (F := Ideal) .f32 0x3A800000#32 = ((1 / 1024 : ℝ) : EReal) := by
  show Ideal.ofBits .f32 0x3A800000#32 = _
  simp [Ideal.ofBits, Ideal.ieee, -EReal.coe_mul]
  norm_num
theorem eps : Scalar.ofBits (F := Ideal) .f32 0x358637BD#32 = ((Reals.eps : ℝ) : EReal) := Reals.ofBits_eps

/-! ## Rows and columns spread over a matrix -/

theorem rows {M N : ℕ} (hN : N ≠ 1) (f : (⟨2, ![1, N]⟩ : Shape).Idx → ℝ) (h) :
    broadcastTo (⟨2, ![M, N]⟩ : Shape) (up f) h = up fun j => f (ix2 0 (j 1)) :=
  funext fun j => congrArg (up f) (funext fun a => match a with
    | ⟨0, _⟩ => dif_pos rfl
    | ⟨1, _⟩ => dif_neg hN)

theorem cols {M N : ℕ} (hM : M ≠ 1) (f : (⟨2, ![M, 1]⟩ : Shape).Idx → ℝ) (h) :
    broadcastTo (⟨2, ![M, N]⟩ : Shape) (up f) h = up fun j => f (ix2 (j 0) 0) :=
  funext fun j => congrArg (up f) (funext fun a => match a with
    | ⟨0, _⟩ => dif_neg hM
    | ⟨1, _⟩ => dif_pos rfl)

theorem cast {s : Shape} (f : s.Idx → ℝ) (h : s.ShapeCasts s) : shapeCast s (up f) h = up f := shapeCast_id _ h

end Cert.Ups
end
-- ==== Proof.Tokens.lean ====
/- The 8192 tokens, as examples of 2048 tokens and as tiles of rows. -/
module

public import proofs.«01_k».proof.Proof.Reals

@[expose] public section

noncomputable section

namespace Cert.Tokens

/-- Row `r` of all tokens, as an example and a token of it. -/
def ex (r : Fin 8192) : Fin 4 := ⟨r.val / 2048, by omega⟩
def tok (r : Fin 8192) : Fin 2048 := ⟨r.val % 2048, by omega⟩

/-- Token `l` of example `e`, as a row of all tokens. -/
def join (e : Fin 4) (l : Fin 2048) : Fin 8192 := ⟨e.val * 2048 + l.val, by omega⟩

theorem ex_join (e : Fin 4) (l : Fin 2048) : ex (join e l) = e := Fin.ext (show (e.val * 2048 + l.val) / 2048 = e.val by omega)
theorem tok_join (e : Fin 4) (l : Fin 2048) : tok (join e l) = l := Fin.ext (show (e.val * 2048 + l.val) % 2048 = l.val by omega)
theorem join_ex (r : Fin 8192) : join (ex r) (tok r) = r := Fin.ext (show r.val / 2048 * 2048 + r.val % 2048 = r.val by omega)

end Cert.Tokens
end
-- ==== Proof.Ffn.lean ====
/- The feed-forward block, the loss and their gradients: what the kernel writes. The kernel takes the rows in thirty-two
   tiles of 256, eight tiles to an example. A tile's rows of the tokens' gradient, of the modulated rows, of the hidden
   columns and of their gradients are written once; the modulation's gradients grow over the eight tiles of an example,
   the gains' gradients and the loss over all thirty-two. The hidden columns go in eleven groups of 256; a column is
   numbered by a natural number here, so that a group's columns are its offset and a number below 256. -/
module

public import proofs.«01_k».proof.Defs
public import proofs.«01_k».proof.Proof.Gen.Kernel7Ideal.Value
public import Idealize.ShloMosaic.Lib.Pointwise
public import Idealize.ShloMosaic.Lib.Pipeline.ValueKit
public import Idealize.ShloMosaic.Lib.Pipeline.ReadBack
public import Idealize.ShloMosaic.Lib.Quiescent
public import proofs.«01_k».proof.Proof.Ups
public import proofs.«01_k».proof.Proof.Reads
public import proofs.«01_k».proof.Proof.Tokens

@[expose] public section

set_option maxRecDepth 16384

noncomputable section

namespace Cert.Kernel7Ideal.Ffn

open Cert.Kernel7Ideal Cert.Kernel7Ideal.Gen Idealize.ShloMosaic Idealize.ShloMosaic.TcCoe Idealize.SL.Sem
open Idealize.ShloMosaic.Pipeline (Dat)
open Cert.Reals (up up_apply)
open Cert.Tokens

section Spec

variable (a0 a1 : S4x2048x1024.Idx → ℝ) (a2 : S4x6x1024.Idx → ℝ) (a3 : S1x1024.Idx → ℝ) (a4 : S1024.Idx → ℝ)
  (a5 : S1x1024x5632.Idx → ℝ) (a6 : S1x2816x1024.Idx → ℝ)

/-- The two weights, the modulation of a row, the rows and the targets. -/
def wup (n : Fin 1024) (k : ℕ) : ℝ := if h : k < 5632 then a5 (ix3 0 n ⟨k, h⟩) else 0
def wdn (k : ℕ) (n : Fin 1024) : ℝ := if h : k < 2816 then a6 (ix3 0 ⟨k, h⟩ n) else 0
def me (s : ℕ) (e : Fin 4) (n : Fin 1024) : ℝ := if h : s < 6 then a2 (ix3 e ⟨s, h⟩ n) else 0
def md (s : ℕ) (r : Fin 8192) (n : Fin 1024) : ℝ := me a2 s (ex r) n
def gf (n : Fin 1024) : ℝ := a3 (ix2 0 n)
def gl (n : Fin 1024) : ℝ := a4 (ix1 n)
def x (r : Fin 8192) (n : Fin 1024) : ℝ := a0 (ix3 (ex r) (tok r) n)
def tg (r : Fin 8192) (n : Fin 1024) : ℝ := a1 (ix3 (ex r) (tok r) n)

/-- The reciprocal root mean square of a row, the row over its root mean square, and the modulated row. -/
def r2 (r : Fin 8192) : ℝ := (√((∑ j, x a0 r j * x a0 r j) / 1024 + Reals.eps))⁻¹
def xn (r : Fin 8192) (n : Fin 1024) : ℝ := x a0 r n * r2 a0 r
def h2 (r : Fin 8192) (n : Fin 1024) : ℝ := xn a0 r n * gf a3 n * (1 + md a2 4 r n) + md a2 3 r n

/-- The projected columns, the gated hidden columns, the block's output and the rows after the residual. -/
def u (r : Fin 8192) (k : ℕ) : ℝ := ∑ n, h2 a0 a2 a3 r n * wup a5 n k
def act (r : Fin 8192) (k : ℕ) : ℝ := u a0 a2 a3 a5 r k * Reals.sig (u a0 a2 a3 a5 r k) * u a0 a2 a3 a5 r (2816 + k)
def ffn (r : Fin 8192) (n : Fin 1024) : ℝ := ∑ k : Fin 2816, act a0 a2 a3 a5 r k * wdn a6 k n
def x2 (r : Fin 8192) (n : Fin 1024) : ℝ := x a0 r n + md a2 5 r n * ffn a0 a2 a3 a5 a6 r n

/-- The final norm, the error, and the gradients down to the block's output. -/
def r3 (r : Fin 8192) : ℝ := (√((∑ j, x2 a0 a2 a3 a5 a6 r j * x2 a0 a2 a3 a5 a6 r j) / 1024 + Reals.eps))⁻¹
def y (r : Fin 8192) (n : Fin 1024) : ℝ := x2 a0 a2 a3 a5 a6 r n * r3 a0 a2 a3 a5 a6 r
def er (r : Fin 8192) (n : Fin 1024) : ℝ := y a0 a2 a3 a5 a6 r n * gl a4 n - tg a1 r n
def dy (r : Fin 8192) (n : Fin 1024) : ℝ := er a0 a1 a2 a3 a4 a5 a6 r n * (1 / 1024)
def dyg (r : Fin 8192) (n : Fin 1024) : ℝ := dy a0 a1 a2 a3 a4 a5 a6 r n * gl a4 n
def dx2 (r : Fin 8192) (n : Fin 1024) : ℝ := r3 a0 a2 a3 a5 a6 r * (dyg a0 a1 a2 a3 a4 a5 a6 r n
  - y a0 a2 a3 a5 a6 r n * ((∑ j, dyg a0 a1 a2 a3 a4 a5 a6 r j * y a0 a2 a3 a5 a6 r j) / 1024))
def dffn (r : Fin 8192) (n : Fin 1024) : ℝ := dx2 a0 a1 a2 a3 a4 a5 a6 r n * md a2 5 r n

/-- The gradients of the hidden columns, of the projected columns and of the modulated rows. -/
def dact (r : Fin 8192) (k : ℕ) : ℝ := ∑ n, dffn a0 a1 a2 a3 a4 a5 a6 r n * wdn a6 k n
def du (r : Fin 8192) (k : ℕ) : ℝ :=
  if k < 2816 then dact a0 a1 a2 a3 a4 a5 a6 r k * u a0 a2 a3 a5 r (2816 + k)
    * (Reals.sig (u a0 a2 a3 a5 r k) * (1 + u a0 a2 a3 a5 r k * (1 - Reals.sig (u a0 a2 a3 a5 r k))))
  else dact a0 a1 a2 a3 a4 a5 a6 r (k - 2816) * u a0 a2 a3 a5 r (k - 2816) * Reals.sig (u a0 a2 a3 a5 r (k - 2816))
def dh (r : Fin 8192) (n : Fin 1024) : ℝ := ∑ k : Fin 5632, du a0 a1 a2 a3 a4 a5 a6 r k * wup a5 n k
def dxn (r : Fin 8192) (n : Fin 1024) : ℝ := dh a0 a1 a2 a3 a4 a5 a6 r n * gf a3 n * (1 + md a2 4 r n)
def dx1 (r : Fin 8192) (n : Fin 1024) : ℝ := dx2 a0 a1 a2 a3 a4 a5 a6 r n + r2 a0 r * (dxn a0 a1 a2 a3 a4 a5 a6 r n
  - xn a0 r n * ((∑ j, dxn a0 a1 a2 a3 a4 a5 a6 r j * xn a0 r j) / 1024))

/-- Row `l` of tile `t`, and the tile's example. -/
def row (t : Fin 32) (l : Fin 256) : Fin 8192 := ⟨t.val * 256 + l.val, by omega⟩
def te (t : Fin 32) : Fin 4 := ⟨t.val / 8, by omega⟩

/-- A tile's addend to the modulation's gradient and to the gains' gradients and the loss. -/
def term12 (t : Fin 32) (r : Fin 8) (k : Fin 1024) : ℝ :=
  if r.val = 3 then ∑ l, dh a0 a1 a2 a3 a4 a5 a6 (row t l) k
  else if r.val = 4 then ∑ l, dh a0 a1 a2 a3 a4 a5 a6 (row t l) k * xn a0 (row t l) k * gf a3 k
  else if r.val = 5 then ∑ l, dx2 a0 a1 a2 a3 a4 a5 a6 (row t l) k * ffn a0 a2 a3 a5 a6 (row t l) k
  else 0
def term13 (t : Fin 32) (r : Fin 8) (k : Fin 1024) : ℝ :=
  if r.val = 0 then ∑ l, dh a0 a1 a2 a3 a4 a5 a6 (row t l) k * (1 + me a2 4 (te t) k) * xn a0 (row t l) k
  else if r.val = 1 then ∑ l, dy a0 a1 a2 a3 a4 a5 a6 (row t l) k * y a0 a2 a3 a5 a6 (row t l) k
  else if r.val = 2 then 1 / 2 * ∑ l, (∑ j, er a0 a1 a2 a3 a4 a5 a6 (row t l) j * er a0 a1 a2 a3 a4 a5 a6 (row t l) j) / 1024
  else 0

theorem ex_row (t : Fin 32) (l : Fin 256) : ex (row t l) = te t := Fin.ext (show (t.val * 256 + l.val) / 2048 = t.val / 8 by omega)

end Spec

/-! ## The operations at this kernel's shapes -/

section Ops

theorem sum1 (f : S256x1024.Idx → ℝ) : multiReduction (F := Ideal) (φ := .f32) .add (no_index [1]) S256 (up f) 0x00000000#32
    reduces_S256x1024_S256 (.inl rfl) rfl = up fun j => ∑ k : Fin 1024, f (ix2 (j 0) k) := by
  funext j; idx_vars j
  pointwise [up_apply]
  simp only [Reals.sum]
theorem sum0 (f : S256x1024.Idx → ℝ) : multiReduction (F := Ideal) (φ := .f32) .add (no_index [0]) S1024 (up f) 0x00000000#32
    reduces_S256x1024_S1024 (.inl rfl) rfl = up fun j => ∑ l : Fin 256, f (ix2 l (j 0)) := by
  funext j; idx_vars j
  pointwise [up_apply]
  simp only [Reals.sum]
theorem sum00 (f : S256x1.Idx → ℝ) : multiReduction (F := Ideal) (φ := .f32) .add (no_index [0]) S1 (up f) 0x00000000#32
    reduces_S256x1_S1 (.inl rfl) rfl = up fun _ => ∑ l : Fin 256, f (ix2 l 0) := by
  funext j; idx_vars j
  pointwise [up_apply]
  simp only [Reals.sum]

theorem cast_col (f : S256.Idx → ℝ) : shapeCast S256x1 (up f) shapeCasts_S256_S256x1 = up fun j => f (ix1 (j 0)) := by
  funext j; idx_vars j
  pointwise [up_apply]
theorem cast_row (f : S1024.Idx → ℝ) : shapeCast S1x1024 (up f) shapeCasts_S1024_S1x1024 = up fun j => f (ix1 (j 1)) := by
  funext j; idx_vars j
  pointwise [up_apply]
theorem cast_one (f : S1.Idx → ℝ) : shapeCast S1x1 (up f) shapeCasts_S1_S1x1 = up fun _ => f (ix1 0) := by
  funext j; idx_vars j
  pointwise [up_apply]
theorem cast_in (f : S1x1x1024.Idx → ℝ) : shapeCast S1x1024 (up f) shapeCasts_S1x1x1024_S1x1024 = up fun j => f (ix3 0 0 (j 1)) := by
  funext j; idx_vars j
  pointwise [up_apply]
theorem cast_out (f : S1x1024.Idx → ℝ) : shapeCast S1x1x1024 (up f) shapeCasts_S1x1024_S1x1x1024 = up fun j => f (ix2 0 (j 2)) := by
  funext j; idx_vars j
  pointwise [up_apply]
theorem ld_const {s : Shape} (x : ℝ) (r : Rect s) : View.ld (Val := Elt Ideal) (e' := .f32) (up fun _ : s.Idx => x) r = up fun _ => x := rfl
theorem one_row (f : S1x1.Idx → ℝ) : broadcastTo S1x1024 (up f) broadcasts_S1x1_S1x1024 = up fun _ => f (ix2 0 0) := by
  funext j; idx_vars j
  pointwise [up_apply]
theorem rows (f : S1x1024.Idx → ℝ) : broadcastTo S256x1024 (up f) broadcasts_S1x1024_S256x1024 = up fun j => f (ix2 0 (j 1)) :=
  Ups.rows (by decide) f _
theorem cols (f : S256x1.Idx → ℝ) : broadcastTo S256x1024 (up f) broadcasts_S256x1_S256x1024 = up fun j => f (ix2 (j 0) 0) :=
  Ups.cols (by decide) f _
theorem n1024_ne : (1024 : ℝ) ≠ 0 := by norm_num

theorem nt (f g) : matmul (F := Ideal) (φ₁ := .bf16) (φ₂ := .bf16) dot_S256x1024_S256x1024_S256x256_1_1_0_0_n_n none (up f) (up g) (constant S256x256 .f32 0x00000000#32)
    = up fun j => ∑ k : Fin 1024, f (ix2 (j 0) k) * g (ix2 (j 1) k) := by
  funext j; idx_vars j
  pointwise [up_apply]
  simp only [Reals.mul, Reals.sum]
theorem nn (f g) : matmul (F := Ideal) (φ₁ := .bf16) (φ₂ := .bf16) dot_S256x1024_S1024x1024_S256x1024_1_0_0_1_n_n none (up f) (up g) (constant S256x1024 .f32 0x00000000#32)
    = up fun j => ∑ k : Fin 1024, f (ix2 (j 0) k) * g (ix2 k (j 1)) := by
  funext j; idx_vars j
  pointwise [up_apply]
  simp only [Reals.mul, Reals.sum]
theorem nn' (f g) : matmul (F := Ideal) (φ₁ := .bf16) (φ₂ := .bf16) dot_S256x768_S768x1024_S256x1024_1_0_0_1_n_n none (up f) (up g) (constant S256x1024 .f32 0x00000000#32)
    = up fun j => ∑ k : Fin 768, f (ix2 (j 0) k) * g (ix2 k (j 1)) := by
  funext j; idx_vars j
  pointwise [up_apply]
  simp only [Reals.mul, Reals.sum]

end Ops

/-! ## The sums over the groups of hidden columns, joined -/

theorem join3 (f : ℕ → ℝ) : (∑ k : Fin 1024, f (0 + k)) + (∑ k : Fin 1024, f (1024 + k)) + (∑ k : Fin 768, f (2048 + k)) = ∑ k : Fin 2816, f k := by
  rw [Fin.sum_univ_eq_sum_range f 2816, show 2816 = 2048 + 768 from rfl, Finset.sum_range_add, show 2048 = 1024 + 1024 from rfl, Finset.sum_range_add,
    Fin.sum_univ_eq_sum_range (fun k => f (0 + k)), Fin.sum_univ_eq_sum_range (fun k => f (1024 + k)), Fin.sum_univ_eq_sum_range (fun k => f (1024 + 1024 + k))]
  simp only [zero_add]

theorem join6 (f : ℕ → ℝ) :
    ((∑ k : Fin 1024, f (0 + k)) + (∑ k : Fin 1024, f (2816 + k))) + ((∑ k : Fin 1024, f (1024 + k)) + (∑ k : Fin 1024, f (3840 + k)))
      + ((∑ k : Fin 768, f (2048 + k)) + (∑ k : Fin 768, f (4864 + k))) = ∑ k : Fin 5632, f k := by
  rw [Fin.sum_univ_eq_sum_range f 5632, show 5632 = 2816 + 2816 from rfl, Finset.sum_range_add,
    ← Fin.sum_univ_eq_sum_range f, ← Fin.sum_univ_eq_sum_range (fun k => f (2816 + k)), ← join3 f, ← join3 fun k => f (2816 + k)]
  simp only [← Nat.add_assoc, Nat.reduceAdd]
  ring

/-! ## The kernel's real expressions, named -/

section Fold

variable (a0 a1 : S4x2048x1024.Idx → ℝ) (a2 : S4x6x1024.Idx → ℝ) (a3 : S1x1024.Idx → ℝ) (a4 : S1024.Idx → ℝ)
  (a5 : S1x1024x5632.Idx → ℝ) (a6 : S1x2816x1024.Idx → ℝ)

theorem f_r2 (r : Fin 8192) : (√((∑ i, x a0 r i * x a0 r i) / 1024 + Reals.eps))⁻¹ = r2 a0 r := rfl
theorem f_xn (r : Fin 8192) (j : S256x1024.Idx) : x a0 r (j 1) * r2 a0 r = xn a0 r (j 1) := rfl
theorem f_h2 (t : Fin 32) (j : S256x1024.Idx) : xn a0 (row t (j 0)) (j 1) * gf a3 (j 1) * (1 + me a2 4 (te t) (j 1)) + me a2 3 (te t) (j 1) = h2 a0 a2 a3 (row t (j 0)) (j 1) := by
  unfold h2 md; rw [show ex (row t (j 0)) = te t from ex_row _ _]
theorem f_u (r : Fin 8192) (k : ℕ) : (∑ n, h2 a0 a2 a3 r n * wup a5 n k) = u a0 a2 a3 a5 r k := rfl
theorem f_act (r : Fin 8192) (k k' : ℕ) (h : k' = 2816 + k) : u a0 a2 a3 a5 r k * Reals.sig (u a0 a2 a3 a5 r k) * u a0 a2 a3 a5 r k' = act a0 a2 a3 a5 r k := by
  subst h; rfl
theorem f_ffn (r : Fin 8192) (j : S256x1024.Idx) : (∑ k : Fin 1024, act a0 a2 a3 a5 r (0 + k) * wdn a6 (0 + k) (j 1)) + (∑ k : Fin 1024, act a0 a2 a3 a5 r (1024 + k) * wdn a6 (1024 + k) (j 1))
      + (∑ k : Fin 768, act a0 a2 a3 a5 r (2048 + k) * wdn a6 (2048 + k) (j 1)) = ffn a0 a2 a3 a5 a6 r (j 1) := join3 fun k => act a0 a2 a3 a5 r k * wdn a6 k (j 1)
theorem f_x2 (t : Fin 32) (j : S256x1024.Idx) : x a0 (row t (j 0)) (j 1) + me a2 5 (te t) (j 1) * ffn a0 a2 a3 a5 a6 (row t (j 0)) (j 1) = x2 a0 a2 a3 a5 a6 (row t (j 0)) (j 1) := by
  unfold x2 md; rw [show ex (row t (j 0)) = te t from ex_row _ _]
theorem f_r3 (r : Fin 8192) : (√((∑ i, x2 a0 a2 a3 a5 a6 r i * x2 a0 a2 a3 a5 a6 r i) / 1024 + Reals.eps))⁻¹ = r3 a0 a2 a3 a5 a6 r := rfl
theorem f_y (r : Fin 8192) (j : S256x1024.Idx) : x2 a0 a2 a3 a5 a6 r (j 1) * r3 a0 a2 a3 a5 a6 r = y a0 a2 a3 a5 a6 r (j 1) := rfl
theorem f_er (r : Fin 8192) (j : S256x1024.Idx) : y a0 a2 a3 a5 a6 r (j 1) * gl a4 (j 1) - tg a1 r (j 1) = er a0 a1 a2 a3 a4 a5 a6 r (j 1) := rfl
theorem f_dy (r : Fin 8192) (j : S256x1024.Idx) : er a0 a1 a2 a3 a4 a5 a6 r (j 1) * (1 / 1024) = dy a0 a1 a2 a3 a4 a5 a6 r (j 1) := rfl
theorem f_dyg (r : Fin 8192) (j : S256x1024.Idx) : dy a0 a1 a2 a3 a4 a5 a6 r (j 1) * gl a4 (j 1) = dyg a0 a1 a2 a3 a4 a5 a6 r (j 1) := rfl
theorem f_dx2 (r : Fin 8192) (j : S256x1024.Idx) : r3 a0 a2 a3 a5 a6 r * (dyg a0 a1 a2 a3 a4 a5 a6 r (j 1) - y a0 a2 a3 a5 a6 r (j 1) * ((∑ i, dyg a0 a1 a2 a3 a4 a5 a6 r i * y a0 a2 a3 a5 a6 r i) / 1024)) = dx2 a0 a1 a2 a3 a4 a5 a6 r (j 1) := rfl
theorem f_dffn (t : Fin 32) (j : S256x1024.Idx) : dx2 a0 a1 a2 a3 a4 a5 a6 (row t (j 0)) (j 1) * me a2 5 (te t) (j 1) = dffn a0 a1 a2 a3 a4 a5 a6 (row t (j 0)) (j 1) := by
  unfold dffn md; rw [show ex (row t (j 0)) = te t from ex_row _ _]
theorem f_dact (r : Fin 8192) (k : ℕ) : (∑ n, dffn a0 a1 a2 a3 a4 a5 a6 r n * wdn a6 k n) = dact a0 a1 a2 a3 a4 a5 a6 r k := rfl
theorem f_dgate (r : Fin 8192) (o k' : ℕ) (j : S256x256.Idx) (ho : o + 256 ≤ 2816) (h : k' = 2816 + (o + j 1)) : dact a0 a1 a2 a3 a4 a5 a6 r (o + j 1) * u a0 a2 a3 a5 r k'
      * (Reals.sig (u a0 a2 a3 a5 r (o + j 1)) * (1 + u a0 a2 a3 a5 r (o + j 1) * (1 - Reals.sig (u a0 a2 a3 a5 r (o + j 1))))) = du a0 a1 a2 a3 a4 a5 a6 r (o + j 1) := by
  subst h; unfold du; rw [if_pos (by have : (j 1).val < 256 := (j 1).isLt; omega)]
theorem f_dup (r : Fin 8192) (k : ℕ) : dact a0 a1 a2 a3 a4 a5 a6 r k * u a0 a2 a3 a5 r k * Reals.sig (u a0 a2 a3 a5 r k) = du a0 a1 a2 a3 a4 a5 a6 r (2816 + k) := by
  unfold du; rw [if_neg (by omega), Nat.add_sub_cancel_left]
theorem f_dh (r : Fin 8192) (j : S256x1024.Idx) : ((∑ k : Fin 1024, du a0 a1 a2 a3 a4 a5 a6 r (0 + k) * wup a5 (j 1) (0 + k)) + (∑ k : Fin 1024, du a0 a1 a2 a3 a4 a5 a6 r (2816 + k) * wup a5 (j 1) (2816 + k)))
      + ((∑ k : Fin 1024, du a0 a1 a2 a3 a4 a5 a6 r (1024 + k) * wup a5 (j 1) (1024 + k)) + (∑ k : Fin 1024, du a0 a1 a2 a3 a4 a5 a6 r (3840 + k) * wup a5 (j 1) (3840 + k)))
      + ((∑ k : Fin 768, du a0 a1 a2 a3 a4 a5 a6 r (2048 + k) * wup a5 (j 1) (2048 + k)) + (∑ k : Fin 768, du a0 a1 a2 a3 a4 a5 a6 r (4864 + k) * wup a5 (j 1) (4864 + k))) = dh a0 a1 a2 a3 a4 a5 a6 r (j 1) := join6 fun k => du a0 a1 a2 a3 a4 a5 a6 r k * wup a5 (j 1) k
theorem f_dxn (t : Fin 32) (j : S256x1024.Idx) : dh a0 a1 a2 a3 a4 a5 a6 (row t (j 0)) (j 1) * gf a3 (j 1) * (1 + me a2 4 (te t) (j 1)) = dxn a0 a1 a2 a3 a4 a5 a6 (row t (j 0)) (j 1) := by
  unfold dxn md; rw [show ex (row t (j 0)) = te t from ex_row _ _]
theorem f_dx1 (r : Fin 8192) (j : S256x1024.Idx) : dx2 a0 a1 a2 a3 a4 a5 a6 r (j 1) + r2 a0 r * (dxn a0 a1 a2 a3 a4 a5 a6 r (j 1) - xn a0 r (j 1) * ((∑ i, dxn a0 a1 a2 a3 a4 a5 a6 r i * xn a0 r i) / 1024)) = dx1 a0 a1 a2 a3 a4 a5 a6 r (j 1) := rfl

theorem add2816 (o k : ℕ) : 2816 + (o + k) = 2816 + o + k := (Nat.add_assoc _ _ _).symm

end Fold

/-! ## Loads of rows of the weights and of the modulation -/

section Loads

theorem ld_up {o M : ℕ} (a5 : S1x1024x5632.Idx → ℝ) (i) :
    View.ld (Val := Elt Ideal) (e' := .bf16) (up fun j : S5632x1024.Idx => wup a5 (j 1) (j 0)) (Rect.unit (s := S5632x1024) ![o, 0] ![M, 1024] i)
      = up fun j : (⟨2, ![M, 1024]⟩ : Shape).Idx => wup a5 (j 1) (o + j 0) :=
  funext fun j => congrArg (fun z : ℝ => (z : EReal)) (congr (congrArg (wup a5) (Fin.ext (show 0 + 1 * (j 1).val = (j 1).val by omega)))
    (show o + 1 * (j 0).val = o + (j 0).val by omega))
theorem ld_dn {o M : ℕ} (a6 : S1x2816x1024.Idx → ℝ) (i) :
    View.ld (Val := Elt Ideal) (e' := .bf16) (up fun j : S2816x1024.Idx => wdn a6 (j 0) (j 1)) (Rect.unit (s := S2816x1024) ![o, 0] ![M, 1024] i)
      = up fun j : (⟨2, ![M, 1024]⟩ : Shape).Idx => wdn a6 (o + j 0) (j 1) :=
  funext fun j => congrArg (fun z : ℝ => (z : EReal)) (congr (congrArg (wdn a6) (show o + 1 * (j 0).val = o + (j 0).val by omega))
    (Fin.ext (show 0 + 1 * (j 1).val = (j 1).val by omega)))
theorem ld_mod {s : ℕ} (a2 : S4x6x1024.Idx → ℝ) (e : Fin 4) (i) :
    View.ld (Val := Elt Ideal) (e' := .f32) (up fun j : S1x6x1024.Idx => me a2 (j 1) e (j 2)) (Rect.unit (s := S1x6x1024) ![0, s, 0] ![1, 1, 1024] i)
      = up fun j : S1x1x1024.Idx => me a2 s e (j 2) :=
  funext fun j => congrArg (fun z : ℝ => (z : EReal)) (congr (congrArg (fun k => me a2 k e) (show s + 1 * (j 1).val = s by
      have : (j 1).val < 1 := (j 1).isLt
      omega)) (Fin.ext (show 0 + 1 * (j 2).val = (j 2).val by omega)))

end Loads

section Run

variable (m : (ℓ : Loc nD τ sig) → Buf (Elt Ideal) ℓ) (c : Dev nD)
  {a0 a1 : S4x2048x1024.Idx → ℝ} {a2 : S4x6x1024.Idx → ℝ} {a3 : S1x1024.Idx → ℝ} {a4 : S1024.Idx → ℝ}
  {a5 : S1x1024x5632.Idx → ℝ} {a6 : S1x2816x1024.Idx → ℝ}

theorem idx : ∀ t : Fin cfg0.N,
    (win0_0.index t 0 = t.val ∧ win0_0.index t 1 = 0) ∧ (win0_1.index t 0 = t.val ∧ win0_1.index t 1 = 0) ∧
    (win0_2.index t 0 = t.val / 8 ∧ win0_2.index t 1 = 0 ∧ win0_2.index t 2 = 0) ∧
    (win0_3.index t 0 = 0 ∧ win0_3.index t 1 = 0) ∧ (win0_4.index t 0 = 0 ∧ win0_4.index t 1 = 0) ∧
    (win0_5.index t 0 = 0 ∧ win0_5.index t 1 = 0) ∧ (win0_6.index t 0 = 0 ∧ win0_6.index t 1 = 0) ∧
    (win0_7.index t 0 = t.val ∧ win0_7.index t 1 = 0) ∧ (win0_8.index t 0 = t.val ∧ win0_8.index t 1 = 0) ∧
    (win0_9.index t 0 = t.val ∧ win0_9.index t 1 = 0) ∧ (win0_10.index t 0 = t.val ∧ win0_10.index t 1 = 0) ∧
    (win0_11.index t 0 = t.val ∧ win0_11.index t 1 = 0) ∧
    (win0_12.index t 0 = t.val / 8 ∧ win0_12.index t 1 = 0 ∧ win0_12.index t 2 = 0) ∧ (win0_13.index t 0 = 0 ∧ win0_13.index t 1 = 0) :=
  (by decide +kernel : ∀ t : Fin grid0.N, _)

theorem lt32 (t : Fin cfg0.N) : t.val < 32 := lt_of_lt_of_eq t.isLt N_0

/-- A grid point's tile. -/
def tl (t : Fin cfg0.N) : Fin 32 := ⟨t.val, lt32 t⟩

theorem blk0 (h : m ((c : Thread nD τ).loc main_arg0) = up a0) (t : Fin cfg0.N) :
    iblk m c 0 t = up fun j : S256x1024.Idx => x a0 (row (tl t) (j 0)) (j 1) := by
  funext j; idx_vars j
  rw [up_apply]; unfold x; rw [← up_apply a0, ← h]
  blk_ext! [iblk, V, idx t, row, tl, ex, tok]

theorem blk1 (h : m ((c : Thread nD τ).loc main_arg1) = up a1) (t : Fin cfg0.N) :
    iblk m c 1 t = up fun j : S256x1024.Idx => tg a1 (row (tl t) (j 0)) (j 1) := by
  funext j; idx_vars j
  rw [up_apply]; unfold tg; rw [← up_apply a1, ← h]
  blk_ext! [iblk, V, idx t, row, tl, ex, tok]

theorem blk2 (h : m ((c : Thread nD τ).loc main_arg2) = up a2) (t : Fin cfg0.N) :
    iblk m c 2 t = up fun j : S1x6x1024.Idx => me a2 (j 1) (te (tl t)) (j 2) := by
  funext j; idx_vars j
  show _ = ((me a2 j1 (te (tl t)) j2 : ℝ) : EReal)
  unfold me; rw [dif_pos (show j1.val < 6 from j1.isLt), ← up_apply a2, ← h]
  blk_ext [iblk, V, idx t, te, tl]

theorem blk3 (h : m ((c : Thread nD τ).loc main_arg3) = up a3) (t : Fin cfg0.N) :
    iblk m c 3 t = up fun j : S1x1024.Idx => gf a3 (j 1) := by
  funext j; idx_vars j
  rw [up_apply]; unfold gf; rw [← up_apply a3, ← h]
  blk_ext! [iblk, V, idx t]

theorem blk4 (h : m ((c : Thread nD τ).loc main_arg4) = up a4) (t : Fin cfg0.N) :
    iblk m c 4 t = up fun j : S1x1024.Idx => gl a4 (j 1) := by
  funext j; idx_vars j
  rw [up_apply]; unfold gl; rw [← up_apply a4, ← h]
  blk_ext! [iblk, V, idx t]

theorem blk5 (h : m ((c : Thread nD τ).loc main_arg5) = up a5) (t : Fin cfg0.N) :
    iblk m c 5 t = up fun j : S5632x1024.Idx => wup a5 (j 1) (j 0) := by
  funext j; idx_vars j
  show _ = ((wup a5 j1 j0 : ℝ) : EReal)
  unfold wup; rw [dif_pos (show j0.val < 5632 from j0.isLt), ← up_apply a5, ← h]
  blk_ext! [iblk, V, idx t]

theorem blk6 (h : m ((c : Thread nD τ).loc main_arg6) = up a6) (t : Fin cfg0.N) :
    iblk m c 6 t = up fun j : S2816x1024.Idx => wdn a6 (j 0) (j 1) := by
  funext j; idx_vars j
  show _ = ((wdn a6 j0 j1 : ℝ) : EReal)
  unfold wdn; rw [dif_pos (show j0.val < 2816 from j0.isLt), ← up_apply a6, ← h]
  blk_ext! [iblk, V, idx t]

variable (h0 : m ((c : Thread nD τ).loc main_arg0) = up a0) (h1 : m ((c : Thread nD τ).loc main_arg1) = up a1)
  (h2' : m ((c : Thread nD τ).loc main_arg2) = up a2) (h3 : m ((c : Thread nD τ).loc main_arg3) = up a3)
  (h4 : m ((c : Thread nD τ).loc main_arg4) = up a4) (h5 : m ((c : Thread nD τ).loc main_arg5) = up a5)
  (h6 : m ((c : Thread nD τ).loc main_arg6) = up a6)
include h0 h1 h2' h3 h4 h5 h6
set_option maxHeartbeats 4000000 in
theorem outs (t : Fin cfg0.N) :
    (outsAt0 m c t.val t.isLt).1 = (up fun j : S256x1024.Idx => dx1 a0 a1 a2 a3 a4 a5 a6 (row (tl t) (j 0)) (j 1)) ∧
    (outsAt0 m c t.val t.isLt).2.1 = (up fun j : S256x1024.Idx => h2 a0 a2 a3 (row (tl t) (j 0)) (j 1)) ∧
    (outsAt0 m c t.val t.isLt).2.2.1 = (up fun j : S256x1024.Idx => dffn a0 a1 a2 a3 a4 a5 a6 (row (tl t) (j 0)) (j 1)) ∧
    (outsAt0 m c t.val t.isLt).2.2.2.1 = (up fun j : S256x2816.Idx => act a0 a2 a3 a5 (row (tl t) (j 0)) (j 1)) ∧
    (outsAt0 m c t.val t.isLt).2.2.2.2.1 = (up fun j : S256x5632.Idx => du a0 a1 a2 a3 a4 a5 a6 (row (tl t) (j 0)) (j 1)) ∧
    (∀ r k, (outsAt0 m c t.val t.isLt).2.2.2.2.2.1 (ix3 0 r k)
      = (if t.val % 8 = 0 then 0 else (outsAt0 m c (t.val - 1) (Nat.lt_of_le_of_lt (Nat.sub_le _ _) t.isLt)).2.2.2.2.2.1 (ix3 0 r k))
        + (term12 a0 a1 a2 a3 a4 a5 a6 (tl t) r k : EReal)) ∧
    (∀ r k, (outsAt0 m c t.val t.isLt).2.2.2.2.2.2 (ix2 r k)
      = (if t.val % 32 = 0 then 0 else (outsAt0 m c (t.val - 1) (Nat.lt_of_le_of_lt (Nat.sub_le _ _) t.isLt)).2.2.2.2.2.2 (ix2 r k))
        + (term13 a0 a1 a2 a3 a4 a5 a6 (tl t) r k : EReal)) := by
  have hc : (t.val % 32 = 0 ∧ t.val % 8 = 0) ∨ (¬ t.val % 32 = 0 ∧ ¬ t.val % 8 = 0) ∨ (¬ t.val % 32 = 0 ∧ t.val % 8 = 0) := by omega
  refine ⟨?_, ?_, ?_, ?_, ?_, fun r k => ?_, fun r k => ?_⟩ <;> rcases hc with ⟨h, h'⟩ | ⟨h, h'⟩ | ⟨h, h'⟩
  all_goals first
    | rw [outsAt0_A m c t h h']
    | rw [outsAt0_B m c t h h']
    | rw [outsAt0_C m c t h h']
  all_goals try first
    | rw [if_pos h]
    | rw [if_pos h']
    | rw [if_neg h]
    | rw [if_neg h']
  all_goals try generalize (outsAt0 m c (t.val - 1) _).2.2.2.2.2.1 = X
  all_goals try generalize (outsAt0 m c (t.val - 1) _).2.2.2.2.2.2 = Y
  all_goals frame_open
  all_goals try dsimp only
  all_goals try simp (disch := decide) only [↓ View.readCov_skip, ↓ View.readCov_cons_toLoadRect, ↓ View.readCov_fill]
  all_goals frame_out
  all_goals simp (disch := first
    | omega
    | (with_unfolding_all (repeat refine Reads.agree_cons _ (fun j => rfl) ?_)
       exact Reads.agree_nil)
    | (intro k hk
       repeat refine Reads.cols_step fun _ => ?_
       omega)) only [
      blk0 m c h0, blk1 m c h1, blk2 m c h2', blk3 m c h3, blk4 m c h4, blk5 m c h5, blk6 m c h6,
      ld_up, ld_dn, ld_mod, ld_const, Ups.mulf, Ups.addf, Ups.subf, Ups.tanh, Ups.truncf, Ups.rsqrt, Ups.const, Ups.half, Ups.one, Ups.zero,
      Ups.n1024, Ups.inv1024, Ups.eps, Ups.div_const _ _ n1024_ne, rows, cols, Ups.cast, sum1, sum0, sum00, cast_col, cast_row, cast_one,
      cast_in, cast_out, one_row, nt, nn, nn', ix1, ix2, ix3, Reals.half_tanh, add2816,
      Reads.cols_f32 (W := 5632) fun l => u a0 a2 a3 a5 (row (tl t) l), Reads.cols_bf16 (W := 2816) fun l => act a0 a2 a3 a5 (row (tl t) l),
      Reads.cols_bf16 (W := 5632) fun l => du a0 a1 a2 a3 a4 a5 a6 (row (tl t) l), Reads.all_bf16 (W := 2816) fun l => act a0 a2 a3 a5 (row
      (tl t) l), Reads.all_bf16 (W := 5632) fun l => du a0 a1 a2 a3 a4 a5 a6 (row (tl t) l),
      f_r2, f_xn, f_h2, f_u, f_act, f_ffn, f_x2, f_r3, f_y, f_er, f_dy, f_dyg, f_dx2, f_dffn, f_dact, f_dgate, f_dup, f_dh, f_dxn, f_dx1,
      k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, k0_pay21, k0_pay22, k0_pay23, k0_pay24, k0_pay25, k0_pay26, k0_pay27,
      k0_pay28, k0_pay29, k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102, k0_pay103, k0_pay104,
      k0_pay105, k0_pay106, k0_pay107, k0_pay108, k0_pay109, k0_pay110, k0_pay111, k0_pay112, k0_pay113, k0_pay114, k0_pay115, k0_pay116,
      k0_pay117, k0_pay118, k0_pay119, k0_pay120, k0_pay121, k0_pay122, k0_pay123, k0_pay124, k0_pay125, k0_pay126, k0_pay127, k0_pay128,
      k0_pay129, k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151, k0_pay152]
  all_goals simp only [Reads.canon2, Reads.canon3, Reads.written2, Reads.written3, View.writes_nil, Memref.IsWhole.read_unread, up_apply, zero_add]
  all_goals first | unfold term12 | unfold term13
  all_goals have := r.isLt
  all_goals have := k.isLt
  all_goals split_ifs <;> first | omega | skip
  all_goals first
    | (rw [EReal.coe_zero]; done)
    | (rw [EReal.coe_zero, add_zero]; done)
    | (by_cases e : r.val = 0; swap; (exfalso; omega); obtain rfl : r = 0 := Fin.ext e; pointwise [up_apply]; all_goals simp only [EReal.coe_zero, zero_add]; done)
    | (by_cases e : r.val = 1; swap; (exfalso; omega); obtain rfl : r = 1 := Fin.ext e; pointwise [up_apply]; all_goals simp only [EReal.coe_zero, zero_add]; done)
    | (by_cases e : r.val = 2; swap; (exfalso; omega); obtain rfl : r = 2 := Fin.ext e; pointwise [up_apply]; all_goals simp only [EReal.coe_zero, zero_add]; done)
    | (by_cases e : r.val = 3; swap; (exfalso; omega); obtain rfl : r = 3 := Fin.ext e; pointwise [up_apply]; all_goals simp only [EReal.coe_zero, zero_add]; done)
    | (by_cases e : r.val = 4; swap; (exfalso; omega); obtain rfl : r = 4 := Fin.ext e; pointwise [up_apply]; all_goals simp only [EReal.coe_zero, zero_add]; done)
    | (by_cases e : r.val = 5; swap; (exfalso; omega); obtain rfl : r = 5 := Fin.ext e; pointwise [up_apply]; all_goals simp only [EReal.coe_zero, zero_add]; done)

end Run
end Cert.Kernel7Ideal.Ffn
end
-- ==== Proof.FfnOut.lean ====
/- The feed-forward block, the loss and their gradients: the seven arrays after the run. -/
module

public import proofs.«01_k».proof.Proof.Ffn

@[expose] public section

set_option maxRecDepth 16384

noncomputable section

namespace Cert.Kernel7Ideal.Ffn

open Cert.Kernel7Ideal Cert.Kernel7Ideal.Gen Idealize.ShloMosaic Idealize.ShloMosaic.TcCoe Idealize.SL.Sem
open Idealize.ShloMosaic.Pipeline (Dat)
open Cert.Reals (up up_apply)
open Cert.Tokens

theorem tiles (f : Fin 8192 → ℝ) (e : Fin 4) :
    (∑ s : Fin 8, ∑ l : Fin 256, f (row ⟨8 * e.val + s.val, by omega⟩ l)) = ∑ l : Fin 2048, f (join e l) := by
  rw [← Reals.sum_blocks (P := 8) (L := 256) rfl]
  refine Finset.sum_congr rfl fun s _ => Finset.sum_congr rfl fun l _ => congrArg f (Fin.ext ?_)
  simp only [row, join]
  omega

theorem tiles_all (f : Fin 8192 → ℝ) :
    (∑ t : Fin 32, ∑ l : Fin 256, f (row t l)) = ∑ e : Fin 4, ∑ l : Fin 2048, f (join e l) :=
  (Reals.sum_blocks (P := 32) (L := 256) rfl f).trans (Reals.sum_blocks (P := 4) (L := 2048) rfl f).symm

section Arrays

variable (a0 a1 : S4x2048x1024.Idx → ℝ) (a2 : S4x6x1024.Idx → ℝ) (a3 : S1x1024.Idx → ℝ) (a4 : S1024.Idx → ℝ)
  (a5 : S1x1024x5632.Idx → ℝ) (a6 : S1x2816x1024.Idx → ℝ)

/-- The arrays after the run: the rows' gradient, the modulated rows, the block's output's gradient, the hidden
    columns, the projected columns' gradient, the modulation's gradient, and the gains' gradients with the loss. -/
def G7 : S8192x1024.Idx → EReal := up fun j => dx1 a0 a1 a2 a3 a4 a5 a6 (j 0) (j 1)
def G8 : S8192x1024.Idx → EReal := up fun j => h2 a0 a2 a3 (j 0) (j 1)
def G9 : S8192x1024.Idx → EReal := up fun j => dffn a0 a1 a2 a3 a4 a5 a6 (j 0) (j 1)
def G10 : S8192x2816.Idx → EReal := up fun j => act a0 a2 a3 a5 (j 0) (j 1)
def G11 : S8192x5632.Idx → EReal := up fun j => du a0 a1 a2 a3 a4 a5 a6 (j 0) (j 1)
def g12 (e : Fin 4) (s : Fin 8) (n : Fin 1024) : ℝ :=
  if s.val = 3 then ∑ l : Fin 2048, dh a0 a1 a2 a3 a4 a5 a6 (join e l) n
  else if s.val = 4 then ∑ l : Fin 2048, dh a0 a1 a2 a3 a4 a5 a6 (join e l) n * xn a0 (join e l) n * gf a3 n
  else if s.val = 5 then ∑ l : Fin 2048, dx2 a0 a1 a2 a3 a4 a5 a6 (join e l) n * ffn a0 a2 a3 a5 a6 (join e l) n
  else 0
def G12 : S4x8x1024.Idx → EReal := up fun j => g12 a0 a1 a2 a3 a4 a5 a6 (j 0) (j 1) (j 2)
def g13 (s : Fin 8) (n : Fin 1024) : ℝ :=
  if s.val = 0 then ∑ e : Fin 4, ∑ l : Fin 2048, dh a0 a1 a2 a3 a4 a5 a6 (join e l) n * (1 + md a2 4 (join e l) n) * xn a0 (join e l) n
  else if s.val = 1 then ∑ e : Fin 4, ∑ l : Fin 2048, dy a0 a1 a2 a3 a4 a5 a6 (join e l) n * y a0 a2 a3 a5 a6 (join e l) n
  else if s.val = 2 then 1 / 2 * ∑ e : Fin 4, ∑ l : Fin 2048,
    (∑ j, er a0 a1 a2 a3 a4 a5 a6 (join e l) j * er a0 a1 a2 a3 a4 a5 a6 (join e l) j) / 1024
  else 0
def G13 : S8x1024.Idx → EReal := up fun j => g13 a0 a1 a2 a3 a4 a5 a6 (j 0) (j 1)

end Arrays

section Run

variable (m : (ℓ : Loc nD τ sig) → Buf (Elt Ideal) ℓ) (c : Dev nD)
  {a0 a1 : S4x2048x1024.Idx → ℝ} {a2 : S4x6x1024.Idx → ℝ} {a3 : S1x1024.Idx → ℝ} {a4 : S1024.Idx → ℝ}
  {a5 : S1x1024x5632.Idx → ℝ} {a6 : S1x2816x1024.Idx → ℝ}
  (h0 : m ((c : Thread nD τ).loc main_arg0) = up a0) (h1 : m ((c : Thread nD τ).loc main_arg1) = up a1)
  (h2' : m ((c : Thread nD τ).loc main_arg2) = up a2) (h3 : m ((c : Thread nD τ).loc main_arg3) = up a3)
  (h4 : m ((c : Thread nD τ).loc main_arg4) = up a4) (h5 : m ((c : Thread nD τ).loc main_arg5) = up a5)
  (h6 : m ((c : Thread nD τ).loc main_arg6) = up a6)
include h0 h1 h2' h3 h4 h5 h6

theorem value7 : (dats m 0 c).arrAt 7 cfg0.N = G7 a0 a1 a2 a3 a4 a5 a6 := by
  refine (dats m 0 c).arrAt_eq_of_covers 7 _ (by decide +kernel) fun t hf y => ?_
  blk_simp
  rw [after0_7, (outs m c h0 h1 h2' h3 h4 h5 h6 t).1]
  idx_vars y
  have e : ((View.whole main_v8_0).slice (win0_7.rect t)).emb (ix2 y0 y1) = ix2 (row (tl t) y0) y1 := by blk_ext [idx t, row, tl]
  rw [e]
  rfl

theorem value8 : (dats m 0 c).arrAt 8 cfg0.N = G8 a0 a2 a3 := by
  refine (dats m 0 c).arrAt_eq_of_covers 8 _ (by decide +kernel) fun t hf y => ?_
  blk_simp
  rw [after0_8, (outs m c h0 h1 h2' h3 h4 h5 h6 t).2.1]
  idx_vars y
  have e : ((View.whole main_v8_1).slice (win0_8.rect t)).emb (ix2 y0 y1) = ix2 (row (tl t) y0) y1 := by blk_ext [idx t, row, tl]
  rw [e]
  rfl

theorem value9 : (dats m 0 c).arrAt 9 cfg0.N = G9 a0 a1 a2 a3 a4 a5 a6 := by
  refine (dats m 0 c).arrAt_eq_of_covers 9 _ (by decide +kernel) fun t hf y => ?_
  blk_simp
  rw [after0_9, (outs m c h0 h1 h2' h3 h4 h5 h6 t).2.2.1]
  idx_vars y
  have e : ((View.whole main_v8_2).slice (win0_9.rect t)).emb (ix2 y0 y1) = ix2 (row (tl t) y0) y1 := by blk_ext [idx t, row, tl]
  rw [e]
  rfl

theorem value10 : (dats m 0 c).arrAt 10 cfg0.N = G10 a0 a2 a3 a5 := by
  refine (dats m 0 c).arrAt_eq_of_covers 10 _ (by decide +kernel) fun t hf y => ?_
  blk_simp
  rw [after0_10, (outs m c h0 h1 h2' h3 h4 h5 h6 t).2.2.2.1]
  idx_vars y
  have e : ((View.whole main_v8_3).slice (win0_10.rect t)).emb (ix2 y0 y1) = ix2 (row (tl t) y0) y1 := by blk_ext [idx t, row, tl]
  rw [e]
  rfl

theorem value11 : (dats m 0 c).arrAt 11 cfg0.N = G11 a0 a1 a2 a3 a4 a5 a6 := by
  refine (dats m 0 c).arrAt_eq_of_covers 11 _ (by decide +kernel) fun t hf y => ?_
  blk_simp
  rw [after0_11, (outs m c h0 h1 h2' h3 h4 h5 h6 t).2.2.2.2.1]
  idx_vars y
  have e : ((View.whole main_v8_4).slice (win0_11.rect t)).emb (ix2 y0 y1) = ix2 (row (tl t) y0) y1 := by blk_ext [idx t, row, tl]
  rw [e]
  rfl

theorem value12 : (dats m 0 c).arrAt 12 cfg0.N = G12 a0 a1 a2 a3 a4 a5 a6 := by
  refine (dats m 0 c).arrAt_eq_of_covers 12 _ (by decide +kernel) fun t hf y => ?_
  blk_simp
  rw [after0_12]
  idx_vars y
  have ht : t.val % 8 = 7 := (flush0_12 t).mp hf
  have e : ((View.whole main_v8_5).slice (win0_12.rect t)).emb (ix3 y0 y1 y2)
      = ix3 (⟨t.val / 8, by have := lt32 t; omega⟩ : Fin 4) y1 y2 := by blk_ext [idx t]
  rw [e]
  obtain rfl : y0 = 0 := Subsingleton.elim _ _
  refine (Pipeline.eq_sum_fin_of_reset_step_apply_of_flush
    (fun n h (j : Fin 8 × Fin 1024) => (outsAt0 m c n h).2.2.2.2.2.1 (ix3 0 j.1 j.2)) 8 (fun _ => 0)
    (fun t j => (term12 a0 a1 a2 a3 a4 a5 a6 (tl t) j.1 j.2 : EReal))
    (fun t ht j => ((outs m c h0 h1 h2' h3 h4 h5 h6 t).2.2.2.2.2.1 j.1 j.2).trans (by rw [if_pos ht]))
    (fun t ht j => ((outs m c h0 h1 h2' h3 h4 h5 h6 t).2.2.2.2.2.1 j.1 j.2).trans (by rw [if_neg ht]))
    t ht (y1, y2)).trans ?_
  rw [zero_add, Reals.sum]
  refine congrArg _ ?_
  show (∑ s : Fin 8, term12 a0 a1 a2 a3 a4 a5 a6 ⟨8 * (t.val / 8) + s.val, _⟩ y1 y2) = g12 a0 a1 a2 a3 a4 a5 a6 ⟨t.val / 8, _⟩ y1 y2
  unfold term12 g12
  split_ifs
  · exact tiles (fun r => dh a0 a1 a2 a3 a4 a5 a6 r y2) ⟨t.val / 8, _⟩
  · exact tiles (fun r => dh a0 a1 a2 a3 a4 a5 a6 r y2 * xn a0 r y2 * gf a3 y2) ⟨t.val / 8, _⟩
  · exact tiles (fun r => dx2 a0 a1 a2 a3 a4 a5 a6 r y2 * ffn a0 a2 a3 a5 a6 r y2) ⟨t.val / 8, _⟩
  · exact Finset.sum_const_zero

theorem value13 : (dats m 0 c).arrAt 13 cfg0.N = G13 a0 a1 a2 a3 a4 a5 a6 := by
  refine (dats m 0 c).arrAt_eq_of_covers 13 _ (by decide +kernel) fun t hf y => ?_
  blk_simp
  rw [after0_13]
  idx_vars y
  have ht : t.val % 32 = 31 := (flush0_13 t).mp hf
  have e : ((View.whole main_v8_6).slice (win0_13.rect t)).emb (ix2 y0 y1) = ix2 y0 y1 := by blk_ext [idx t]
  rw [e]
  have last : t.val + 1 = cfg0.N := (show t.val + 1 = 32 by have := lt32 t; omega).trans N_0.symm
  refine (Pipeline.eq_sum_fin_of_reset_step_apply_last
    (fun n h (j : Fin 8 × Fin 1024) => (outsAt0 m c n h).2.2.2.2.2.2 (ix2 j.1 j.2)) 32 (fun _ => 0)
    (fun t j => (term13 a0 a1 a2 a3 a4 a5 a6 (tl t) j.1 j.2 : EReal))
    (fun t ht j => ((outs m c h0 h1 h2' h3 h4 h5 h6 t).2.2.2.2.2.2 j.1 j.2).trans (by rw [if_pos ht]))
    (fun t ht j => ((outs m c h0 h1 h2' h3 h4 h5 h6 t).2.2.2.2.2.2 j.1 j.2).trans (by rw [if_neg ht]))
    (le_of_eq N_0) t last (y0, y1)).trans ?_
  rw [zero_add, Reals.sum]
  refine congrArg _ ?_
  show (∑ t : Fin 32, term13 a0 a1 a2 a3 a4 a5 a6 t y0 y1) = g13 a0 a1 a2 a3 a4 a5 a6 y0 y1
  unfold term13 g13
  split_ifs
  · refine Eq.trans (Finset.sum_congr rfl fun t _ => Finset.sum_congr rfl fun l _ => ?_)
      (tiles_all fun r => dh a0 a1 a2 a3 a4 a5 a6 r y1 * (1 + md a2 4 r y1) * xn a0 r y1)
    unfold md
    rw [ex_row]
  · exact tiles_all fun r => dy a0 a1 a2 a3 a4 a5 a6 r y1 * y a0 a2 a3 a5 a6 r y1
  · rw [← Finset.mul_sum]
    exact congrArg _ (tiles_all fun r => (∑ j, er a0 a1 a2 a3 a4 a5 a6 r j * er a0 a1 a2 a3 a4 a5 a6 r j) / 1024)
  · exact Finset.sum_const_zero

end Run
end Cert.Kernel7Ideal.Ffn
end
-- ==== Proof.FfnRef.lean ====
/- The feed-forward block, the loss and their gradients: what the reference computes, operation by operation, and its
   equality with the kernel's arrays. -/
module

public import proofs.«01_k».proof.Proof.FfnOut
public import proofs.«01_k».proof.Proof.Gen.Reference7Ideal.Run
public import proofs.«01_k».proof.Proof.Gen.Reference7Ideal.Read
public import proofs.«01_k».proof.Proof.Gen.Pre_finite_ffn
public import proofs.«01_k».proof.Defs
public import Idealize.ShloMosaic.Lib.Quiescent

@[expose] public section

set_option maxRecDepth 16384

noncomputable section

namespace Cert.Reference7Ideal.Ffn

open Cert.Reference7Ideal Cert.Reference7Ideal.Gen Cert.Reference7Ideal.Read Idealize.ShloMosaic
open Cert.Reals (up up_apply)
open Cert.Tokens
open Cert.Kernel7Ideal.Ffn hiding row

variable (a0 a1 : S4x2048x1024.Idx → ℝ) (a2 : S4x6x1024.Idx → ℝ) (a3 : S1x1024.Idx → ℝ) (a4 : S1024.Idx → ℝ)
  (a5 : S1x1024x5632.Idx → ℝ) (a6 : S1x2816x1024.Idx → ℝ)

theorem x_join (e : Fin 4) (l : Fin 2048) (n : Fin 1024) : x a0 (join e l) n = a0 (ix3 e l n) := by
  unfold x
  rw [ex_join, tok_join]

theorem md_join (s : ℕ) (h : s < 6) (e : Fin 4) (l : Fin 2048) (n : Fin 1024) : md a2 s (join e l) n = a2 (ix3 e ⟨s, h⟩ n) := by
  unfold md me
  rw [ex_join, dif_pos h]

theorem md3 (e : Fin 4) (l : Fin 2048) (n : Fin 1024) : md a2 3 (join e l) n = a2 (ix3 e 3 n) := md_join a2 3 (by omega) e l n
theorem md4 (e : Fin 4) (l : Fin 2048) (n : Fin 1024) : md a2 4 (join e l) n = a2 (ix3 e 4 n) := md_join a2 4 (by omega) e l n
theorem md5 (e : Fin 4) (l : Fin 2048) (n : Fin 1024) : md a2 5 (join e l) n = a2 (ix3 e 5 n) := md_join a2 5 (by omega) e l n

theorem wup_eq (n : Fin 1024) (k : Fin 5632) : wup a5 n k = a5 (ix3 0 n k) := dif_pos k.isLt
theorem wdn_eq (k : Fin 2816) (n : Fin 1024) : wdn a6 k n = a6 (ix3 0 k n) := dif_pos k.isLt

theorem ofBits_two : Ideal.ofBits .f32 0x40000000#32 = ((2 : ℝ) : EReal) := by
  simp [Ideal.ofBits, Ideal.ieee, -EReal.coe_mul]; norm_num

theorem v12 : val_main_v12 (F := Ideal) (up a0) = up fun j => r2 a0 (join (j 0) (j 1)) := by
  funext j; idx_vars j
  unfold val_main_v12
  pointwise [val_main_v11, val_main_v10, val_main_v9, val_main_v8, val_main_v7, val_main_v6, val_main_v5, val_main_cst, val_main_cst_0, val_main_cst_1, up_apply]
  simp only [Reals.mul, Reals.sum]
  rw [Reals.rms (Reals.sum_sq_nonneg _ _)]
  simp only [r2, x_join]

theorem v15 : val_main_v15 (F := Ideal) (up a0) = up fun j => -(1 / 2) * (r2 a0 (join (j 0) (j 1)) * (r2 a0 (join (j 0) (j 1)) * r2 a0 (join (j 0) (j 1)))) := by
  funext j; idx_vars j
  unfold val_main_v15 val_main_v13
  rw [v12]
  pointwise [val_main_v14, val_main_cst_2, val_main_v11, val_main_v10, val_main_v9, val_main_v8, val_main_v7, val_main_v6, val_main_v5, val_main_cst, val_main_cst_0, val_main_cst_1, up_apply]
  simp only [Reals.mul, Reals.sum, r2, x_join]
  have h := Reals.sum_sq_nonneg Finset.univ fun n => a0 (ix3 j0 j1 n)
  rw [Reals.ofBits_1024, Reals.ofBits_eps, Reals.ofBits_neg_half, Reals.div _ _ (by norm_num), Reals.add,
    Reals.div _ _ (add_pos_of_nonneg_of_pos (div_nonneg h (by norm_num)) Reals.eps_pos).ne', Reals.mul, Reals.rms_div h]

theorem v17 : val_main_v17 (F := Ideal) (up a0) = up fun j => xn a0 (join (j 0) (j 1)) (j 2) := by
  funext j; idx_vars j
  unfold val_main_v17 val_main_v16
  rw [v12]
  pointwise [up_apply]
  simp only [Reals.mul, xn, x_join]

theorem v28 : val_main_v28 (F := Ideal) (up a0) (up a2) (up a3) = up fun j => h2 a0 a2 a3 (join (j 0) (j 1)) (j 2) := by
  funext j; idx_vars j
  unfold val_main_v28 val_main_v26 val_main_v20
  rw [v17]
  pointwise [val_main_v27, val_main_v25, val_main_v24, val_main_v23, val_main_v22, val_main_v21, val_main_v19, val_main_v18, val_main_v4, val_main_v3, val_main_v2, val_main_v1, val_main_v0, val_main_cst_3, up_apply]
  simp only [Reals.one, Reals.mul, Reals.add, h2, md3, md4, gf]

theorem v30 : val_main_v30 (F := Ideal) (up a0) (up a2) (up a3) (up a5) = up fun j => u a0 a2 a3 a5 (join (j 0) (j 1)) (j 2) := by
  funext j; idx_vars j
  unfold val_main_v30
  rw [v28]
  pointwise [val_main_v29, up_apply]
  simp only [Reals.mul, Reals.sum, u, wup_eq]

theorem v33_2 : val_main_v33_2 (F := Ideal) (up a0) (up a2) (up a3) (up a5) = up fun j => Reals.sig (u a0 a2 a3 a5 (join (j 0) (j 1)) (j 2)) := by
  funext j; idx_vars j
  unfold val_main_v33_2 val_main_call0_v3 val_main_call0_v1 val_main_call0_v0 val_main_v31
  rw [v30]
  pointwise [val_main_call0_v4, val_main_call0_v2, val_main_call0_cst, val_main_call0_cst_0, up_apply]
  simp only [Reals.logistic, zero_add]

theorem v33_0 : val_main_v33_0 (F := Ideal) (up a0) (up a2) (up a3) (up a5) = up fun j => u a0 a2 a3 a5 (join (j 0) (j 1)) (j 2) * Reals.sig (u a0 a2 a3 a5 (join (j 0) (j 1)) (j 2)) := by
  funext j; idx_vars j
  unfold val_main_v33_0 val_main_v31
  rw [v30, v33_2]
  pointwise [up_apply]
  simp only [Reals.mul, zero_add]

theorem v34 : val_main_v34 (F := Ideal) (up a0) (up a2) (up a3) (up a5) = up fun j => act a0 a2 a3 a5 (join (j 0) (j 1)) (j 2) := by
  funext j; idx_vars j
  unfold val_main_v34 val_main_v32
  rw [v30, v33_0]
  pointwise [up_apply]
  simp only [Reals.mul, act]

theorem v36 : val_main_v36 (F := Ideal) (up a0) (up a2) (up a3) (up a5) (up a6) = up fun j => ffn a0 a2 a3 a5 a6 (join (j 0) (j 1)) (j 2) := by
  funext j; idx_vars j
  unfold val_main_v36
  rw [v34]
  pointwise [val_main_v35, up_apply]
  simp only [Reals.mul, Reals.sum, ffn, wdn_eq]

theorem v42 : val_main_v42 (F := Ideal) (up a0) (up a2) (up a3) (up a5) (up a6) = up fun j => x2 a0 a2 a3 a5 a6 (join (j 0) (j 1)) (j 2) := by
  funext j; idx_vars j
  unfold val_main_v42 val_main_v41
  rw [v36]
  pointwise [val_main_v40, val_main_v39, val_main_v38, val_main_v37, up_apply]
  simp only [Reals.mul, Reals.add, x2, md5, x_join]

theorem v50 : val_main_v50 (F := Ideal) (up a0) (up a2) (up a3) (up a5) (up a6) = up fun j => r3 a0 a2 a3 a5 a6 (join (j 0) (j 1)) := by
  funext j; idx_vars j
  unfold val_main_v50 val_main_v49 val_main_v47 val_main_v45 val_main_v44 val_main_v43
  rw [v42]
  pointwise [val_main_v48, val_main_v46, val_main_cst_4, val_main_cst_5, val_main_cst_6, up_apply]
  simp only [Reals.mul, Reals.sum]
  rw [Reals.rms (Reals.sum_sq_nonneg _ _)]
  simp only [r3]

theorem v53 : val_main_v53 (F := Ideal) (up a0) (up a2) (up a3) (up a5) (up a6) = up fun j => -(1 / 2) * (r3 a0 a2 a3 a5 a6 (join (j 0) (j 1)) * (r3 a0 a2 a3 a5 a6 (join (j 0) (j 1)) * r3 a0 a2 a3 a5 a6 (join (j 0) (j 1)))) := by
  funext j; idx_vars j
  unfold val_main_v53 val_main_v51 val_main_v49 val_main_v47 val_main_v45 val_main_v44 val_main_v43
  rw [v50, v42]
  pointwise [val_main_v52, val_main_v48, val_main_v46, val_main_cst_4, val_main_cst_5, val_main_cst_6, val_main_cst_7, up_apply]
  simp only [Reals.mul, Reals.sum, r3]
  have h := Reals.sum_sq_nonneg Finset.univ fun n => x2 a0 a2 a3 a5 a6 (join j0 j1) n
  rw [Reals.ofBits_1024, Reals.ofBits_eps, Reals.ofBits_neg_half, Reals.div _ _ (by norm_num), Reals.add,
    Reals.div _ _ (add_pos_of_nonneg_of_pos (div_nonneg h (by norm_num)) Reals.eps_pos).ne', Reals.mul, Reals.rms_div h]

theorem v55 : val_main_v55 (F := Ideal) (up a0) (up a2) (up a3) (up a5) (up a6) = up fun j => y a0 a2 a3 a5 a6 (join (j 0) (j 1)) (j 2) := by
  funext j; idx_vars j
  unfold val_main_v55 val_main_v54
  rw [v50, v42]
  pointwise [up_apply]
  simp only [Reals.mul, y]

theorem v59 : val_main_v59 (F := Ideal) (up a0) (up a1) (up a2) (up a3) (up a4) (up a5) (up a6) = up fun j => er a0 a1 a2 a3 a4 a5 a6 (join (j 0) (j 1)) (j 2) := by
  funext j; idx_vars j
  unfold val_main_v59 val_main_v58
  rw [v55]
  pointwise [val_main_v57, val_main_v56, up_apply]
  simp only [Reals.mul, Reals.sub, er, gl, tg, ex_join, tok_join]

theorem v73 : val_main_v73 (F := Ideal) (up a0) (up a1) (up a2) (up a3) (up a4) (up a5) (up a6) = up fun j => dy a0 a1 a2 a3 a4 a5 a6 (join (j 0) (j 1)) (j 2) := by
  funext j; idx_vars j
  unfold val_main_v73 val_main_v62
  rw [v59]
  pointwise [val_main_v72, val_main_v71, val_main_v70, val_main_v69, val_main_v68, val_main_v61, val_main_cst_8, val_main_cst_13, val_main_cst_14, val_main_cst_15, up_apply]
  simp only [Reals.ofBits_1024, Reals.ofBits_half, ofBits_two, Reals.one, Reals.mul, dy]
  rw [Reals.div _ _ (by norm_num), Reals.mul]
  exact congrArg _ (by ring)

theorem v78 : val_main_v78 (F := Ideal) (up a0) (up a1) (up a2) (up a3) (up a4) (up a5) (up a6) = up fun j => dyg a0 a1 a2 a3 a4 a5 a6 (join (j 0) (j 1)) (j 2) := by
  funext j; idx_vars j
  unfold val_main_v78
  rw [v73]
  pointwise [val_main_v77, val_main_v56, up_apply]
  simp only [Reals.mul, dyg, gl]

theorem v93 : val_main_v93 (F := Ideal) (up a0) (up a1) (up a2) (up a3) (up a4) (up a5) (up a6) = up fun j => dx2 a0 a1 a2 a3 a4 a5 a6 (join (j 0) (j 1)) (j 2) := by
  funext j; idx_vars j
  unfold val_main_v93 val_main_v92 val_main_v91 val_main_v90 val_main_v89 val_main_v88 val_main_v87 val_main_v85 val_main_v84 val_main_v83 val_main_v82 val_main_v81 val_main_v80
  rw [v78, v53, v50, v42]
  pointwise [val_main_v86, val_main_cst_18, val_main_cst_19, val_main_cst_20, up_apply]
  simp only [Reals.mul, Reals.sum, Reals.ofBits_1024, Fin.sum_univ_one]
  rw [Reals.div _ _ (by norm_num)]
  simp only [Reals.mul, Reals.add, dx2, y]
  have : (∑ n, dyg a0 a1 a2 a3 a4 a5 a6 (join j0 j1) n * (x2 a0 a2 a3 a5 a6 (join j0 j1) n * r3 a0 a2 a3 a5 a6 (join j0 j1)))
      = (∑ n, x2 a0 a2 a3 a5 a6 (join j0 j1) n * dyg a0 a1 a2 a3 a4 a5 a6 (join j0 j1) n) * r3 a0 a2 a3 a5 a6 (join j0 j1) := by
    rw [Finset.sum_mul]
    exact Finset.sum_congr rfl fun n _ => by ring
  rw [this]
  exact congrArg _ (by ring)

theorem v95 : val_main_v95 (F := Ideal) (up a0) (up a1) (up a2) (up a3) (up a4) (up a5) (up a6) = up fun j => dffn a0 a1 a2 a3 a4 a5 a6 (join (j 0) (j 1)) (j 2) := by
  funext j; idx_vars j
  unfold val_main_v95
  rw [v93]
  pointwise [val_main_v94, val_main_v39, val_main_v38, val_main_v37, up_apply]
  simp only [Reals.mul, dffn, md5]
  exact congrArg _ (mul_comm _ _)

theorem v99 : val_main_v99 (F := Ideal) (up a0) (up a1) (up a2) (up a3) (up a4) (up a5) (up a6) = up fun j => ∑ l, dx2 a0 a1 a2 a3 a4 a5 a6 (join (j 0) l) (j 1) * ffn a0 a2 a3 a5 a6 (join (j 0) l) (j 1) := by
  funext j; idx_vars j
  unfold val_main_v99 val_main_v98 val_main_v97 val_main_v96
  rw [v93, v36]
  pointwise [val_main_cst_21, val_main_cst_22, up_apply]
  simp only [Reals.mul, Reals.sum, Fin.sum_univ_one]

theorem v100 : val_main_v100 (F := Ideal) (up a0) (up a1) (up a2) (up a3) (up a4) (up a5) (up a6) = up fun j => dact a0 a1 a2 a3 a4 a5 a6 (join (j 0) (j 1)) (j 2) := by
  funext j; idx_vars j
  unfold val_main_v100
  rw [v95]
  pointwise [val_main_v35, up_apply]
  simp only [Reals.mul, Reals.sum, dact, wdn_eq]

theorem v102 : val_main_v102 (F := Ideal) (up a0) (up a1) (up a2) (up a3) (up a4) (up a5) (up a6) = up fun j => dact a0 a1 a2 a3 a4 a5 a6 (join (j 0) (j 1)) (j 2) * u a0 a2 a3 a5 (join (j 0) (j 1)) (2816 + j 2) := by
  funext j; idx_vars j
  unfold val_main_v102 val_main_v32
  rw [v100, v30]
  pointwise [up_apply]
  simp only [Reals.mul]

theorem v103 : val_main_v103 (F := Ideal) (up a0) (up a1) (up a2) (up a3) (up a4) (up a5) (up a6) = up fun j => du a0 a1 a2 a3 a4 a5 a6 (join (j 0) (j 1)) (j 2) := by
  funext j; idx_vars j
  unfold val_main_v103 val_main_call1_v2 val_main_call1_v1 val_main_call1_v0 val_main_v33_1 val_main_v31 val_main_call0_v7
  rw [v102, v33_2, v30]
  pointwise [val_main_call0_v6, val_main_call0_cst_1, up_apply]
  simp only [Reals.one, Reals.mul, Reals.sub, Reals.add, zero_add, du]
  rw [if_pos j2.isLt]
  exact congrArg Real.toEReal (by ring)

theorem v101 : val_main_v101 (F := Ideal) (up a0) (up a1) (up a2) (up a3) (up a4) (up a5) (up a6) = up fun j => du a0 a1 a2 a3 a4 a5 a6 (join (j 0) (j 1)) (2816 + j 2) := by
  funext j; idx_vars j
  unfold val_main_v101
  rw [v100, v33_0]
  pointwise [up_apply]
  simp only [Reals.mul, du]
  rw [if_neg (by omega), Nat.add_sub_cancel_left]
  exact congrArg _ (by ring)

theorem v104 : val_main_v104 (F := Ideal) (up a0) (up a1) (up a2) (up a3) (up a4) (up a5) (up a6) = up fun j => du a0 a1 a2 a3 a4 a5 a6 (join (j 0) (j 1)) (j 2) := by
  funext j; idx_vars j
  unfold val_main_v104
  rw [v103, v101]
  pointwise [up_apply]
  by_cases h : j2.val < 2816
  · rw [dif_pos h]
  · rw [dif_neg h]
    exact congrArg (fun k => ((du a0 a1 a2 a3 a4 a5 a6 (join j0 j1) k : ℝ) : EReal)) (show 2816 + (j2.val - 2816) = j2.val by omega)

theorem v105 : val_main_v105 (F := Ideal) (up a0) (up a1) (up a2) (up a3) (up a4) (up a5) (up a6) = up fun j => dh a0 a1 a2 a3 a4 a5 a6 (join (j 0) (j 1)) (j 2) := by
  funext j; idx_vars j
  unfold val_main_v105
  rw [v104]
  pointwise [val_main_v29, up_apply]
  simp only [Reals.mul, Reals.sum, dh, wup_eq]

theorem v114 : val_main_v114 (F := Ideal) (up a0) (up a1) (up a2) (up a3) (up a4) (up a5) (up a6) = up fun j => ∑ l, dh a0 a1 a2 a3 a4 a5 a6 (join (j 0) l) (j 1) := by
  funext j; idx_vars j
  unfold val_main_v114 val_main_v107 val_main_v106
  rw [v105]
  pointwise [val_main_cst_23, val_main_cst_26, up_apply]
  simp only [Reals.sum, Fin.sum_univ_one]

theorem v113 : val_main_v113 (F := Ideal) (up a0) (up a1) (up a2) (up a3) (up a4) (up a5) (up a6) = up fun j => ∑ l, dh a0 a1 a2 a3 a4 a5 a6 (join (j 0) l) (j 1) * xn a0 (join (j 0) l) (j 1) * gf a3 (j 1) := by
  funext j; idx_vars j
  unfold val_main_v113 val_main_v110 val_main_v109 val_main_v108 val_main_v20
  rw [v105, v17]
  pointwise [val_main_v19, val_main_v18, val_main_v4, val_main_cst_24, val_main_cst_25, up_apply]
  simp only [Reals.mul, Reals.sum, Fin.sum_univ_one, gf]
  exact congrArg _ (Finset.sum_congr rfl fun l _ => by ring)

theorem v112 : val_main_v112 (F := Ideal) (up a0) (up a1) (up a2) (up a3) (up a4) (up a5) (up a6) = up fun j => dh a0 a1 a2 a3 a4 a5 a6 (join (j 0) (j 1)) (j 2) * (1 + md a2 4 (join (j 0) (j 1)) (j 2)) := by
  funext j; idx_vars j
  unfold val_main_v112
  rw [v105]
  pointwise [val_main_v111, val_main_v24, val_main_v23, val_main_v22, val_main_v3, val_main_v2, val_main_cst_3, up_apply]
  simp only [Reals.one, Reals.mul, Reals.add, md4]

theorem v120 : val_main_v120 (F := Ideal) (up a0) (up a1) (up a2) (up a3) (up a4) (up a5) (up a6) = up fun j => ∑ e, ∑ l, dh a0 a1 a2 a3 a4 a5 a6 (join e l) (j 0) * (1 + md a2 4 (join e l) (j 0)) * xn a0 (join e l) (j 0) := by
  funext j; idx_vars j
  unfold val_main_v120 val_main_v117 val_main_v116 val_main_v115
  rw [v112, v17]
  pointwise [Reals.hostSum01, val_main_cst_27, val_main_cst_28, up_apply]
  simp only [Reals.mul, Reals.sum, Fin.sum_univ_one]
  exact congrArg _ (Finset.sum_congr rfl fun e _ => Finset.sum_congr rfl fun l _ => by ring)

theorem v79 : val_main_v79 (F := Ideal) (up a0) (up a1) (up a2) (up a3) (up a4) (up a5) (up a6) = up fun j => ∑ e, ∑ l, dy a0 a1 a2 a3 a4 a5 a6 (join e l) (j 0) * y a0 a2 a3 a5 a6 (join e l) (j 0) := by
  funext j; idx_vars j
  unfold val_main_v79 val_main_v76 val_main_v75 val_main_v74
  rw [v55, v73]
  pointwise [Reals.hostSum01, val_main_cst_16, val_main_cst_17, up_apply]
  simp only [Reals.mul, Reals.sum, Fin.sum_univ_one]
  exact congrArg _ (Finset.sum_congr rfl fun e _ => Finset.sum_congr rfl fun l _ => by ring)

theorem v65 : val_main_v65 (F := Ideal) (up a0) (up a1) (up a2) (up a3) (up a4) (up a5) (up a6) = up fun j => (∑ k, er a0 a1 a2 a3 a4 a5 a6 (join (j 0) (j 1)) k * er a0 a1 a2 a3 a4 a5 a6 (join (j 0) (j 1)) k) / 1024 := by
  funext j; idx_vars j
  unfold val_main_v65 val_main_v63 val_main_v60
  rw [v59]
  pointwise [val_main_v64, val_main_cst_9, val_main_cst_10, up_apply]
  simp only [Reals.mul, Reals.sum, Reals.ofBits_1024]
  rw [Reals.div _ _ (by norm_num)]

theorem v67 (j : S_.Idx) : val_main_v67 (F := Ideal) (up a0) (up a1) (up a2) (up a3) (up a4) (up a5) (up a6) j = ((1 / 2 * ∑ e : Fin 4, ∑ l : Fin 2048, (∑ k, er a0 a1 a2 a3 a4 a5 a6 (join e l) k * er a0 a1 a2 a3 a4 a5 a6 (join e l) k) / 1024 : ℝ) : EReal) := by
  rw [val_main_v67_apply, val_main_v66_apply, sum_idx2, v65]
  pointwise [val_main_cst_11, val_main_cst_12, up_apply]
  simp only [Reals.mul, Reals.sum, Reals.ofBits_half]

theorem v119 : val_main_v119 (F := Ideal) (up a0) (up a1) (up a2) (up a3) (up a4) (up a5) (up a6) = up fun j => dxn a0 a1 a2 a3 a4 a5 a6 (join (j 0) (j 1)) (j 2) := by
  funext j; idx_vars j
  unfold val_main_v119
  rw [v112]
  pointwise [val_main_v118, val_main_v18, val_main_v4, up_apply]
  simp only [Reals.mul, dxn, gf]
  exact congrArg _ (by ring)

theorem v135 : val_main_v135 (F := Ideal) (up a0) (up a1) (up a2) (up a3) (up a4) (up a5) (up a6) = up fun j => dx1 a0 a1 a2 a3 a4 a5 a6 (join (j 0) (j 1)) (j 2) := by
  funext j; idx_vars j
  unfold val_main_v135 val_main_v134 val_main_v133 val_main_v132 val_main_v131 val_main_v130 val_main_v129 val_main_v128 val_main_v126 val_main_v125 val_main_v124 val_main_v123 val_main_v122 val_main_v121
  rw [v93, v119, v15, v12]
  pointwise [val_main_v127, val_main_cst_29, val_main_cst_30, val_main_cst_31, up_apply]
  simp only [Reals.mul, Reals.sum, Reals.ofBits_1024, Fin.sum_univ_one]
  rw [Reals.div _ _ (by norm_num)]
  simp only [Reals.mul, Reals.add, dx1, xn, x_join]
  have : (∑ n, dxn a0 a1 a2 a3 a4 a5 a6 (join j0 j1) n * (a0 (ix3 j0 j1 n) * r2 a0 (join j0 j1)))
      = (∑ n, a0 (ix3 j0 j1 n) * dxn a0 a1 a2 a3 a4 a5 a6 (join j0 j1) n) * r2 a0 (join j0 j1) := by
    rw [Finset.sum_mul]
    exact Finset.sum_congr rfl fun n _ => by ring
  rw [this]
  exact congrArg _ (by ring)

theorem g7 : val_main_v136 (F := Ideal) (up a0) (up a1) (up a2) (up a3) (up a4) (up a5) (up a6) = G7 a0 a1 a2 a3 a4 a5 a6 := by
  funext j; idx_vars j
  unfold val_main_v136
  rw [v135]
  unfold G7
  pointwise [up_apply]
  refine congrArg _ (congrArg (fun r => dx1 a0 a1 a2 a3 a4 a5 a6 r j1) (Fin.ext ?_))
  simp only [join]
  omega

theorem g8 : val_main_v152 (F := Ideal) (up a0) (up a2) (up a3) = G8 a0 a2 a3 := by
  funext j; idx_vars j
  unfold val_main_v152 val_main_v137
  rw [v28]
  unfold G8
  pointwise [up_apply]
  refine congrArg _ (congrArg (fun r => h2 a0 a2 a3 r j1) (Fin.ext ?_))
  simp only [join]
  omega

theorem g9 : val_main_v153 (F := Ideal) (up a0) (up a1) (up a2) (up a3) (up a4) (up a5) (up a6) = G9 a0 a1 a2 a3 a4 a5 a6 := by
  funext j; idx_vars j
  unfold val_main_v153 val_main_v138
  rw [v95]
  unfold G9
  pointwise [up_apply]
  refine congrArg _ (congrArg (fun r => dffn a0 a1 a2 a3 a4 a5 a6 r j1) (Fin.ext ?_))
  simp only [join]
  omega

theorem g10 : val_main_v154 (F := Ideal) (up a0) (up a2) (up a3) (up a5) = G10 a0 a2 a3 a5 := by
  funext j; idx_vars j
  unfold val_main_v154 val_main_v139
  rw [v34]
  unfold G10
  pointwise [up_apply]
  refine congrArg _ (congrArg (fun r => act a0 a2 a3 a5 r j1) (Fin.ext ?_))
  simp only [join]
  omega

theorem g11 : val_main_v155 (F := Ideal) (up a0) (up a1) (up a2) (up a3) (up a4) (up a5) (up a6) = G11 a0 a1 a2 a3 a4 a5 a6 := by
  funext j; idx_vars j
  unfold val_main_v155 val_main_v140
  rw [v104]
  unfold G11
  pointwise [up_apply]
  refine congrArg _ (congrArg (fun r => du a0 a1 a2 a3 a4 a5 a6 r j1) (Fin.ext ?_))
  simp only [join]
  omega

theorem g12 : val_main_v146 (F := Ideal) (up a0) (up a1) (up a2) (up a3) (up a4) (up a5) (up a6) = G12 a0 a1 a2 a3 a4 a5 a6 := by
  funext j; idx_vars j
  unfold val_main_v146 val_main_v144 val_main_v143 val_main_v142
  rw [v99, v113, v114]
  unfold G12 Cert.Kernel7Ideal.Ffn.g12
  pointwise [up_apply, val_main_v145, val_main_v141, val_main_cst_32, val_main_cst_33]
  split_ifs <;> first | omega | rfl

theorem g13 : val_main_v151 (F := Ideal) (up a0) (up a1) (up a2) (up a3) (up a4) (up a5) (up a6) = G13 a0 a1 a2 a3 a4 a5 a6 := by
  funext j; idx_vars j
  unfold val_main_v151 val_main_v149 val_main_v148 val_main_v147
  rw [v120, v79]
  unfold G13 Cert.Kernel7Ideal.Ffn.g13
  pointwise [up_apply, v67, val_main_v150, val_main_cst_34]
  by_cases e : j0.val = 2 <;> split_ifs <;> first
    | omega
    | rfl
    | exact congrArg Real.toEReal (if_pos e).symm
    | exact congrArg Real.toEReal (if_neg e).symm

end Cert.Reference7Ideal.Ffn

namespace Cert.Kernel7Ideal.Ffn

open Cert.Kernel7Ideal Cert.Kernel7Ideal.Gen Idealize.ShloMosaic Idealize.ShloMosaic.TcCoe Idealize.SL.Sem
open Cert.Reals (up)

/-! ## The claims -/

theorem frame_r : Cert.quiescent_Reference7Ideal := fun m ρ _ =>
  (θ_run Cert.Reference7Ideal.defs _ _).mono (fun r h => ⟨fun c => (h c).2.2.2.2.2.2.2,
      Idealize.ShloMosaic.sem_eq_zero_of_no_sems (by decide) r.2⟩)
    (Cert.Reference7Ideal.Value.run (F := Ideal) m ρ)

theorem algebraic : Cert.algebraic_Kernel7Ideal_Reference7Ideal_pre_finite_ffn := by
  intro m ρ m' ρ' hpre hagree
  refine ⟨_, _, _, _, _, _, _, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨p0, p1, p2, p3, p4, p5, p6⟩ := hpre c
  obtain ⟨a0, h0⟩ : ∃ a : S4x2048x1024.Idx → ℝ, m ((c : Thread nD τ).loc main_arg0) = up a := Reals.lift_finite p0
  obtain ⟨a1, h1⟩ : ∃ a : S4x2048x1024.Idx → ℝ, m ((c : Thread nD τ).loc main_arg1) = up a := Reals.lift_finite p1
  obtain ⟨a2, h2'⟩ : ∃ a : S4x6x1024.Idx → ℝ, m ((c : Thread nD τ).loc main_arg2) = up a := Reals.lift_finite p2
  obtain ⟨a3, h3⟩ : ∃ a : S1x1024.Idx → ℝ, m ((c : Thread nD τ).loc main_arg3) = up a := Reals.lift_finite p3
  obtain ⟨a4, h4⟩ : ∃ a : S1024.Idx → ℝ, m ((c : Thread nD τ).loc main_arg4) = up a := Reals.lift_finite p4
  obtain ⟨a5, h5⟩ : ∃ a : S1x1024x5632.Idx → ℝ, m ((c : Thread nD τ).loc main_arg5) = up a := Reals.lift_finite p5
  obtain ⟨a6, h6⟩ : ∃ a : S1x2816x1024.Idx → ℝ, m ((c : Thread nD τ).loc main_arg6) = up a := Reals.lift_finite p6
  obtain ⟨q0, q1, q2, q3, q4, q5, q6⟩ := hagree c
  have r0 : StableHlo.launchContents m' c (Proc.tc.devRef Cert.Reference7Ideal.main_arg0) = up a0 := q0.trans h0
  have r1 : StableHlo.launchContents m' c (Proc.tc.devRef Cert.Reference7Ideal.main_arg1) = up a1 := q1.trans h1
  have r2 : StableHlo.launchContents m' c (Proc.tc.devRef Cert.Reference7Ideal.main_arg2) = up a2 := q2.trans h2'
  have r3 : StableHlo.launchContents m' c (Proc.tc.devRef Cert.Reference7Ideal.main_arg3) = up a3 := q3.trans h3
  have r4 : StableHlo.launchContents m' c (Proc.tc.devRef Cert.Reference7Ideal.main_arg4) = up a4 := q4.trans h4
  have r5 : StableHlo.launchContents m' c (Proc.tc.devRef Cert.Reference7Ideal.main_arg5) = up a5 := q5.trans h5
  have r6 : StableHlo.launchContents m' c (Proc.tc.devRef Cert.Reference7Ideal.main_arg6) = up a6 := q6.trans h6
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2⟩ <;> clear h
  · refine (Cert.Reference7Ideal.Read.val_main_v136_eq _).trans (Eq.trans ?_ (value7 m c h0 h1 h2' h3 h4 h5 h6).symm)
    rw [r0, r1, r2, r3, r4, r5, r6]
    exact Cert.Reference7Ideal.Ffn.g7 a0 a1 a2 a3 a4 a5 a6
  · refine (Cert.Reference7Ideal.Read.val_main_v152_eq _).trans (Eq.trans ?_ (value8 m c h0 h1 h2' h3 h4 h5 h6).symm)
    rw [r0, r2, r3]
    exact Cert.Reference7Ideal.Ffn.g8 a0 a2 a3
  · refine (Cert.Reference7Ideal.Read.val_main_v153_eq _).trans (Eq.trans ?_ (value9 m c h0 h1 h2' h3 h4 h5 h6).symm)
    rw [r0, r1, r2, r3, r4, r5, r6]
    exact Cert.Reference7Ideal.Ffn.g9 a0 a1 a2 a3 a4 a5 a6
  · refine (Cert.Reference7Ideal.Read.val_main_v154_eq _).trans (Eq.trans ?_ (value10 m c h0 h1 h2' h3 h4 h5 h6).symm)
    rw [r0, r2, r3, r5]
    exact Cert.Reference7Ideal.Ffn.g10 a0 a2 a3 a5
  · refine (Cert.Reference7Ideal.Read.val_main_v155_eq _).trans (Eq.trans ?_ (value11 m c h0 h1 h2' h3 h4 h5 h6).symm)
    rw [r0, r1, r2, r3, r4, r5, r6]
    exact Cert.Reference7Ideal.Ffn.g11 a0 a1 a2 a3 a4 a5 a6
  · refine (Cert.Reference7Ideal.Read.val_main_v146_eq _).trans (Eq.trans ?_ (value12 m c h0 h1 h2' h3 h4 h5 h6).symm)
    rw [r0, r1, r2, r3, r4, r5, r6]
    exact Cert.Reference7Ideal.Ffn.g12 a0 a1 a2 a3 a4 a5 a6
  · refine (Cert.Reference7Ideal.Read.val_main_v151_eq _).trans (Eq.trans ?_ (value13 m c h0 h1 h2' h3 h4 h5 h6).symm)
    rw [r0, r1, r2, r3, r4, r5, r6]
    exact Cert.Reference7Ideal.Ffn.g13 a0 a1 a2 a3 a4 a5 a6

end Cert.Kernel7Ideal.Ffn
end
-- ==== Proof.Anyreal.lean ====
/- Operations at every extended real. The logistic function: what the kernel writes for it, half a hyperbolic tangent of half
   the argument plus a half, is the reference's quotient, at the two infinities too. A row's norm and modulation, and its
   product with the input projection's columns, which are numbered by natural numbers. -/
module

public import proofs.«01_k».proof.Proof.Reals

@[expose] public section

noncomputable section

namespace Cert.Anyreal

open Idealize.ShloMosaic

theorem logistic (x : EReal) :
    Ideal.ofBits .f32 0x3F000000#32 * Ideal.tanh (Ideal.ofBits .f32 0x3F000000#32 * x) + Ideal.ofBits .f32 0x3F000000#32
      = Ideal.div 1 (1 + Ideal.exp (-x)) := by
  induction x using EReal.rec with
  | bot =>
    rw [Reals.ofBits_half, EReal.coe_mul_bot_of_pos (by norm_num), EReal.neg_bot]
    show ((1 / 2 : ℝ) : EReal) * -1 + ((1 / 2 : ℝ) : EReal) = Ideal.div 1 (1 + ⊤)
    have e : (-1 : EReal) = ((-1 : ℝ) : EReal) := rfl
    rw [e, Reals.mul, Reals.add, show (1 : EReal) + ⊤ = ⊤ from rfl, Ideal.div, if_neg (by decide), EReal.inv_top, mul_zero]
    norm_num
  | top =>
    rw [Reals.ofBits_half, EReal.coe_mul_top_of_pos (by norm_num), EReal.neg_top]
    show ((1 / 2 : ℝ) : EReal) * 1 + ((1 / 2 : ℝ) : EReal) = Ideal.div 1 (1 + 0)
    have e : (1 : EReal) = ((1 : ℝ) : EReal) := rfl
    rw [add_zero, e, Reals.mul, Reals.add, Reals.div _ _ (by norm_num)]
    norm_num
  | coe z => rw [Reals.kernel_logistic, Reals.logistic]

/-- A row over its root mean square, times the gain, scaled and shifted. -/
def normed (x g scale shift : Fin 1024 → EReal) (k : Fin 1024) : EReal :=
  x k * Ideal.rsqrt (Ideal.div (∑ i : Fin 1024, x i * x i) (Ideal.ofBits .f32 0x44800000#32)
    + Ideal.ofBits .f32 0x358637BD#32) * g k * (1 + scale k) + shift k

/-- A row times column `k` of the projection. -/
def proj (y : Fin 1024 → EReal) (w : (⟨3, ![1, 1024, 5632]⟩ : Shape).Idx → EReal) (k : ℕ) : EReal :=
  ∑ i : Fin 1024, y i * if h : k < 5632 then w (ix3 0 i ⟨k, h⟩) else 0

theorem proj_lt (y : Fin 1024 → EReal) (w : (⟨3, ![1, 1024, 5632]⟩ : Shape).Idx → EReal) (k : ℕ) (h : k < 5632) :
    proj y w k = ∑ i : Fin 1024, y i * w (ix3 0 i ⟨k, h⟩) :=
  Finset.sum_congr rfl fun _ _ => congrArg _ (dif_pos h)

end Cert.Anyreal
end
-- ==== Proof.ModFwd.lean ====
/- The conditioning vectors' gate and its projection to the modulations: what the kernel writes is what the reference
   computes, at every extended real. -/
module

public import proofs.«01_k».proof.Defs
public import proofs.«01_k».proof.Proof.Anyreal
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Quiescent
public import Idealize.ShloMosaic.Lib.Pipeline.ValueKit

@[expose] public section

set_option maxRecDepth 16384

noncomputable section

namespace Cert.Kernel9Ideal.Mod

open Cert.Kernel9Ideal Cert.Kernel9Ideal.Gen Idealize.ShloMosaic Idealize.ShloMosaic.TcCoe Idealize.SL.Sem
open Idealize.ShloMosaic.Pipeline (Dat)

section Spec

variable (a0 : S32x1024.Idx → EReal) (a1 : S1024.Idx → EReal) (a2 : S1x1024x768.Idx → EReal) (a3 : S1x768.Idx → EReal)

/-- The conditioning vectors: the samples', the context's, then zeros. -/
def cond (r : Fin 40) (k : Fin 1024) : EReal :=
  if h : r.val < 32 then a0 (ix2 ⟨r.val, h⟩ k) else if r.val < 33 then a1 (ix1 k) else 0

/-- The gated vectors. -/
def silu (r : Fin 40) (k : Fin 1024) : EReal := cond a0 a1 r k * Ideal.div 1 (1 + Ideal.exp (-cond a0 a1 r k))

/-- The modulations. -/
def out (r : Fin 40) (k : Fin 768) : EReal := (∑ j : Fin 1024, silu a0 a1 r j * a2 (ix3 0 j k)) + a3 (ix2 0 k)

end Spec

variable (m : (ℓ : Loc nD τ sig) → Buf (Elt Ideal) ℓ)

theorem idx : ∀ t : Fin cfg0.N, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 :=
  (by decide +kernel : ∀ t : Fin grid0.N, _)

section Blocks

variable (c : Dev nD) {a0 : S32x1024.Idx → EReal} {a1 : S1024.Idx → EReal} {a2 : S1x1024x768.Idx → EReal} {a3 : S1x768.Idx → EReal}
  (h0 : m ((c : Thread nD τ).loc main_arg0) = a0) (h1 : m ((c : Thread nD τ).loc main_arg1) = a1)
  (h2 : m ((c : Thread nD τ).loc main_arg2) = a2) (h3 : m ((c : Thread nD τ).loc main_arg3) = a3) (t : Fin cfg0.N)

include h0 h1 in
theorem e0 (i : Fin 40) (j : Fin 1024) : iblk m c 0 t (ix2 i j) = cond a0 a1 i j := by
  have e : iblk m c 0 t (ix2 i j) = V m c main_v2 (ix2 i j) := by blk_ext [iblk, idx t]
  rw [e, ← h0, ← h1]
  show concatenate S40x1024 0 [⟨S32x1024, m ((c : Thread nD τ).loc main_arg0)⟩,
    ⟨S1x1024, shapeCast S1x1024 (m ((c : Thread nD τ).loc main_arg1)) shapeCasts_S1024_S1x1024⟩,
    ⟨S7x1024, broadcastInDim S7x1024 ![] bcast_S_S7x1024 (constant (F := Ideal) S_ .f32 0x00000000#32)⟩]
    concatenates_S32x1024_S1x1024_S7x1024_S40x1024_d0 (ix2 i j) = _
  pointwise [cond]
  split_ifs <;> first | rfl | omega

include h2 in
theorem e1 (i : Fin 1024) (j : Fin 768) : iblk m c 1 t (ix2 i j) = a2 (ix3 0 i j) := by
  rw [← h2]
  blk_ext! [iblk, V, idx t]

include h3 in
theorem e2 (i : Fin 1) (j : Fin 768) : iblk m c 2 t (ix2 i j) = a3 (ix2 i j) := by
  rw [← h3]
  blk_ext! [iblk, V, idx t]

include h0 h1 in
theorem pay (i : Fin 40) (j : Fin 1024) : k0_pay1 (F := Ideal) (iblk m c 0 t) (ix2 i j) = silu a0 a1 i j := by
  pointwise [k0_pay1]
  rw [e0 m c h0 h1, Anyreal.logistic, silu]

include h0 h1 h2 h3 in
theorem value3 : (dats m 0 c).arrAt 3 cfg0.N = fun j : S40x768.Idx => out a0 a1 a2 a3 (j 0) (j 1) := by
  refine (dats m 0 c).arrAt_eq_of_covers 3 _ (by decide +kernel) fun t hf y => ?_
  blk_simp
  rw [after0_3]
  frame_out
  idx_vars y
  have e : ((View.whole main_v4_0).slice (win0_3.rect t)).emb (ix2 y0 y1) = ix2 y0 y1 := by
    blk_ext [idx t]
  rw [e]
  pointwise [k0_pay2]
  simp only [pay m c h0 h1, e1 m c h2, e2 m c h3]
  rfl

include h0 h1 in
theorem value4 : (dats m 0 c).arrAt 4 cfg0.N = fun j : S40x1024.Idx => silu a0 a1 (j 0) (j 1) := by
  refine (dats m 0 c).arrAt_eq_of_covers 4 _ (by decide +kernel) fun t hf y => ?_
  blk_simp
  rw [after0_4]
  frame_out
  idx_vars y
  have e : ((View.whole main_v4_1).slice (win0_4.rect t)).emb (ix2 y0 y1) = ix2 y0 y1 := by
    blk_ext [idx t]
  rw [e]
  exact pay m c h0 h1 t y0 y1

end Blocks

end Cert.Kernel9Ideal.Mod

namespace Cert.Reference9Ideal.Mod

open Cert.Reference9Ideal Cert.Reference9Ideal.Gen Cert.Reference9Ideal.Read Idealize.ShloMosaic

variable (a0 : S32x1024.Idx → EReal) (a1 : S1024.Idx → EReal) (a2 : S1x1024x768.Idx → EReal) (a3 : S1x768.Idx → EReal)

theorem v2 (i : Fin 40) (j : Fin 1024) : val_main_v2 (F := Ideal) a0 a1 (ix2 i j) = Cert.Kernel9Ideal.Mod.cond a0 a1 i j := by
  unfold val_main_v2
  pointwise [val_main_v0, val_main_v1, val_main_cst, Cert.Kernel9Ideal.Mod.cond]
  split_ifs <;> first | rfl | omega

theorem v3 (i : Fin 40) (j : Fin 1024) : val_main_v3 (F := Ideal) a0 a1 (ix2 i j) = Cert.Kernel9Ideal.Mod.silu a0 a1 i j := by
  unfold val_main_v3 val_main_call0_v5 val_main_call0_v3 val_main_call0_v1 val_main_call0_v0
  pointwise [val_main_call0_v4, val_main_call0_cst_0, val_main_call0_v2, val_main_call0_cst]
  rw [v2]
  rfl

theorem v9 (i : Fin 40) (j : Fin 768) : val_main_v9 (F := Ideal) a0 a1 a2 a3 (ix2 i j) = Cert.Kernel9Ideal.Mod.out a0 a1 a2 a3 i j := by
  unfold val_main_v9 val_main_v5
  pointwise [val_main_v4, val_main_v8, val_main_v7, val_main_v6]
  simp only [v3]
  rfl

end Cert.Reference9Ideal.Mod

namespace Cert.Kernel9Ideal.Mod

open Cert.Kernel9Ideal Cert.Kernel9Ideal.Gen Idealize.ShloMosaic Idealize.ShloMosaic.TcCoe Idealize.SL.Sem

/-! ## The claims -/

theorem frame_r : Cert.quiescent_Reference9Ideal := fun m ρ _ =>
  (θ_run Cert.Reference9Ideal.defs _ _).mono (fun r h => ⟨fun c => (h c).2.2,
      Idealize.ShloMosaic.sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨_, _, Cert.Kernel9Ideal.Value.run_blocks (F := Ideal) m ρ, ?_⟩
  refine (θ_run Cert.Reference9Ideal.defs _ _).mono (fun _ h c => ?_) (Cert.Reference9Ideal.Value.run (F := Ideal) m' ρ')
  obtain ⟨q0, q1, q2, q3⟩ := hagree c
  refine ⟨(h c).1.trans ?_, (h c).2.1.trans ?_, (h c).2.2⟩ <;> clear h
  · refine (Cert.Reference9Ideal.Read.val_main_v9_eq _ _ _ _).trans (Eq.trans ?_ (value3 m c rfl rfl rfl rfl).symm)
    rw [q0, q1, q2, q3]
    funext j; idx_vars j
    exact Cert.Reference9Ideal.Mod.v9 _ _ _ _ j0 j1
  · refine (Cert.Reference9Ideal.Read.val_main_v3_eq _ _).trans (Eq.trans ?_ (value4 m c rfl rfl).symm)
    rw [q0, q1]
    funext j; idx_vars j
    exact Cert.Reference9Ideal.Mod.v3 _ _ j0 j1

end Cert.Kernel9Ideal.Mod
end
-- ==== Proof.InCtx.lean ====
/- The context tokens' norm, modulation and input projection: what the kernel writes is what the reference computes, at
   every extended real. The kernel takes the 1024 rows in four tiles of 256 and the 1536 columns in three groups. -/
module

public import proofs.«01_k».proof.Defs
public import proofs.«01_k».proof.Proof.Anyreal
public import proofs.«01_k».proof.Proof.Reads
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel10Ideal.Norm

open Cert.Kernel10Ideal Cert.Kernel10Ideal.Gen Idealize.ShloMosaic Idealize.ShloMosaic.TcCoe Idealize.SL.Sem
open Idealize.ShloMosaic.Pipeline (Dat)

section Spec

variable (a0 : S4x256x1024.Idx → EReal) (a1 : S6x1024.Idx → EReal) (a2 : S1x1024.Idx → EReal) (a3 : S1x1024x5632.Idx → EReal)

/-- Entry `k` of row `r` of all tokens. -/
def x (r : Fin 1024) (k : Fin 1024) : EReal := a0 (ix3 ⟨r.val / 256, by omega⟩ ⟨r.val % 256, by omega⟩ k)

/-- The normed and modulated row. -/
def h (r : Fin 1024) : Fin 1024 → EReal :=
  Anyreal.normed (x a0 r) (fun k => a2 (ix2 0 k)) (fun k => a1 (ix2 1 k)) fun k => a1 (ix2 0 k)

/-- Its projection to the gates' and values' columns. -/
def p (r : Fin 1024) (k : Fin 1536) : EReal := Anyreal.proj (h a0 a1 a2 r) a3 k.val

end Spec

variable (m : (ℓ : Loc nD τ sig) → Buf (Elt Ideal) ℓ)

theorem idx : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) ∧ t.val < 4 :=
  (by decide +kernel : ∀ t : Fin grid0.N, _)

/-- Row `i` of tile `t`, as a row of all tokens. -/
def row (t : Fin cfg0.N) (i : Fin 256) : Fin 1024 := ⟨t.val * 256 + i.val, by have := (idx t).2.2.2.2.2.2; omega⟩

section Blocks

variable (c : Dev nD) {a0 : S4x256x1024.Idx → EReal} {a1 : S6x1024.Idx → EReal} {a2 : S1x1024.Idx → EReal} {a3 : S1x1024x5632.Idx → EReal}
  (h0 : m ((c : Thread nD τ).loc main_arg0) = a0) (h1 : m ((c : Thread nD τ).loc main_arg1) = a1)
  (h2 : m ((c : Thread nD τ).loc main_arg2) = a2) (h3 : m ((c : Thread nD τ).loc main_arg3) = a3) (t : Fin cfg0.N)

include h0 in
theorem e0 (i : Fin 256) (k : Fin 1024) : iblk m c 0 t (ix2 i k) = x a0 (row t i) k := by
  rw [x, ← h0]
  blk_ext! [iblk, V, idx t, row]

include h1 in
theorem e1 (i : Fin 6) (k : Fin 1024) : iblk m c 1 t (ix3 0 i k) = a1 (ix2 i k) := by
  rw [← h1]
  blk_ext! [iblk, V, idx t]

include h2 in
theorem e2 (k : Fin 1024) : iblk m c 2 t (ix2 0 k) = a2 (ix2 0 k) := by
  rw [← h2]
  blk_ext! [iblk, V, idx t]

include h3 in
theorem e3 (i : Fin 1536) (k : Fin 1024) : X0_3 m c t (ix2 i k) = a3 (ix3 0 k ⟨i.val, by omega⟩) := by
  rw [← h3]
  unfold X0_3
  unfold Pipeline.Window.fill; rw [dif_pos (moved0_3 t _)]
  blk_ext! [iblk, V, idx t]

include h0 h1 h2 in
theorem pay (i1 i0) (i : Fin 256) (k : Fin 1024) :
    k0_pay3 (F := Ideal) (iblk m c 0 t) (iblk m c 2 t)
      (View.ld (Val := Elt Ideal) (e' := .f32) (iblk m c 1 t) (Rect.unit (s := S1x6x1024) ![0, 1, 0] ![1, 1, 1024] i1))
      (View.ld (Val := Elt Ideal) (e' := .f32) (iblk m c 1 t) (Rect.unit (s := S1x6x1024) ![0, 0, 0] ![1, 1, 1024] i0)) (ix2 i k)
      = h a0 a1 a2 (row t i) k := by
  pointwise [k0_pay3]
  simp only [e0 m c h0, e1 m c h1, e2 m c h2]
  rfl

include h0 h1 h2 in
theorem value5 : (dats m 0 c).arrAt 5 cfg0.N = fun j : S1024x1024.Idx => h a0 a1 a2 (j 0) (j 1) := by
  refine (dats m 0 c).arrAt_eq_of_covers 5 _ (by decide +kernel) fun t hf y => ?_
  blk_simp
  rw [after0_5]
  unfold outsAt0
  frame_open
  frame_out
  idx_vars y
  have e : ((View.whole main_v5_1).slice (win0_5.rect t)).emb (ix2 y0 y1) = ix2 (row t y0) y1 := by
    blk_ext [idx t, row]
  rw [e]
  exact pay m c h0 h1 h2 t _ _ y0 y1

include h0 h1 h2 h3 in
theorem value4 : (dats m 0 c).arrAt 4 cfg0.N = fun j : S1024x1536.Idx => p a0 a1 a2 a3 (j 0) (j 1) := by
  refine (dats m 0 c).arrAt_eq_of_covers 4 _ (by decide +kernel) fun t hf y => ?_
  blk_simp
  rw [after0_4]
  unfold outsAt0
  frame_open
  frame_out
  idx_vars y
  have e : ((View.whole main_v5_0).slice (win0_4.rect t)).emb (ix2 y0 y1) = ix2 (row t y0) y1 := by
    blk_ext [idx t, row]
  rw [e]
  refine Reads.canon_cols (Val := Elt Ideal) (e := .bf16) (f := fun l k => Anyreal.proj (h a0 a1 a2 (row t l)) a3 k) ?_ (ix2 y0 y1) ?_
  · repeat' refine Reads.agree_cons _ (fun j => ?_) ?_
    rotate_right
    exact Reads.agree_nil
    all_goals
      idx_vars j
      have := j1.isLt
      rw [Anyreal.proj_lt _ _ _ (by show _ + j1.val < 5632; omega)]
      pointwise [k0_pay1, k0_pay2, k0_pay4, k0_pay5]
      simp only [pay m c h0 h1 h2]
      exact Finset.sum_congr rfl fun i _ => congrArg _ (e3 m c h3 t _ i)
  · have := y1.isLt
    repeat refine Reads.cols_step fun _ => ?_
    exfalso
    show False
    have : (ix2 y0 y1 1 : Fin 1536).val = y1.val := rfl
    omega

end Blocks

end Cert.Kernel10Ideal.Norm

namespace Cert.Reference10Ideal.Norm

open Cert.Reference10Ideal Cert.Reference10Ideal.Gen Cert.Reference10Ideal.Read Idealize.ShloMosaic

variable (a0 : S4x256x1024.Idx → EReal) (a1 : S6x1024.Idx → EReal) (a2 : S1x1024.Idx → EReal) (a3 : S1x1024x5632.Idx → EReal)

/-- Token `l` of example `e`, as a row of all tokens. -/
def join (e : Fin 4) (l : Fin 256) : Fin 1024 := ⟨e.val * 256 + l.val, by omega⟩

theorem x_join (e : Fin 4) (l : Fin 256) (k : Fin 1024) : Cert.Kernel10Ideal.Norm.x a0 (join e l) k = a0 (ix3 e l k) :=
  congrArg a0 (congrArg₂ (fun a b => ix3 a b k) (Fin.ext (show (e.val * 256 + l.val) / 256 = e.val by omega))
    (Fin.ext (show (e.val * 256 + l.val) % 256 = l.val by omega)))

theorem v25 (e : Fin 4) (l : Fin 256) (k : Fin 1024) :
    val_main_v25 (F := Ideal) a0 a1 a2 (ix3 e l k) = Cert.Kernel10Ideal.Norm.h a0 a1 a2 (join e l) k := by
  unfold Cert.Kernel10Ideal.Norm.h Anyreal.normed
  simp only [x_join]
  pointwise [val_main_v25, val_main_v24, val_main_v23, val_main_v22, val_main_v21, val_main_v20, val_main_v19, val_main_v18,
    val_main_cst_2, val_main_v17, val_main_v16, val_main_v15, val_main_v14, val_main_v13, val_main_v12, val_main_v11,
    val_main_v10, val_main_v9, val_main_v8, val_main_v7, val_main_v6, val_main_cst_1, val_main_v5, val_main_v4, val_main_cst_0,
    val_main_v3, val_main_v2, val_main_cst, val_main_v1, val_main_v0]

theorem v32 (r : Fin 1024) (k : Fin 1024) :
    val_main_v32 (F := Ideal) a0 a1 a2 (ix2 r k) = Cert.Kernel10Ideal.Norm.h a0 a1 a2 r k := by
  pointwise [val_main_v32, val_main_v31]
  rw [v25]
  exact congrArg (fun r => Cert.Kernel10Ideal.Norm.h a0 a1 a2 r k) (Fin.ext (show r.val / 256 * 256 + r.val % 256 = r.val by omega))

theorem v30 (r : Fin 1024) (k : Fin 1536) :
    val_main_v30 (F := Ideal) a0 a1 a2 a3 (ix2 r k) = Cert.Kernel10Ideal.Norm.p a0 a1 a2 a3 r k := by
  unfold Cert.Kernel10Ideal.Norm.p
  pointwise [val_main_v30, val_main_v29, val_main_v28, val_main_v27, val_main_v26]
  simp only [v25]
  rw [Anyreal.proj_lt _ _ _ (by omega)]
  rw [show join ⟨r.val / 256, by omega⟩ ⟨r.val % 256, by omega⟩ = r from Fin.ext (show r.val / 256 * 256 + r.val % 256 = r.val by omega)]

end Cert.Reference10Ideal.Norm

namespace Cert.Kernel10Ideal.Norm

open Cert.Kernel10Ideal Cert.Kernel10Ideal.Gen Idealize.ShloMosaic Idealize.ShloMosaic.TcCoe Idealize.SL.Sem

/-! ## The claims -/

theorem frame_r : Cert.quiescent_Reference10Ideal := fun m ρ _ =>
  (θ_run Cert.Reference10Ideal.defs _ _).mono (fun r h => ⟨fun c => (h c).2.2,
      Idealize.ShloMosaic.sem_eq_zero_of_no_sems (by decide) r.2⟩)
    (Cert.Reference10Ideal.Value.run (F := Ideal) m ρ)

theorem algebraic : Cert.algebraic_Kernel10Ideal_Reference10Ideal := by
  intro m ρ m' ρ' _ hagree
  refine ⟨_, _, Cert.Kernel10Ideal.Value.run_blocks (F := Ideal) m ρ, ?_⟩
  refine (θ_run Cert.Reference10Ideal.defs _ _).mono (fun _ h c => ?_) (Cert.Reference10Ideal.Value.run (F := Ideal) m' ρ')
  obtain ⟨q0, q1, q2, q3⟩ := hagree c
  refine ⟨(h c).1.trans ?_, (h c).2.1.trans ?_, (h c).2.2⟩ <;> clear h
  · refine (Cert.Reference10Ideal.Read.val_main_v30_eq _ _ _ _).trans (Eq.trans ?_ (value4 m c rfl rfl rfl rfl).symm)
    rw [q0, q1, q2, q3]
    funext j; idx_vars j
    exact Cert.Reference10Ideal.Norm.v30 _ _ _ _ j0 j1
  · refine (Cert.Reference10Ideal.Read.val_main_v32_eq _ _ _).trans (Eq.trans ?_ (value5 m c rfl rfl rfl).symm)
    rw [q0, q1, q2]
    funext j; idx_vars j
    exact Cert.Reference10Ideal.Norm.v32 _ _ _ j0 j1

end Cert.Kernel10Ideal.Norm
end
-- ==== Proof.InLat.lean ====
/- The latent tokens' norm, modulation and input projection: what the kernel writes is what the reference computes, at
   every extended real. The kernel takes the 8192 rows in sixteen tiles of 512, four tiles to an example, and the 5632
   columns in eleven groups. -/
module

public import proofs.«01_k».proof.Defs
public import proofs.«01_k».proof.Proof.Anyreal
public import proofs.«01_k».proof.Proof.Reads
public import proofs.«01_k».proof.Proof.Tokens
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel11Ideal.Norm

open Cert.Kernel11Ideal Cert.Kernel11Ideal.Gen Idealize.ShloMosaic Idealize.ShloMosaic.TcCoe Idealize.SL.Sem
open Idealize.ShloMosaic.Pipeline (Dat)
open Cert.Tokens (ex tok join ex_join tok_join join_ex)

section Spec

variable (a0 : S4x2048x1024.Idx → EReal) (a1 : S4x6x1024.Idx → EReal) (a2 : S1x1024.Idx → EReal) (a3 : S1x1024x5632.Idx → EReal)

/-- Row `r` of all tokens, normed and modulated by its example's shift and scale. -/
def h (r : Fin 8192) : Fin 1024 → EReal :=
  Anyreal.normed (fun k => a0 (ix3 (ex r) (tok r) k)) (fun k => a2 (ix2 0 k)) (fun k => a1 (ix3 (ex r) 1 k)) fun k => a1 (ix3 (ex r) 0 k)

/-- Its projection. -/
def p (r : Fin 8192) (k : Fin 5632) : EReal := Anyreal.proj (h a0 a1 a2 r) a3 k.val

end Spec

variable (m : (ℓ : Loc nD τ sig) → Buf (Elt Ideal) ℓ)

theorem idx : ∀ t : Fin cfg0.N, (win0_0.index t 0 = t.val ∧ win0_0.index t 1 = 0)
    ∧ (win0_1.index t 0 = t.val / 4 ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) ∧ t.val < 16 :=
  (by decide +kernel : ∀ t : Fin grid0.N, _)

theorem lt16 (t : Fin cfg0.N) : t.val < 16 := (idx t).2.2.2.2.2.2

/-- Row `i` of tile `t`, as a row of all tokens; the tile's example. -/
def row (t : Fin cfg0.N) (i : Fin 512) : Fin 8192 := ⟨t.val * 512 + i.val, by have := lt16 t; omega⟩
def example_ (t : Fin cfg0.N) : Fin 4 := ⟨t.val / 4, by have := lt16 t; omega⟩

theorem ex_row (t : Fin cfg0.N) (i : Fin 512) : ex (row t i) = example_ t :=
  Fin.ext (show (t.val * 512 + i.val) / 2048 = t.val / 4 by omega)

section Blocks

variable (c : Dev nD) {a0 : S4x2048x1024.Idx → EReal} {a1 : S4x6x1024.Idx → EReal} {a2 : S1x1024.Idx → EReal} {a3 : S1x1024x5632.Idx → EReal}
  (h0 : m ((c : Thread nD τ).loc main_arg0) = a0) (h1 : m ((c : Thread nD τ).loc main_arg1) = a1)
  (h2 : m ((c : Thread nD τ).loc main_arg2) = a2) (h3 : m ((c : Thread nD τ).loc main_arg3) = a3) (t : Fin cfg0.N)

include h0 in
theorem e0 (i : Fin 512) (k : Fin 1024) : iblk m c 0 t (ix2 i k) = a0 (ix3 (ex (row t i)) (tok (row t i)) k) := by
  rw [← h0]
  blk_ext! [iblk, V, idx t, row, ex, tok]

include h1 in
theorem e1 (i : Fin 6) (k : Fin 1024) : iblk m c 1 t (ix3 0 i k) = a1 (ix3 (example_ t) i k) := by
  rw [← h1]
  blk_ext! [iblk, V, idx t, example_]

include h2 in
theorem e2 (k : Fin 1024) : iblk m c 2 t (ix2 0 k) = a2 (ix2 0 k) := by
  rw [← h2]
  blk_ext! [iblk, V, idx t]

include h3 in
theorem e3 (i : Fin 5632) (k : Fin 1024) : iblk m c 3 t (ix2 i k) = a3 (ix3 0 k i) := by
  rw [← h3]
  blk_ext! [iblk, V, idx t]

include h0 h1 h2 in
theorem pay (i1 i0) (i : Fin 512) (k : Fin 1024) :
    k0_pay5 (F := Ideal) (iblk m c 0 t) (iblk m c 2 t)
      (View.ld (Val := Elt Ideal) (e' := .f32) (iblk m c 1 t) (Rect.unit (s := S1x6x1024) ![0, 1, 0] ![1, 1, 1024] i1))
      (View.ld (Val := Elt Ideal) (e' := .f32) (iblk m c 1 t) (Rect.unit (s := S1x6x1024) ![0, 0, 0] ![1, 1, 1024] i0)) (ix2 i k)
      = h a0 a1 a2 (row t i) k := by
  pointwise [k0_pay5]
  simp only [e0 m c h0, e1 m c h1, e2 m c h2, ← ex_row t i]
  rfl

include h0 h1 h2 in
theorem pay14 (i : Fin 512) (k : Fin 1024) :
    k0_pay14 (F := Ideal) (iblk m c 0 t) (iblk m c 1 t) (iblk m c 2 t) (iblk m c 3 t) (ix2 i k) = h a0 a1 a2 (row t i) k := by
  unfold k0_pay14
  frame_out
  exact pay m c h0 h1 h2 t _ _ i k

include h0 h1 h2 in
theorem value5 : (dats m 0 c).arrAt 5 cfg0.N = fun j : S8192x1024.Idx => h a0 a1 a2 (j 0) (j 1) := by
  refine (dats m 0 c).arrAt_eq_of_covers 5 _ (by decide +kernel) fun t hf y => ?_
  blk_simp
  rw [after0_5]
  frame_open
  frame_out
  idx_vars y
  have e : ((View.whole main_v4_1).slice (win0_5.rect t)).emb (ix2 y0 y1) = ix2 (row t y0) y1 := by
    blk_ext [idx t, row]
  rw [e]
  exact pay m c h0 h1 h2 t _ _ y0 y1

include h0 h1 h2 h3 in
theorem value4 : (dats m 0 c).arrAt 4 cfg0.N = fun j : S8192x5632.Idx => p a0 a1 a2 a3 (j 0) (j 1) := by
  refine (dats m 0 c).arrAt_eq_of_covers 4 _ (by decide +kernel) fun t hf y => ?_
  blk_simp
  rw [after0_4]
  frame_open
  frame_out
  idx_vars y
  have e : ((View.whole main_v4_0).slice (win0_4.rect t)).emb (ix2 y0 y1) = ix2 (row t y0) y1 := by
    blk_ext [idx t, row]
  rw [e]
  refine Reads.canon_cols (Val := Elt Ideal) (e := .bf16) (f := fun l k => Anyreal.proj (h a0 a1 a2 (row t l)) a3 k) ?_ (ix2 y0 y1) ?_
  · repeat' refine Reads.agree_cons _ (fun j => ?_) ?_
    rotate_right
    exact Reads.agree_nil
    all_goals
      idx_vars j
      have := j1.isLt
      rw [Anyreal.proj_lt _ _ _ (by show _ + j1.val < 5632; omega)]
      pointwise [k0_pay1, k0_pay2, k0_pay3, k0_pay4, k0_pay6, k0_pay7, k0_pay8, k0_pay9, k0_pay10, k0_pay11, k0_pay12, k0_pay13]
      simp only [pay14 m c h0 h1 h2, pay m c h0 h1 h2]
      exact Finset.sum_congr rfl fun i _ => congrArg _ (e3 m c h3 t _ i)
  · have := y1.isLt
    repeat refine Reads.cols_step fun _ => ?_
    exfalso
    have : (ix2 y0 y1 1 : Fin 5632).val = y1.val := rfl
    omega

end Blocks

end Cert.Kernel11Ideal.Norm

namespace Cert.Reference11Ideal.Norm

open Cert.Reference11Ideal Cert.Reference11Ideal.Gen Cert.Reference11Ideal.Read Idealize.ShloMosaic
open Cert.Tokens (ex tok join ex_join tok_join join_ex)

variable (a0 : S4x2048x1024.Idx → EReal) (a1 : S4x6x1024.Idx → EReal) (a2 : S1x1024.Idx → EReal) (a3 : S1x1024x5632.Idx → EReal)

theorem v25 (e : Fin 4) (l : Fin 2048) (k : Fin 1024) :
    val_main_v25 (F := Ideal) a0 a1 a2 (ix3 e l k) = Cert.Kernel11Ideal.Norm.h a0 a1 a2 (join e l) k := by
  unfold Cert.Kernel11Ideal.Norm.h Anyreal.normed
  simp only [ex_join, tok_join]
  pointwise [val_main_v25, val_main_v24, val_main_v23, val_main_v22, val_main_v21, val_main_v20, val_main_v19, val_main_v18,
    val_main_cst_2, val_main_v17, val_main_v16, val_main_v15, val_main_v14, val_main_v13, val_main_v12, val_main_v11,
    val_main_v10, val_main_v9, val_main_v8, val_main_v7, val_main_v6, val_main_cst_1, val_main_v5, val_main_v4, val_main_cst_0,
    val_main_v3, val_main_v2, val_main_cst, val_main_v1, val_main_v0]

theorem v31 (r : Fin 8192) (k : Fin 1024) :
    val_main_v31 (F := Ideal) a0 a1 a2 (ix2 r k) = Cert.Kernel11Ideal.Norm.h a0 a1 a2 r k := by
  pointwise [val_main_v31, val_main_v30]
  rw [v25]
  exact congrArg (fun r => Cert.Kernel11Ideal.Norm.h a0 a1 a2 r k) (join_ex r)

theorem v29 (r : Fin 8192) (k : Fin 5632) :
    val_main_v29 (F := Ideal) a0 a1 a2 a3 (ix2 r k) = Cert.Kernel11Ideal.Norm.p a0 a1 a2 a3 r k := by
  unfold Cert.Kernel11Ideal.Norm.p
  pointwise [val_main_v29, val_main_v28, val_main_v27, val_main_v26]
  simp only [v25]
  rw [Anyreal.proj_lt _ _ _ (by omega)]
  exact Finset.sum_congr rfl fun i _ => congrArg (fun r => Cert.Kernel11Ideal.Norm.h a0 a1 a2 r i * a3 (ix3 0 i k)) (join_ex r)

end Cert.Reference11Ideal.Norm

namespace Cert.Kernel11Ideal.Norm

open Cert.Kernel11Ideal Cert.Kernel11Ideal.Gen Idealize.ShloMosaic Idealize.ShloMosaic.TcCoe Idealize.SL.Sem

/-! ## The claims -/

theorem frame_r : Cert.quiescent_Reference11Ideal := fun m ρ _ =>
  (θ_run Cert.Reference11Ideal.defs _ _).mono (fun r h => ⟨fun c => (h c).2.2,
      Idealize.ShloMosaic.sem_eq_zero_of_no_sems (by decide) r.2⟩)
    (Cert.Reference11Ideal.Value.run (F := Ideal) m ρ)

theorem algebraic : Cert.algebraic_Kernel11Ideal_Reference11Ideal := by
  intro m ρ m' ρ' _ hagree
  refine ⟨_, _, Cert.Kernel11Ideal.Value.run_blocks (F := Ideal) m ρ, ?_⟩
  refine (θ_run Cert.Reference11Ideal.defs _ _).mono (fun _ h c => ?_) (Cert.Reference11Ideal.Value.run (F := Ideal) m' ρ')
  obtain ⟨q0, q1, q2, q3⟩ := hagree c
  refine ⟨(h c).1.trans ?_, (h c).2.1.trans ?_, (h c).2.2⟩ <;> clear h
  · refine (Cert.Reference11Ideal.Read.val_main_v29_eq _ _ _ _).trans (Eq.trans ?_ (value4 m c rfl rfl rfl rfl).symm)
    rw [q0, q1, q2, q3]
    funext j; idx_vars j
    exact Cert.Reference11Ideal.Norm.v29 _ _ _ _ j0 j1
  · refine (Cert.Reference11Ideal.Read.val_main_v31_eq _ _ _).trans (Eq.trans ?_ (value5 m c rfl rfl rfl).symm)
    rw [q0, q1, q2]
    funext j; idx_vars j
    exact Cert.Reference11Ideal.Norm.v31 _ _ _ j0 j1

end Cert.Kernel11Ideal.Norm
end
-- ==== Proof.States.lean ====
/- The context's states of the gated recurrence: what the kernel writes, at real arguments. The kernel takes one example of
   256 rows at a time, in four chunks of 64 rows, once from the first row on and once from the last row back. -/
module

public import proofs.«01_k».proof.Defs
public import proofs.«01_k».proof.Proof.Anyreal
public import proofs.«01_k».proof.Proof.Reals
public import proofs.«01_k».proof.Proof.Gen.Kernel13Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel13Ideal.States

open Cert.Kernel13Ideal Cert.Kernel13Ideal.Gen Idealize.ShloMosaic Idealize.ShloMosaic.TcCoe Idealize.SL.Sem
open Idealize.ShloMosaic.Pipeline (Dat)
open Cert.Reals (up up_apply)

section Spec

variable (x : S4x256x1536.Idx → ℝ) (g : S2x2x512.Idx → ℝ) (d : Fin 2) (e : Fin 4)

/-- The lower bound of direction `d`'s forget gate. -/
def low (k : Fin 512) : ℝ := Reals.sig (g (ix3 0 d k) - g (ix3 1 d k))

/-- The forget gate. -/
def gate (r : Fin 256) (k : Fin 512) : ℝ :=
  low g d k + (1 - low g d k) * Reals.sig (x (ix3 e r ⟨512 * d.val + k.val, by omega⟩))

/-- Row `q` is in row `r`'s chunk and not after it, as direction `d` runs. -/
def upto (r q : Fin 256) : Bool :=
  decide (r.val / 64 = q.val / 64) && (if d = 0 then decide (q.val ≤ r.val) else decide (r.val ≤ q.val))

/-- The gates' logarithms, summed from the chunk's first row to row `r`. -/
def cum (r : Fin 256) (k : Fin 512) : ℝ := ∑ q : Fin 256, if upto d r q then Real.log (gate x g d e q k) else 0

/-- Row `s` of chunk `n`. -/
def at64 (n : Fin 4) (s : Fin 64) : Fin 256 := ⟨64 * n.val + s.val, by omega⟩

/-- The last row of chunk `n`, as direction `d` runs. -/
def last (n : Fin 4) : Fin 256 := at64 n (if d = 0 then 63 else 0)

/-- The `n`-th chunk that direction `d` meets. -/
def chunk (n : Fin 4) : Fin 4 := if d = 0 then n else n.rev

/-- The key, decayed to the end of its chunk. -/
def key (r : Fin 256) (k : Fin 512) : ℝ :=
  (1 - gate x g d e r k) * Real.exp (cum x g d e (last d ⟨r.val / 64, by omega⟩) k - cum x g d e r k)

/-- Lane `a` of head `h`. -/
def lane (h : Fin 4) (a : Fin 128) : Fin 512 := ⟨128 * h.val + a.val, by omega⟩

/-- Column `b` of head `h`'s values. -/
def wide (h : Fin 4) (b : Fin 128) : Fin 1536 := ⟨1024 + (128 * h.val + b.val), by omega⟩

/-- A state, taken over chunk `n`. -/
def step (n : Fin 4) (h : Fin 4) (s : Fin 128 → Fin 128 → EReal) (b a : Fin 128) : EReal :=
  s b a * (Real.exp (cum x g d e (last d n) (lane h a)) : EReal)
    + ∑ l : Fin 64, (x (ix3 e (at64 n l) (wide h b)) : EReal) * (key x g d e (at64 n l) (lane h a) : EReal)

/-- The state before the `n`-th chunk; the state after the last one. -/
def state (h : Fin 4) : ℕ → Fin 128 → Fin 128 → EReal
  | 0 => fun _ _ => 0
  | n + 1 => step x g d e (chunk d (Fin.ofNat 4 n)) h (state h n)

/-- What the kernel stores of the sums: all examples' rows in one list. -/
def sums (r : Fin 1024) (k : Fin 512) : EReal := (cum x g d ⟨r.val / 256, by omega⟩ ⟨r.val % 256, by omega⟩ k : ℝ)

/-- What the kernel stores of the states: all examples' chunks in one list. -/
def stash (n : Fin 16) (h : Fin 4) (b a : Fin 128) : EReal :=
  state x g d ⟨n.val / 4, by omega⟩ h (chunk d ⟨n.val % 4, by omega⟩).val b a

end Spec

/-- Direction 1 meets the chunks from the last one on. -/
theorem order : ((chunk 0 0).val = 0 ∧ (chunk 0 1).val = 1 ∧ (chunk 0 2).val = 2 ∧ (chunk 0 3).val = 3)
    ∧ (chunk 1 0).val = 3 ∧ (chunk 1 1).val = 2 ∧ (chunk 1 2).val = 1 ∧ (chunk 1 3).val = 0 := by decide

/-- A step, at indices given by their numbers. -/
theorem state_succ (x : S4x256x1536.Idx → ℝ) (g : S2x2x512.Idx → ℝ) {d : Fin 2} {e h : Fin 4} {n : ℕ} {b a : Fin 128} {s : EReal}
    {p : Fin 256} {k : Fin 512} {q : Fin 1536} {r : Fin 64 → Fin 256} (hs : s = state x g d e h n b a)
    (hp : p.val = (last d (chunk d (Fin.ofNat 4 n))).val) (hk : k.val = 128 * h.val + a.val) (hq : q.val = 1024 + (128 * h.val + b.val))
    (hr : ∀ l, (r l).val = 64 * (chunk d (Fin.ofNat 4 n)).val + l.val) :
    s * ((Real.exp (cum x g d e p k) : ℝ) : EReal) + ∑ l : Fin 64, ((x (ix3 e (r l) q) : ℝ) : EReal) * ((key x g d e (r l) k : ℝ) : EReal)
      = state x g d e h (n + 1) b a := by
  obtain rfl : p = last d (chunk d (Fin.ofNat 4 n)) := Fin.ext hp
  obtain rfl : k = lane h a := Fin.ext hk
  obtain rfl : q = wide h b := Fin.ext hq
  obtain rfl : r = at64 (chunk d (Fin.ofNat 4 n)) := funext fun l => Fin.ext (hr l)
  rw [hs]
  rfl

/-! ## The gates -/

variable {x : S4x256x1536.Idx → ℝ} {g : S2x2x512.Idx → ℝ}

theorem low_pos (d : Fin 2) (k : Fin 512) : 0 < low g d k := by unfold low Reals.sig; positivity

theorem sig_lt (z : ℝ) : Reals.sig z < 1 := by
  unfold Reals.sig
  rw [div_lt_one (by positivity)]
  linarith [Real.exp_pos (-z)]

theorem gate_pos (d : Fin 2) (e : Fin 4) (r : Fin 256) (k : Fin 512) : 0 < gate x g d e r k := by
  have h1 := low_pos (g := g) d k
  have h2 : low g d k < 1 := sig_lt _
  have h3 : 0 < Reals.sig (x (ix3 e r ⟨512 * d.val + k.val, by omega⟩)) := by unfold Reals.sig; positivity
  unfold gate
  have := mul_pos (sub_pos.mpr h2) h3
  linarith

/-- A sum of rows chosen by zeros and ones, over numbers that are their own rounding. -/
theorem chosen (M : Fin 256 → Bool) (f : Fin 256 → ℝ) :
    (∑ q : Fin 256, (if M q then (1 : EReal) else 0) * (((f q : ℝ) : EReal) - ((f q : ℝ) : EReal)))
      + (∑ q : Fin 256, (if M q then (1 : EReal) else 0) * ((f q : ℝ) : EReal))
      = ((∑ q : Fin 256, if M q then f q else 0 : ℝ) : EReal) := by
  have h1 : ∀ q : Fin 256, (if M q then (1 : EReal) else 0) * (((f q : ℝ) : EReal) - ((f q : ℝ) : EReal)) = 0 := fun q => by
    rw [Reals.sub, sub_self, EReal.coe_zero, mul_zero]
  have h2 : ∀ q : Fin 256, (if M q then (1 : EReal) else 0) * ((f q : ℝ) : EReal) = ((if M q then f q else 0 : ℝ) : EReal) := fun q => by
    cases M q
    · simp
    · simp
  simp only [h1, h2, Finset.sum_const_zero, zero_add, Reals.sum]

/-- Half of an exponent twice is the exponent. -/
theorem halves (z : ℝ) : Ideal.exp (Ideal.ofBits .f32 0x3F000000#32 * (z : EReal)) * Ideal.exp (Ideal.ofBits .f32 0x3F000000#32 * (z : EReal))
    = ((Real.exp z : ℝ) : EReal) := by
  rw [Reals.ofBits_half, Reals.mul, Reals.exp, Reals.mul, ← Real.exp_add]
  congr 2
  ring

/-- A key's decay, in two factors. -/
theorem decay (f z b : ℝ) : ((1 - f : ℝ) : EReal) * (((Real.exp (1 / 2 * z - b) : ℝ) : EReal) * ((Real.exp (1 / 2 * z) : ℝ) : EReal))
    = (((1 - f) * Real.exp (z - b) : ℝ) : EReal) := by
  rw [Reals.mul, Reals.mul, ← Real.exp_add]
  congr 3
  ring

/-! ## Which rows a sum takes -/

theorem mask0 (r q : Fin 256) :
    k0_pay6 (iota .tc S256x256 32 ([(0 : Fin S256x256.rank)] : List (Fin 2)) iota_S256x256_d0_w32) (iota .tc S256x256 32 ([(1 : Fin S256x256.rank)] : List (Fin 2)) iota_S256x256_d1_w32) k0_pay3 (64#32) k0_pay4 k0_pay5 1#32 (ix2 r q) = BitVec.ofBool (upto 0 r q) := by
  pointwise [k0_pay6, k0_pay3, k0_pay4, k0_pay5]
  revert r q
  decide +kernel

theorem mask1 (r q : Fin 256) :
    k0_pay88 (iota .tc S256x256 32 ([(0 : Fin S256x256.rank)] : List (Fin 2)) iota_S256x256_d0_w32) (iota .tc S256x256 32 ([(1 : Fin S256x256.rank)] : List (Fin 2)) iota_S256x256_d1_w32) k0_pay85 (64#32) k0_pay86 k0_pay87 (ix2 r q) = BitVec.ofBool (upto 1 r q) := by
  pointwise [k0_pay88, k0_pay85, k0_pay86, k0_pay87]
  revert r q
  decide +kernel

/-! ## The blocks -/

variable (m : (ℓ : Loc nD τ sig) → Buf (Elt Ideal) ℓ)

theorem idx : ∀ t : Fin cfg0.N, (win0_0.index t 0 = 0 ∧ win0_0.index t 1 = 0)
    ∧ (win0_1.index t 0 = t.val ∧ win0_1.index t 1 = 0) ∧ (win0_2.index t 0 = t.val ∧ win0_2.index t 1 = 2)
    ∧ (win0_3.index t 0 = t.val ∧ win0_3.index t 1 = 1) ∧ (win0_4.index t 0 = t.val ∧ win0_4.index t 1 = 2)
    ∧ (win0_5.index t 0 = t.val ∧ win0_5.index t 1 = 0 ∧ win0_5.index t 2 = 0 ∧ win0_5.index t 3 = 0)
    ∧ (win0_6.index t 0 = t.val ∧ win0_6.index t 1 = 0 ∧ win0_6.index t 2 = 0 ∧ win0_6.index t 3 = 0)
    ∧ (win0_7.index t 0 = t.val ∧ win0_7.index t 1 = 0) ∧ (win0_8.index t 0 = t.val ∧ win0_8.index t 1 = 0)
    ∧ (win0_9.index t 0 = 0 ∧ win0_9.index t 1 = t.val ∧ win0_9.index t 2 = 0 ∧ win0_9.index t 3 = 0 ∧ win0_9.index t 4 = 0)
    ∧ t.val < 4 :=
  (by decide +kernel : ∀ t : Fin grid0.N, _)

/-- The example of point `t`. -/
def ex (t : Fin cfg0.N) : Fin 4 := ⟨t.val, (idx t).2.2.2.2.2.2.2.2.2.2⟩

/-- Row `r` of point `t`'s example, as a row of all of them. -/
def row (t : Fin cfg0.N) (r : Fin 256) : Fin 1024 := ⟨t.val * 256 + r.val, by have := (idx t).2.2.2.2.2.2.2.2.2.2; omega⟩

theorem sums_row (t : Fin cfg0.N) (d : Fin 2) (r : Fin 256) (k : Fin 512) : sums x g d (row t r) k = ((cum x g d (ex t) r k : ℝ) : EReal) := by
  have e1 : (t.val * 256 + r.val) / 256 = t.val := by omega
  have e2 : (t.val * 256 + r.val) % 256 = r.val := by omega
  exact congrArg₂ (fun e r => ((cum x g d e r k : ℝ) : EReal)) (Fin.ext e1) (Fin.ext e2)

/-- Chunk `n` of point `t`'s example, as a chunk of all of them. -/
def part (t : Fin cfg0.N) (n : Fin 4) : Fin 16 := ⟨t.val * 4 + n.val, by have := (idx t).2.2.2.2.2.2.2.2.2.2; omega⟩

theorem stash_part (t : Fin cfg0.N) (d : Fin 2) (n h : Fin 4) (b a : Fin 128) :
    stash x g d (part t n) h b a = state x g d (ex t) h (chunk d n).val b a := by
  have e1 : (t.val * 4 + n.val) / 4 = t.val := by omega
  have e2 : (t.val * 4 + n.val) % 4 = n.val := by omega
  exact congrArg₂ (fun e n => state x g d e h (chunk d n).val b a) (Fin.ext e1) (Fin.ext e2)

section Leaves

variable (c : Dev nD) {x : S4x256x1536.Idx → ℝ} {g : S2x2x512.Idx → ℝ}
  (h0 : m ((c : Thread nD τ).loc main_arg0) = up x) (h1 : m ((c : Thread nD τ).loc main_arg1) = up g) (t : Fin cfg0.N)

include h1 in
theorem e0 (i : Fin 4) (k : Fin 512) : iblk m c 0 t (ix2 i k) = ((g (ix3 ⟨i.val / 2, by omega⟩ ⟨i.val % 2, by omega⟩ k) : ℝ) : EReal) := by
  rw [← up_apply g, ← h1]
  blk_ext! [iblk, V, idx t]

include h0 in
theorem e1 (r : Fin 256) (k : Fin 512) : iblk m c 1 t (ix2 r k) = ((x (ix3 (ex t) r ⟨512 * (0 : Fin 2).val + k.val, by omega⟩) : ℝ) : EReal) := by
  rw [← up_apply x, ← h0]
  blk_ext! [iblk, V, idx t, ex]

include h0 in
theorem e2 (r : Fin 256) (k : Fin 512) : iblk m c 2 t (ix2 r k) = ((x (ix3 (ex t) r ⟨1024 + k.val, by omega⟩) : ℝ) : EReal) := by
  rw [← up_apply x, ← h0]
  blk_ext! [iblk, V, idx t, ex]

include h0 in
theorem e3 (r : Fin 256) (k : Fin 512) : iblk m c 3 t (ix2 r k) = ((x (ix3 (ex t) r ⟨512 * (1 : Fin 2).val + k.val, by omega⟩) : ℝ) : EReal) := by
  rw [← up_apply x, ← h0]
  blk_ext! [iblk, V, idx t, ex]

include h0 in
theorem e4 (r : Fin 256) (k : Fin 512) : iblk m c 4 t (ix2 r k) = ((x (ix3 (ex t) r ⟨1024 + k.val, by omega⟩) : ℝ) : EReal) := by
  rw [← up_apply x, ← h0]
  blk_ext! [iblk, V, idx t, ex]

end Leaves

section Sums

/-- A mask's entry, read as a number. -/
theorem bit (b : Bool) : FloatOps.sitofp (F := Ideal) .f32 (BitVec.setWidth 32 (BitVec.ofBool b)) = if b then (1 : EReal) else 0 := by
  cases b <;> simp [FloatOps.sitofp]

/-- A choice by the row's chunk. -/
theorem pick (f : Fin 256 → EReal) {a0 a1 a2 a3 : Fin 256} (d : Fin 2) (r : Fin 256)
    (ha : last d 0 = a0 ∧ last d 1 = a1 ∧ last d 2 = a2 ∧ last d 3 = a3) :
    (if _ : r.val < 64 then f a0 else if _ : r.val - 64 < 64 then f a1 else if _ : r.val - 64 - 64 < 64 then f a2 else f a3)
      = f (last d ⟨r.val / 64, by omega⟩) := by
  obtain ⟨rfl, rfl, rfl, rfl⟩ := ha
  split_ifs <;> refine congrArg (fun n => f (last d n)) (Fin.ext ?_)
  · show 0 = r.val / 64; omega
  · show 1 = r.val / 64; omega
  · show 2 = r.val / 64; omega
  · show 3 = r.val / 64; omega

variable {e : Fin 4} {M : IVec S256x256 1} {y z : FVec Ideal S256x512 .f32} {w : FVec Ideal S1x512 .f32}

theorem cum0 (hG : ∀ r k, k0_pay11 y z (ix2 r k) = ((gate x g 0 e r k : ℝ) : EReal))
    (hM : ∀ r q, M (ix2 r q) = BitVec.ofBool (upto 0 r q)) (r : Fin 256) (k : Fin 512) :
    k0_pay12 M y z (ix2 r k) = ((cum x g 0 e r k : ℝ) : EReal) := by
  pointwise [k0_pay12]
  simp only [hG, hM, bit, Reals.log _ (gate_pos _ _ _ _)]
  exact chosen _ _

theorem key0 (hG : ∀ r k, k0_pay11 y z (ix2 r k) = ((gate x g 0 e r k : ℝ) : EReal))
    (hC : ∀ r k, k0_pay12 M y z (ix2 r k) = ((cum x g 0 e r k : ℝ) : EReal)) (r : Fin 256) (k : Fin 512) :
    k0_pay21 M y z (ix2 r k) = ((key x g 0 e r k : ℝ) : EReal) := by
  pointwise [k0_pay21, k0_pay13, k0_pay14, k0_pay15, k0_pay16]
  simp only [hG, hC]
  rw [pick (fun n => ((cum x g 0 e n k : ℝ) : EReal)) 0 r (by decide), Reals.ofBits_half]
  simp only [Reals.mul, Reals.sub, Reals.exp, Reals.one]
  exact (congrArg (· * _) (Reals.sub 1 _)).trans (decay _ _ _)

theorem cum1 (hG : ∀ r k, k0_pay92 w y (ix2 r k) = ((gate x g 1 e r k : ℝ) : EReal))
    (hM : ∀ r q, M (ix2 r q) = BitVec.ofBool (upto 1 r q)) (r : Fin 256) (k : Fin 512) :
    k0_pay93 M w y (ix2 r k) = ((cum x g 1 e r k : ℝ) : EReal) := by
  pointwise [k0_pay93]
  simp only [hG, hM, bit, Reals.log _ (gate_pos _ _ _ _)]
  exact chosen _ _

theorem key1 (hG : ∀ r k, k0_pay92 w y (ix2 r k) = ((gate x g 1 e r k : ℝ) : EReal))
    (hC : ∀ r k, k0_pay93 M w y (ix2 r k) = ((cum x g 1 e r k : ℝ) : EReal)) (r : Fin 256) (k : Fin 512) :
    k0_pay104 (k0_pay93 M w y) (k0_pay98 M w y) (k0_pay99 w y) (k0_pay100 M w y) (ix2 r k) = ((key x g 1 e r k : ℝ) : EReal) := by
  pointwise [k0_pay104, k0_pay98, k0_pay99, k0_pay100, k0_pay94, k0_pay95, k0_pay96, k0_pay97]
  simp only [hG, hC]
  rw [pick (fun n => ((cum x g 1 e n k : ℝ) : EReal)) 1 r (by decide), Reals.ofBits_half]
  simp only [Reals.mul, Reals.sub, Reals.exp, Reals.one]
  exact (congrArg (· * _) (Reals.sub 1 _)).trans (decay _ _ _)

theorem one_sub (z : ℝ) : 1 - (z : EReal) = ((1 - z : ℝ) : EReal) := Reals.sub 1 z

theorem gate0 {A B : FVec Ideal S1x512 .f32} {Z : FVec Ideal S256x512 .bf16}
    (hA : ∀ k, A (ix2 0 k) = ((g (ix3 0 0 k) : ℝ) : EReal)) (hB : ∀ k, B (ix2 0 k) = ((g (ix3 1 0 k) : ℝ) : EReal))
    (hZ : ∀ (r : Fin 256) (k : Fin 512), Z (ix2 r k) = ((x (ix3 e r ⟨512 * (0 : Fin 2).val + k.val, by omega⟩) : ℝ) : EReal)) (r : Fin 256) (k : Fin 512) :
    k0_pay11 (F := Ideal) (k0_pay9 A B Z) (k0_pay10 A B) (ix2 r k) = ((gate x g 0 e r k : ℝ) : EReal) := by
  pointwise [k0_pay11, k0_pay9, k0_pay10, k0_pay7]
  simp only [hA, hB, hZ, Reals.sub, Reals.kernel_logistic, one_sub, Reals.mul, Reals.add]
  rfl

theorem gate1 {A B : FVec Ideal S1x512 .f32} {Z : FVec Ideal S256x512 .bf16}
    (hA : ∀ k, A (ix2 0 k) = ((g (ix3 0 1 k) : ℝ) : EReal)) (hB : ∀ k, B (ix2 0 k) = ((g (ix3 1 1 k) : ℝ) : EReal))
    (hZ : ∀ (r : Fin 256) (k : Fin 512), Z (ix2 r k) = ((x (ix3 e r ⟨512 * (1 : Fin 2).val + k.val, by omega⟩) : ℝ) : EReal)) (r : Fin 256) (k : Fin 512) :
    k0_pay92 (F := Ideal) (k0_pay89 A B) (k0_pay91 Z) (ix2 r k) = ((gate x g 1 e r k : ℝ) : EReal) := by
  pointwise [k0_pay92, k0_pay91, k0_pay89]
  simp only [hA, hB, hZ, Reals.sub, Reals.kernel_logistic, one_sub, Reals.mul, Reals.add]
  rfl

end Sums

section Values

variable {M J H : ℕ} {e : EltTy} {G : Fin M → Fin 4 → Fin 128 → Fin 128 → Elt Ideal e}

/-- Every store of the list holds one matrix of `G`. -/
def Agree (G : Fin M → Fin 4 → Fin 128 → Fin 128 → Elt Ideal e) (L : List (View.Piece (Elt Ideal) (⟨4, ![M, 4, 128, 128]⟩ : Shape) e)) : Prop :=
  View.PiecesOf (fun j : (⟨4, ![M, 4, 128, 128]⟩ : Shape).Idx => G (j 0) (j 1) (j 2) (j 3)) L

/-- Matrix `j`, `h` is in a store of the list. -/
def Holds (L : List (View.Piece (Elt Ideal) (⟨4, ![M, 4, 128, 128]⟩ : Shape) e)) (j h : ℕ) : Prop :=
  ∃ p ∈ L, ∀ y : (⟨4, ![M, 4, 128, 128]⟩ : Shape).Idx, (y 0).val = j → (y 1).val = h → y ∈ p.1.set

theorem agree_cons {L : List (View.Piece (Elt Ideal) (⟨4, ![M, 4, 128, 128]⟩ : Shape) e)}
    {inb : ∀ a : Fin 4, (![J, H, 0, 0] : Fin 4 → ℕ) a + (![1, 1, 128, 128] : Fin 4 → ℕ) a ≤ (⟨4, ![M, 4, 128, 128]⟩ : Shape).size a}
    (w : S1x1x128x128.Idx → Elt Ideal e) (h : ∀ b a, w (ix4 0 0 b a) = G ⟨J, inb 0⟩ ⟨H, inb 1⟩ b a) (hL : Agree G L) :
    Agree G ((⟨Rect.unit (s := (⟨4, ![M, 4, 128, 128]⟩ : Shape)) ![J, H, 0, 0] ![1, 1, 128, 128] inb, w⟩ : View.Piece (Elt Ideal) _ e) :: L) := by
  refine ⟨fun (i : S1x1x128x128.Idx) => ?_, hL⟩
  idx_vars i
  obtain rfl : i0 = 0 := Subsingleton.elim _ _
  obtain rfl : i1 = 0 := Subsingleton.elim _ _
  refine (h i2 i3).trans ?_
  have e : (Rect.unit (s := (⟨4, ![M, 4, 128, 128]⟩ : Shape)) ![J, H, 0, 0] ![1, 1, 128, 128] inb).emb (ix4 0 0 i2 i3) = ix4 ⟨J, inb 0⟩ ⟨H, inb 1⟩ i2 i3 := by
    blk_ext
  simp only [e]
  rfl

theorem holds_step {L : List (View.Piece (Elt Ideal) (⟨4, ![M, 4, 128, 128]⟩ : Shape) e)}
    {inb : ∀ a : Fin 4, (![J, H, 0, 0] : Fin 4 → ℕ) a + (![1, 1, 128, 128] : Fin 4 → ℕ) a ≤ (⟨4, ![M, 4, 128, 128]⟩ : Shape).size a}
    {w : S1x1x128x128.Idx → Elt Ideal e} {j h : ℕ} (hn : ¬ (j = J ∧ h = H) → Holds L j h) :
    Holds ((⟨Rect.unit (s := (⟨4, ![M, 4, 128, 128]⟩ : Shape)) ![J, H, 0, 0] ![1, 1, 128, 128] inb, w⟩ : View.Piece (Elt Ideal) _ e) :: L) j h := by
  by_cases hk : j = J ∧ h = H
  · refine ⟨_, List.mem_cons_self, fun y e0 e1 => ?_⟩
    rw [Rect.mem_set_unit]
    intro a
    match a with
    | ⟨0, _⟩ => exact ⟨show J ≤ (y 0).val by omega, show (y 0).val < J + 1 by omega⟩
    | ⟨1, _⟩ => exact ⟨show H ≤ (y 1).val by omega, show (y 1).val < H + 1 by omega⟩
    | ⟨2, _⟩ => exact ⟨Nat.zero_le _, (show (y 2).val < 0 + 128 by have : (y 2).val < 128 := (y 2).isLt; omega)⟩
    | ⟨3, _⟩ => exact ⟨Nat.zero_le _, (show (y 3).val < 0 + 128 by have : (y 3).val < 128 := (y 3).isLt; omega)⟩
  · obtain ⟨q, hq, hy⟩ := hn hk
    exact ⟨q, List.mem_cons_of_mem _ hq, hy⟩

theorem canon_agree {L : List (View.Piece (Elt Ideal) (⟨4, ![M, 4, 128, 128]⟩ : Shape) e)} (hL : Agree G L)
    (hc : ∀ j h, j < M → h < 4 → Holds L j h) (y : (⟨4, ![M, 4, 128, 128]⟩ : Shape).Idx) : View.canon L y = G (y 0) (y 1) (y 2) (y 3) := by
  obtain ⟨p, hp, hy⟩ := hc (y 0).val (y 1).val (y 0).isLt (y 1).isLt
  exact View.canon_apply_of_pieces (fun j : (⟨4, ![M, 4, 128, 128]⟩ : Shape).Idx => G (j 0) (j 1) (j 2) (j 3)) L hL.mem y ⟨p, hp, hy y rfl rfl⟩

variable (c : Dev nD) {x : S4x256x1536.Idx → ℝ} {g : S2x2x512.Idx → ℝ}
  (h0 : m ((c : Thread nD τ).loc main_arg0) = up x) (h1 : m ((c : Thread nD τ).loc main_arg1) = up g) (t : Fin cfg0.N)

include h0 h1 in
theorem g0 (r : Fin 256) (k : Fin 512) :
    k0_pay11 (F := Ideal) (k0_pay9 (@View.ld (Elt Ideal) S4x512 .f32 (iblk m c 0 t) (Rect.unit (s := S4x512) ![0, 0] ![1, 512] inb_S4x512_S1x512_0_0)) (@View.ld (Elt Ideal) S4x512 .f32 (iblk m c 0 t) (Rect.unit (s := S4x512) ![2, 0] ![1, 512] inb_S4x512_S1x512_2_0)) (iblk m c 1 t)) (k0_pay10 (@View.ld (Elt Ideal) S4x512 .f32 (iblk m c 0 t) (Rect.unit (s := S4x512) ![0, 0] ![1, 512] inb_S4x512_S1x512_0_0)) (@View.ld (Elt Ideal) S4x512 .f32 (iblk m c 0 t) (Rect.unit (s := S4x512) ![2, 0] ![1, 512] inb_S4x512_S1x512_2_0))) (ix2 r k) = ((gate x g 0 (ex t) r k : ℝ) : EReal) :=
  gate0 (fun k => (by pointwise; exact e0 m c h1 t 0 k)) (fun k => (by pointwise; exact e0 m c h1 t 2 k)) (e1 m c h0 t) r k

include h0 h1 in
theorem c0 (r : Fin 256) (k : Fin 512) :
    k0_pay12 (F := Ideal) (k0_pay6 (iota .tc S256x256 32 ([(0 : Fin S256x256.rank)] : List (Fin 2)) iota_S256x256_d0_w32) (iota .tc S256x256 32 ([(1 : Fin S256x256.rank)] : List (Fin 2)) iota_S256x256_d1_w32) k0_pay3 (64#32) k0_pay4 k0_pay5 1#32) (k0_pay9 (@View.ld (Elt Ideal) S4x512 .f32 (iblk m c 0 t) (Rect.unit (s := S4x512) ![0, 0] ![1, 512] inb_S4x512_S1x512_0_0)) (@View.ld (Elt Ideal) S4x512 .f32 (iblk m c 0 t) (Rect.unit (s := S4x512) ![2, 0] ![1, 512] inb_S4x512_S1x512_2_0)) (iblk m c 1 t)) (k0_pay10 (@View.ld (Elt Ideal) S4x512 .f32 (iblk m c 0 t) (Rect.unit (s := S4x512) ![0, 0] ![1, 512] inb_S4x512_S1x512_0_0)) (@View.ld (Elt Ideal) S4x512 .f32 (iblk m c 0 t) (Rect.unit (s := S4x512) ![2, 0] ![1, 512] inb_S4x512_S1x512_2_0))) (ix2 r k) = ((cum x g 0 (ex t) r k : ℝ) : EReal) :=
  cum0 (g0 m c h0 h1 t) mask0 r k

include h0 h1 in
theorem k0 (r : Fin 256) (k : Fin 512) :
    k0_pay21 (F := Ideal) (k0_pay6 (iota .tc S256x256 32 ([(0 : Fin S256x256.rank)] : List (Fin 2)) iota_S256x256_d0_w32) (iota .tc S256x256 32 ([(1 : Fin S256x256.rank)] : List (Fin 2)) iota_S256x256_d1_w32) k0_pay3 (64#32) k0_pay4 k0_pay5 1#32) (k0_pay9 (@View.ld (Elt Ideal) S4x512 .f32 (iblk m c 0 t) (Rect.unit (s := S4x512) ![0, 0] ![1, 512] inb_S4x512_S1x512_0_0)) (@View.ld (Elt Ideal) S4x512 .f32 (iblk m c 0 t) (Rect.unit (s := S4x512) ![2, 0] ![1, 512] inb_S4x512_S1x512_2_0)) (iblk m c 1 t)) (k0_pay10 (@View.ld (Elt Ideal) S4x512 .f32 (iblk m c 0 t) (Rect.unit (s := S4x512) ![0, 0] ![1, 512] inb_S4x512_S1x512_0_0)) (@View.ld (Elt Ideal) S4x512 .f32 (iblk m c 0 t) (Rect.unit (s := S4x512) ![2, 0] ![1, 512] inb_S4x512_S1x512_2_0))) (ix2 r k) = ((key x g 0 (ex t) r k : ℝ) : EReal) :=
  key0 (g0 m c h0 h1 t) (c0 m c h0 h1 t) r k

include h0 h1 in
theorem g1 (r : Fin 256) (k : Fin 512) :
    k0_pay92 (F := Ideal) (k0_pay89 (@View.ld (Elt Ideal) S4x512 .f32 (iblk m c 0 t) (Rect.unit (s := S4x512) ![1, 0] ![1, 512] inb_S4x512_S1x512_1_0)) (@View.ld (Elt Ideal) S4x512 .f32 (iblk m c 0 t) (Rect.unit (s := S4x512) ![3, 0] ![1, 512] inb_S4x512_S1x512_3_0))) (k0_pay91 (iblk m c 3 t)) (ix2 r k) = ((gate x g 1 (ex t) r k : ℝ) : EReal) :=
  gate1 (fun k => (by pointwise; exact e0 m c h1 t 1 k)) (fun k => (by pointwise; exact e0 m c h1 t 3 k)) (e3 m c h0 t) r k

include h0 h1 in
theorem c1 (r : Fin 256) (k : Fin 512) :
    k0_pay93 (F := Ideal) (k0_pay88 (iota .tc S256x256 32 ([(0 : Fin S256x256.rank)] : List (Fin 2)) iota_S256x256_d0_w32) (iota .tc S256x256 32 ([(1 : Fin S256x256.rank)] : List (Fin 2)) iota_S256x256_d1_w32) k0_pay85 (64#32) k0_pay86 k0_pay87) (k0_pay89 (@View.ld (Elt Ideal) S4x512 .f32 (iblk m c 0 t) (Rect.unit (s := S4x512) ![1, 0] ![1, 512] inb_S4x512_S1x512_1_0)) (@View.ld (Elt Ideal) S4x512 .f32 (iblk m c 0 t) (Rect.unit (s := S4x512) ![3, 0] ![1, 512] inb_S4x512_S1x512_3_0))) (k0_pay91 (iblk m c 3 t)) (ix2 r k) = ((cum x g 1 (ex t) r k : ℝ) : EReal) :=
  cum1 (g1 m c h0 h1 t) mask1 r k

include h0 h1 in
theorem k1 (r : Fin 256) (k : Fin 512) :
    k0_pay104 (F := Ideal) (k0_pay93 (k0_pay88 (iota .tc S256x256 32 ([(0 : Fin S256x256.rank)] : List (Fin 2)) iota_S256x256_d0_w32) (iota .tc S256x256 32 ([(1 : Fin S256x256.rank)] : List (Fin 2)) iota_S256x256_d1_w32) k0_pay85 (64#32) k0_pay86 k0_pay87) (k0_pay89 (@View.ld (Elt Ideal) S4x512 .f32 (iblk m c 0 t) (Rect.unit (s := S4x512) ![1, 0] ![1, 512] inb_S4x512_S1x512_1_0)) (@View.ld (Elt Ideal) S4x512 .f32 (iblk m c 0 t) (Rect.unit (s := S4x512) ![3, 0] ![1, 512] inb_S4x512_S1x512_3_0))) (k0_pay91 (iblk m c 3 t)))
      (k0_pay98 (k0_pay88 (iota .tc S256x256 32 ([(0 : Fin S256x256.rank)] : List (Fin 2)) iota_S256x256_d0_w32) (iota .tc S256x256 32 ([(1 : Fin S256x256.rank)] : List (Fin 2)) iota_S256x256_d1_w32) k0_pay85 (64#32) k0_pay86 k0_pay87) (k0_pay89 (@View.ld (Elt Ideal) S4x512 .f32 (iblk m c 0 t) (Rect.unit (s := S4x512) ![1, 0] ![1, 512] inb_S4x512_S1x512_1_0)) (@View.ld (Elt Ideal) S4x512 .f32 (iblk m c 0 t) (Rect.unit (s := S4x512) ![3, 0] ![1, 512] inb_S4x512_S1x512_3_0))) (k0_pay91 (iblk m c 3 t))) (k0_pay99 (k0_pay89 (@View.ld (Elt Ideal) S4x512 .f32 (iblk m c 0 t) (Rect.unit (s := S4x512) ![1, 0] ![1, 512] inb_S4x512_S1x512_1_0)) (@View.ld (Elt Ideal) S4x512 .f32 (iblk m c 0 t) (Rect.unit (s := S4x512) ![3, 0] ![1, 512] inb_S4x512_S1x512_3_0))) (k0_pay91 (iblk m c 3 t)))
      (k0_pay100 (k0_pay88 (iota .tc S256x256 32 ([(0 : Fin S256x256.rank)] : List (Fin 2)) iota_S256x256_d0_w32) (iota .tc S256x256 32 ([(1 : Fin S256x256.rank)] : List (Fin 2)) iota_S256x256_d1_w32) k0_pay85 (64#32) k0_pay86 k0_pay87) (k0_pay89 (@View.ld (Elt Ideal) S4x512 .f32 (iblk m c 0 t) (Rect.unit (s := S4x512) ![1, 0] ![1, 512] inb_S4x512_S1x512_1_0)) (@View.ld (Elt Ideal) S4x512 .f32 (iblk m c 0 t) (Rect.unit (s := S4x512) ![3, 0] ![1, 512] inb_S4x512_S1x512_3_0))) (k0_pay91 (iblk m c 3 t))) (ix2 r k) = ((key x g 1 (ex t) r k : ℝ) : EReal) :=
  key1 (g1 m c h0 h1 t) (c1 m c h0 h1 t) r k

include h0 h1 in
theorem value7 : (dats m 0 c).arrAt 7 cfg0.N = fun j : S1024x512.Idx => sums x g 0 (j 0) (j 1) := by
  refine (dats m 0 c).arrAt_eq_of_covers 7 _ (by decide +kernel) fun t hf y => ?_
  blk_simp
  rw [after0_7]
  unfold outsAt0
  frame_open
  frame_out
  idx_vars y
  have e : ((View.whole main_v3_2).slice (win0_7.rect t)).emb (ix2 y0 y1) = ix2 (row t y0) y1 := by
    blk_ext [idx t, row]
  rw [e]
  exact (c0 m c h0 h1 t y0 y1).trans (sums_row t 0 y0 y1).symm

include h0 h1 in
theorem value8 : (dats m 0 c).arrAt 8 cfg0.N = fun j : S1024x512.Idx => sums x g 1 (j 0) (j 1) := by
  refine (dats m 0 c).arrAt_eq_of_covers 8 _ (by decide +kernel) fun t hf y => ?_
  blk_simp
  rw [after0_8]
  unfold outsAt0
  frame_open
  frame_out
  idx_vars y
  have e : ((View.whole main_v3_3).slice (win0_8.rect t)).emb (ix2 y0 y1) = ix2 (row t y0) y1 := by
    blk_ext [idx t, row]
  rw [e]
  exact (c1 m c h0 h1 t y0 y1).trans (sums_row t 1 y0 y1).symm

end Values

end Cert.Kernel13Ideal.States
end
-- ==== Proof.Windows.lean ====
/- The running sum along one axis, which the host writes as a window's sum, at extended reals. -/
module

public import Idealize.ShloMosaic.Lib.Pointwise
public import Idealize.ShloMosaic.Lib.Pipeline.ValueKit
public import proofs.«01_k».proof.Defs

@[expose] public section

noncomputable section

namespace Cert.Windows

open Idealize.ShloMosaic

theorem foldl_add {ι : Type*} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- A fold over a window's positions is a sum over its indices. -/
theorem foldl_window (W : Shape) (f : W.Idx → EReal) (v : EReal) :
    (List.finRange W.numel).foldl (fun r n => r + f (W.rowMajor.symm n)) v = v + ∑ i, f i := by
  rw [foldl_add (fun n => f (W.rowMajor.symm n)), ← Fin.sum_univ_def, W.rowMajor.symm.sum_comp f]

/-- A window's entry `w` at result index `j`: the operand's, or zero outside of it. -/
def entry {s t : Shape} {window strides lo hi : Fin s.rank → ℕ} (x : s.Idx → EReal) (h : s.ReduceWindows window strides lo hi t) (j : t.Idx)
    (w : (⟨s.rank, window⟩ : Shape).Idx) : EReal :=
  if hin : ∀ a, lo a ≤ (j (a.cast h.1.symm)).val * strides a + (w a).val ∧ (j (a.cast h.1.symm)).val * strides a + (w a).val - lo a < s.size a then
    x (fun a => ⟨(j (a.cast h.1.symm)).val * strides a + (w a).val - lo a, (hin a).2⟩) else 0

/-- A window's sum with initial value zero, as a sum over the window's indices. -/
theorem window_sum {s t u : Shape} (window strides lo hi : Fin s.rank → ℕ) (x : s.Idx → EReal) (init : u.Idx → EReal)
    (h : s.ReduceWindows window strides lo hi t) (hu : 0 < u.numel) (h0 : init (Shape.Idx.first hu) = 0) (j : t.Idx) :
    Host.reduceWindowAdd (F := Ideal) (φ := .f32) window strides lo hi x init h hu j = ∑ w, entry x h j w := by
  refine Eq.trans (b := Ideal.hostReduceWindowAdd window strides lo hi h x (init (Shape.Idx.first hu)) j) rfl ?_
  rw [h0]
  refine Eq.trans ?_ ((foldl_window (⟨s.rank, window⟩ : Shape) (entry x h j) 0).trans (zero_add _))
  unfold Ideal.hostReduceWindowAdd Host.reduceWindow entry
  dsimp only
  congr! 3
  split_ifs <;> rfl

/-- The running sum along the third of five axes. -/
theorem cumsum {A B C D : ℕ} {u : Shape} (x : (⟨5, ![A, B, 64, C, D]⟩ : Shape).Idx → EReal) (init : u.Idx → EReal)
    (h : (⟨5, ![A, B, 64, C, D]⟩ : Shape).ReduceWindows ![1, 1, 64, 1, 1] ![1, 1, 1, 1, 1] ![0, 0, 63, 0, 0] ![0, 0, 0, 0, 0] ⟨5, ![A, B, 64, C, D]⟩)
    (hu : 0 < u.numel) (h0 : init (Shape.Idx.first hu) = 0) (a : Fin A) (b : Fin B) (s : Fin 64) (c : Fin C) (d : Fin D) :
    Host.reduceWindowAdd (F := Ideal) (φ := .f32) (s := (⟨5, ![A, B, 64, C, D]⟩ : Shape)) ![1, 1, 64, 1, 1] ![1, 1, 1, 1, 1] ![0, 0, 63, 0, 0] ![0, 0, 0, 0, 0] x init h hu (ix5 a b s c d)
      = ∑ q : Fin 64, if q ≤ s then x (ix5 a b q c d) else 0 := by
  rw [window_sum _ _ _ _ x init h hu h0]
  have key : ∀ q : Fin 64, entry x h (ix5 a b s c d) (ix5 0 0 q 0 0 : (⟨5, ![1, 1, 64, 1, 1]⟩ : Shape).Idx)
      = if h : 63 ≤ s.val + q.val then x (ix5 a b ⟨s.val + q.val - 63, by omega⟩ c d) else 0 := by
    intro q
    by_cases hq : 63 ≤ s.val + q.val
    · rw [dif_pos hq]
      refine (dif_pos (fun k => ?_)).trans (congrArg x (funext fun k => Fin.ext ?_))
      · match k with
        | ⟨0, _⟩ => exact ⟨Nat.zero_le _, (show a.val * 1 + 0 - 0 < A by omega)⟩
        | ⟨1, _⟩ => exact ⟨Nat.zero_le _, (show b.val * 1 + 0 - 0 < B by omega)⟩
        | ⟨2, _⟩ => exact ⟨(show 63 ≤ s.val * 1 + q.val by omega), (show s.val * 1 + q.val - 63 < 64 by omega)⟩
        | ⟨3, _⟩ => exact ⟨Nat.zero_le _, (show c.val * 1 + 0 - 0 < C by omega)⟩
        | ⟨4, _⟩ => exact ⟨Nat.zero_le _, (show d.val * 1 + 0 - 0 < D by omega)⟩
      · match k with
        | ⟨0, _⟩ => show a.val * 1 + 0 - 0 = a.val; omega
        | ⟨1, _⟩ => show b.val * 1 + 0 - 0 = b.val; omega
        | ⟨2, _⟩ => show s.val * 1 + q.val - 63 = s.val + q.val - 63; omega
        | ⟨3, _⟩ => show c.val * 1 + 0 - 0 = c.val; omega
        | ⟨4, _⟩ => show d.val * 1 + 0 - 0 = d.val; omega
    · rw [dif_neg hq]
      refine dif_neg fun hin => hq ?_
      have h2 : 63 ≤ s.val * 1 + q.val := (hin 2).1
      omega
  refine (Fintype.sum_bijective (fun q : Fin 64 => (ix5 0 0 q 0 0 : (⟨5, ![1, 1, 64, 1, 1]⟩ : Shape).Idx)) ⟨?_, ?_⟩
    (fun q => if h : 63 ≤ s.val + q.val then x (ix5 a b ⟨s.val + q.val - 63, by omega⟩ c d) else 0) _ fun q => (key q).symm).symm.trans ?_
  · intro p q e
    exact congrFun e 2
  · intro w
    refine ⟨w 2, funext fun k => ?_⟩
    match k with
    | ⟨0, _⟩ => exact (Subsingleton.elim (α := Fin 1) _ _)
    | ⟨1, _⟩ => exact (Subsingleton.elim (α := Fin 1) _ _)
    | ⟨2, _⟩ => rfl
    | ⟨3, _⟩ => exact (Subsingleton.elim (α := Fin 1) _ _)
    | ⟨4, _⟩ => exact (Subsingleton.elim (α := Fin 1) _ _)
  · rw [← Finset.sum_filter]
    refine Finset.sum_bij_ne_zero (fun q _ _ => ⟨s.val + q.val - 63, by omega⟩) ?_ ?_ ?_ ?_
    · intro q _ hq
      have h' : 63 ≤ s.val + q.val := by by_contra hn; exact hq (dif_neg hn)
      simp only [Finset.mem_filter, Finset.mem_univ, true_and]
      exact Fin.le_def.2 (by simp only; omega)
    · intro p _ hp q _ hq e
      have h1 : 63 ≤ s.val + p.val := by by_contra hn; exact hp (dif_neg hn)
      have h2 : 63 ≤ s.val + q.val := by by_contra hn; exact hq (dif_neg hn)
      have := congrArg Fin.val e
      simp only at this
      exact Fin.ext (by omega)
    · intro q hq hn
      have hle : q.val ≤ s.val := by simpa using hq
      refine ⟨⟨q.val + 63 - s.val, by omega⟩, Finset.mem_univ _, ?_, Fin.ext (by simp only; omega)⟩
      have e : (⟨s.val + (q.val + 63 - s.val) - 63, by omega⟩ : Fin 64) = q := Fin.ext (by simp only; omega)
      rw [dif_pos (by simp only; omega)]
      simp only [e]
      exact hn
    · intro q _ hq
      have h' : 63 ≤ s.val + q.val := by by_contra hn; exact hq (dif_neg hn)
      exact dif_pos h'

/-- The first entry of a running sum along the first of three axes of length two. -/
theorem cumsum_first {A B : ℕ} {u : Shape} (x : (⟨3, ![2, A, B]⟩ : Shape).Idx → EReal) (init : u.Idx → EReal)
    (h : (⟨3, ![2, A, B]⟩ : Shape).ReduceWindows ![2, 1, 1] ![1, 1, 1] ![1, 0, 0] ![0, 0, 0] ⟨3, ![2, A, B]⟩)
    (hu : 0 < u.numel) (h0 : init (Shape.Idx.first hu) = 0) (a : Fin A) (b : Fin B) :
    Host.reduceWindowAdd (F := Ideal) (φ := .f32) (s := (⟨3, ![2, A, B]⟩ : Shape)) ![2, 1, 1] ![1, 1, 1] ![1, 0, 0] ![0, 0, 0] x init h hu (ix3 0 a b) = x (ix3 0 a b) := by
  rw [window_sum _ _ _ _ x init h hu h0, Fintype.sum_eq_single (ix3 1 0 0 : (⟨3, ![2, 1, 1]⟩ : Shape).Idx)]
  · refine (dif_pos fun k => ?_).trans (congrArg x (funext fun k => Fin.ext ?_))
    · match k with
      | ⟨0, _⟩ => exact ⟨(show 1 ≤ 0 * 1 + 1 by omega), (show 0 * 1 + 1 - 1 < 2 by omega)⟩
      | ⟨1, _⟩ => exact ⟨Nat.zero_le _, (show a.val * 1 + 0 - 0 < A by omega)⟩
      | ⟨2, _⟩ => exact ⟨Nat.zero_le _, (show b.val * 1 + 0 - 0 < B by omega)⟩
    · match k with
      | ⟨0, _⟩ => rfl
      | ⟨1, _⟩ => show a.val * 1 + 0 - 0 = a.val; omega
      | ⟨2, _⟩ => show b.val * 1 + 0 - 0 = b.val; omega
  · intro w hw
    refine dif_neg fun hin => hw (funext fun k => ?_)
    have h0 : 1 ≤ 0 * 1 + (w 0).val := (hin 0).1
    match k with
    | ⟨0, _⟩ => exact Fin.ext (show (w 0).val = 1 by have : (w 0).val < 2 := (w 0).isLt; omega)
    | ⟨1, _⟩ => exact (Subsingleton.elim (α := Fin 1) _ _)
    | ⟨2, _⟩ => exact (Subsingleton.elim (α := Fin 1) _ _)

end Cert.Windows
end
-- ==== Proof.StatesGate.lean ====
/- The reference's forget gates, at real arguments. -/
module

public import proofs.«01_k».proof.Defs
public import proofs.«01_k».proof.Proof.States
public import proofs.«01_k».proof.Proof.Windows
public import proofs.«01_k».proof.Proof.Gen.Reference13Ideal.Read
public import Idealize.ShloMosaic.Lib.Pointwise

@[expose] public section

set_option maxRecDepth 16384

noncomputable section

namespace Cert.Reference13Ideal.States

open Cert.Reference13Ideal Cert.Reference13Ideal.Read Idealize.ShloMosaic
open Cert.Reals (up up_apply)
open Cert.Kernel13Ideal.States (low gate gate_pos one_sub at64 lane wide upto cum last chunk key step state sums stash)

variable (x : S4x256x1536.Idx → ℝ) (g : S2x2x512.Idx → ℝ)

/-! ## The gates' lower bounds -/

theorem foldl_real {ι : Type*} (f : ι → ℝ) (l : List ι) (r : ℝ) :
    ∃ M : ℝ, l.foldl (fun s n => FloatOps.maximumf (F := Ideal) (φ := .f32) s ((f n : ℝ) : EReal)) ((r : ℝ) : EReal) = ((M : ℝ) : EReal) := by
  induction l generalizing r with
  | nil => exact ⟨r, rfl⟩
  | cons a t ih =>
    obtain ⟨M, h⟩ := ih (max r (f a))
    rw [EReal.coe_strictMono.monotone.map_max] at h
    exact ⟨M, h⟩

theorem foldl_bot {ι : Type*} (f : ι → ℝ) (l : List ι) (h : l ≠ []) :
    ∃ M : ℝ, l.foldl (fun s n => FloatOps.maximumf (F := Ideal) (φ := .f32) s ((f n : ℝ) : EReal)) (⊥ : EReal) = ((M : ℝ) : EReal) := by
  cases l with
  | nil => exact absurd rfl h
  | cons a t =>
    have e : FloatOps.maximumf (F := Ideal) (φ := .f32) (⊥ : EReal) ((f a : ℝ) : EReal) = ((f a : ℝ) : EReal) := max_eq_right bot_le
    rw [List.foldl_cons, e]
    exact foldl_real f t (f a)

theorem ofBits_bot : Ideal.ofBits .f32 0xFF800000#32 = ⊥ := by
  simp [Ideal.ofBits, Ideal.ieee]

/-- The greatest of a column is a real number. -/
theorem v0 (d : Fin 2) (k : Fin 512) : ∃ M : ℝ, val_main_v0 (F := Ideal) (up g) (ix2 d k) = ((M : ℝ) : EReal) := by
  unfold val_main_v0 Host.reduce
  have e : val_main_cst (F := Ideal) (Shape.Idx.first Gen.h_S_) = ⊥ := ofBits_bot
  rw [e]
  refine foldl_bot (fun n => g (S2x2x512.rowMajor.symm n)) _ (List.ne_nil_of_mem (a := S2x2x512.rowMajor (ix3 0 d k)) ?_)
  rw [List.mem_filter]
  refine ⟨List.mem_finRange _, ?_⟩
  rw [decide_eq_true_iff, Equiv.symm_apply_apply]
  funext a
  match a with
  | ⟨0, _⟩ => rfl
  | ⟨1, _⟩ => rfl

theorem softmax (a b M : ℝ) : Ideal.div (Ideal.exp ((a : EReal) - (M : EReal))) (Ideal.exp ((a : EReal) - (M : EReal)) + Ideal.exp ((b : EReal) - (M : EReal)))
    = ((Reals.sig (a - b) : ℝ) : EReal) := by
  rw [Reals.sub, Reals.sub, Reals.exp, Reals.exp, Reals.add, Reals.div _ _ (by positivity), Reals.sig]
  congr 1
  have h : Real.exp (b - M) = Real.exp (a - M) * Real.exp (-(a - b)) := by rw [← Real.exp_add]; congr 1; ring
  have hp := Real.exp_pos (a - M)
  rw [h]
  field_simp

theorem v13 (d : Fin 2) (k : Fin 512) : val_main_v13 (F := Ideal) (up g) (ix2 d k) = ((low g d k : ℝ) : EReal) := by
  obtain ⟨M, hM⟩ := v0 g d k
  have h2 : val_main_v2 (F := Ideal) (up g) (ix2 d k) = ((M : ℝ) : EReal) := by
    rw [val_main_v2_apply, hM]
    exact (congrArg (fun z => max z ((M : ℝ) : EReal)) ofBits_bot).trans (max_eq_right bot_le)
  have h6 : ∀ i : Fin 2, val_main_v6 (F := Ideal) (up g) (ix3 i d k) = Ideal.exp (((g (ix3 i d k) : ℝ) : EReal) - ((M : ℝ) : EReal)) := by
    intro i
    rw [← h2]
    pointwise [val_main_v6, val_main_v5, val_main_v4, val_main_v3, up_apply]
  have h10 : val_main_v10 (F := Ideal) (up g) (ix3 0 d k) = ((low g d k : ℝ) : EReal) := by
    pointwise [val_main_v10, val_main_v9, val_main_v8, val_main_v7, val_main_cst_1]
    simp only [Fin.sum_univ_two, h6, softmax]
    rfl
  rw [← h10]
  unfold val_main_v13 val_main_v12 val_main_v11
  refine Eq.trans (b := Host.reduceWindowAdd (F := Ideal) (φ := .f32) (s := S2x2x512) ![2, 1, 1] ![1, 1, 1] ![1, 0, 0] ![0, 0, 0] (val_main_v10 (F := Ideal) (up g))
    (val_main_call0_call0_v0 (F := Ideal)) Gen.reduceWindows_S2x2x512_S2x2x512_w2s1p1_0_w1s1p0_0_w1s1p0_0 Gen.h_S_ (ix3 0 d k)) ?_
    (Windows.cumsum_first (val_main_v10 (F := Ideal) (up g)) (val_main_call0_call0_v0 (F := Ideal)) _ _ ?_ d k)
  · pointwise
  · pointwise [val_main_call0_call0_v0, val_main_call0_call0_cst]

/-! ## The gates -/

theorem v32 (e : Fin 4) (r : Fin 256) (k : Fin 512) : val_main_v32 (F := Ideal) (up x) (up g) (ix3 e r k) = ((gate x g 0 e r k : ℝ) : EReal) := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v14, val_main_cst_2, val_main_cst_3, val_main_cst_4, v13, up_apply]
  simp only [Reals.logistic, one_sub, Reals.mul, Reals.add]
  rw [show (⟨k.val, by omega⟩ : Fin 1536) = ⟨512 * (0 : Fin 2).val + k.val, by omega⟩ from Fin.ext (by simp)]
  rfl

theorem v51 (e : Fin 4) (r : Fin 256) (k : Fin 512) : val_main_v51 (F := Ideal) (up x) (up g) (ix3 e r k) = ((gate x g 1 e r k : ℝ) : EReal) := by
  pointwise [val_main_v51, val_main_v50, val_main_v49, val_main_v48, val_main_v47, val_main_v46, val_main_v45, val_main_v44, val_main_v43, val_main_v42, val_main_v41, val_main_v40, val_main_v39, val_main_v38, val_main_v37, val_main_v36, val_main_v15, val_main_cst_6, val_main_cst_7, val_main_cst_8, v13, up_apply]
  simp only [Reals.logistic, one_sub, Reals.mul, Reals.add]
  rfl

/-! ## Rows in chunks -/

theorem chunked {α : Type} (y : S4x256x512.Idx → α) (e n : Fin 4) (s : Fin 64) (h : Fin 4) (a : Fin 128) :
    shapeCast S4x4x64x4x128 y Gen.shapeCasts_S4x256x512_S4x4x64x4x128 (ix5 e n s h a) = y (ix3 e (at64 n s) (lane h a)) :=
  shapeCast_apply y _ _ _ (by
    rewrite [Shape.rowMajor_val_three, Shape.rowMajor_val_five]
    show (e.val * 256 + (64 * n.val + s.val)) * 512 + (128 * h.val + a.val) = (((e.val * 4 + n.val) * 64 + s.val) * 4 + h.val) * 128 + a.val
    omega)

theorem rowed {α : Type} (y : S4x4x64x4x128.Idx → α) (e : Fin 4) (r : Fin 256) (k : Fin 512) :
    shapeCast S4x256x512 y Gen.shapeCasts_S4x4x64x4x128_S4x256x512 (ix3 e r k)
      = y (ix5 e ⟨r.val / 64, by omega⟩ ⟨r.val % 64, by omega⟩ ⟨k.val / 128, by omega⟩ ⟨k.val % 128, by omega⟩) :=
  shapeCast_apply _ _ _ _ (by
    rewrite [Shape.rowMajor_val_three, Shape.rowMajor_val_five]
    show (((e.val * 4 + r.val / 64) * 64 + r.val % 64) * 4 + k.val / 128) * 128 + k.val % 128 = (e.val * 256 + r.val) * 512 + k.val
    omega)

theorem listed {α : Type} (y : S4x256x512.Idx → α) (r : Fin 1024) (k : Fin 512) :
    shapeCast S1024x512 y Gen.shapeCasts_S4x256x512_S1024x512 (ix2 r k) = y (ix3 ⟨r.val / 256, by omega⟩ ⟨r.val % 256, by omega⟩ k) :=
  shapeCast_apply _ _ _ _ (by
    rewrite [Shape.rowMajor_val_three, Shape.rowMajor_val_two]
    show (r.val / 256 * 256 + r.val % 256) * 512 + k.val = r.val * 512 + k.val
    omega)

theorem at64_div (r : Fin 256) : at64 ⟨r.val / 64, by omega⟩ ⟨r.val % 64, by omega⟩ = r :=
  Fin.ext (by show 64 * (r.val / 64) + r.val % 64 = r.val; omega)

theorem lane_div (k : Fin 512) : lane ⟨k.val / 128, by omega⟩ ⟨k.val % 128, by omega⟩ = k :=
  Fin.ext (by show 128 * (k.val / 128) + k.val % 128 = k.val; omega)

theorem upto_at64 (d : Fin 2) (n m : Fin 4) (s q : Fin 64) : upto d (at64 n s) (at64 m q) = decide (m = n ∧ if d = 0 then q ≤ s else s ≤ q) := by
  unfold upto at64
  rw [Bool.eq_iff_iff]
  split_ifs <;> simp only [Bool.and_eq_true, decide_eq_true_eq, Fin.ext_iff, Fin.le_def] <;> omega

/-- The gates' logarithms, summed over the chunk's own rows. -/
theorem cum_chunk (d : Fin 2) (e n : Fin 4) (s : Fin 64) (k : Fin 512) :
    cum x g d e (at64 n s) k = ∑ q : Fin 64, if (if d = 0 then q ≤ s else s ≤ q) then Real.log (gate x g d e (at64 n q) k) else 0 := by
  have h : ∀ p : Fin 4 × Fin 64, (finProdFinEquiv p : Fin 256) = at64 p.1 p.2 := fun p => Fin.ext (by
    show p.2.val + 64 * p.1.val = 64 * p.1.val + p.2.val
    omega)
  unfold cum
  rw [← Equiv.sum_comp (finProdFinEquiv : Fin 4 × Fin 64 ≃ Fin 256), Fintype.sum_prod_type]
  simp only [h, upto_at64, decide_eq_true_eq]
  rw [Finset.sum_eq_single n (fun m _ hm => by simp [hm]) (fun hn => absurd (Finset.mem_univ n) hn)]
  simp

theorem v58 (e n : Fin 4) (s : Fin 64) (h : Fin 4) (a : Fin 128) :
    val_main_v58 (F := Ideal) (up x) (up g) (ix5 e n s h a) = ((cum x g 0 e (at64 n s) (lane h a) : ℝ) : EReal) := by
  unfold val_main_v58
  rw [Windows.cumsum (val_main_v56 (F := Ideal) (up x) (up g)) (val_main_call1_call0_v0 (F := Ideal)) _ _
    (by pointwise [val_main_call1_call0_v0, val_main_call1_call0_cst]), cum_chunk, ← Reals.sum]
  refine Finset.sum_congr rfl fun q _ => ?_
  unfold val_main_v56
  rw [chunked, val_main_v33_apply, v32]
  simp only [eq_self_iff_true, if_true]
  split_ifs
  · exact Reals.log _ (gate_pos _ _ _ _)
  · rfl

theorem reversed (y : S4x256x512.Idx → EReal) (e : Fin 4) (r : Fin 256) (k : Fin 512) :
    Host.reverse (s := S4x256x512) [1] y (ix3 e r k) = y (ix3 e r.rev k) := by
  refine congrArg y (funext fun a => Fin.ext ?_)
  match a with
  | ⟨0, _⟩ => rfl
  | ⟨1, _⟩ => exact congrArg Fin.val (if_pos (List.mem_singleton.2 rfl))
  | ⟨2, _⟩ => rfl

theorem at64_rev (n : Fin 4) (s : Fin 64) : (at64 n s).rev = at64 n.rev s.rev := by
  refine Fin.ext ?_
  show 256 - (64 * n.val + s.val + 1) = 64 * (4 - (n.val + 1)) + (64 - (s.val + 1))
  omega

theorem v112 (e n : Fin 4) (s : Fin 64) (h : Fin 4) (a : Fin 128) :
    val_main_v112 (F := Ideal) (up x) (up g) (ix5 e n s h a) = ((cum x g 1 e (at64 n.rev s.rev) (lane h a) : ℝ) : EReal) := by
  unfold val_main_v112
  rw [Windows.cumsum (val_main_v110 (F := Ideal) (up x) (up g)) (val_main_call5_call0_v0 (F := Ideal)) _ _
    (by pointwise [val_main_call5_call0_v0, val_main_call5_call0_cst]), cum_chunk, ← Reals.sum, ← Equiv.sum_comp Fin.revPerm (fun q : Fin 64 => (_ : EReal))]
  refine Finset.sum_congr rfl fun q _ => ?_
  unfold val_main_v110 val_main_v107
  rw [chunked, reversed, at64_rev, val_main_v52_apply, v51]
  have hq : q.rev ≤ s ↔ s.rev ≤ q := by simp only [Fin.le_def, Fin.val_rev]; omega
  simp only [Fin.revPerm_apply, Fin.rev_rev, hq, one_ne_zero, if_false]
  split_ifs
  · exact Reals.log _ (gate_pos _ _ _ _)
  · rfl

/-! ## Keys, and what a chunk adds to the state -/

theorem key_at64 (d : Fin 2) (e n : Fin 4) (s : Fin 64) (k : Fin 512) :
    key x g d e (at64 n s) k = (1 - gate x g d e (at64 n s) k) * Real.exp (cum x g d e (last d n) k - cum x g d e (at64 n s) k) := by
  have h : (⟨(at64 n s).val / 64, by omega⟩ : Fin 4) = n := Fin.ext (by show (64 * n.val + s.val) / 64 = n.val; omega)
  unfold key
  rw [h]

theorem v63 (e n : Fin 4) (s : Fin 64) (h : Fin 4) (a : Fin 128) :
    val_main_v63 (F := Ideal) (up x) (up g) (ix5 e n s h a) = ((key x g 0 e (at64 n s) (lane h a) : ℝ) : EReal) := by
  pointwise [val_main_v63, val_main_v62, val_main_v61, val_main_v60, val_main_v59]
  unfold val_main_v55
  rw [chunked, v58, v58, key_at64, val_main_v35_apply, v32]
  pointwise [val_main_v34, val_main_cst_5]
  simp only [Reals.sub, Reals.exp, one_sub, Reals.mul]
  rfl

theorem v117 (e n : Fin 4) (s : Fin 64) (h : Fin 4) (a : Fin 128) :
    val_main_v117 (F := Ideal) (up x) (up g) (ix5 e n s h a) = ((key x g 1 e (at64 n.rev s.rev) (lane h a) : ℝ) : EReal) := by
  pointwise [val_main_v117, val_main_v116, val_main_v115, val_main_v114, val_main_v113]
  unfold val_main_v109 val_main_v106
  rw [chunked, reversed, at64_rev, v112, v112, key_at64, val_main_v54_apply, v51]
  pointwise [val_main_v53, val_main_cst_9]
  simp only [Reals.sub, Reals.exp, one_sub, Reals.mul]
  rfl

theorem v66 (e n h : Fin 4) (a : Fin 128) :
    val_main_v66 (F := Ideal) (up x) (up g) (ix4 e n h a) = ((Real.exp (cum x g 0 e (last 0 n) (lane h a)) : ℝ) : EReal) := by
  pointwise [val_main_v66, val_main_v65, val_main_v59]
  rw [v58, Reals.exp]
  rfl

theorem v120 (e n h : Fin 4) (a : Fin 128) :
    val_main_v120 (F := Ideal) (up x) (up g) (ix4 e n h a) = ((Real.exp (cum x g 1 e (last 1 n.rev) (lane h a)) : ℝ) : EReal) := by
  pointwise [val_main_v120, val_main_v119, val_main_v113]
  rw [v112, Reals.exp]
  rfl

theorem v16 (e : Fin 4) (r : Fin 256) (h : Fin 4) (b : Fin 128) :
    val_main_v16 (F := Ideal) (up x) (ix3 e r (lane h b)) = ((x (ix3 e r (wide h b)) : ℝ) : EReal) := by
  pointwise [val_main_v16, up_apply]
  rfl

theorem v64 (e n h : Fin 4) (a b : Fin 128) :
    val_main_v64 (F := Ideal) (up x) (up g) (ix5 e n h a b)
      = ∑ l : Fin 64, ((x (ix3 e (at64 n l) (wide h b)) : ℝ) : EReal) * ((key x g 0 e (at64 n l) (lane h a) : ℝ) : EReal) := by
  rw [val_main_v64_apply]
  refine Finset.sum_congr rfl fun l _ => ?_
  have el : lidx_main_v64 (ix5 e n h a b) l = ix5 e n l h a := funext fun k => match k with
    | ⟨0, _⟩ => rfl | ⟨1, _⟩ => rfl | ⟨2, _⟩ => rfl | ⟨3, _⟩ => rfl | ⟨4, _⟩ => rfl
  have er : ridx_main_v64 (ix5 e n h a b) l = ix5 e n l h b := funext fun k => match k with
    | ⟨0, _⟩ => rfl | ⟨1, _⟩ => rfl | ⟨2, _⟩ => rfl | ⟨3, _⟩ => rfl | ⟨4, _⟩ => rfl
  rw [el, er, mul_comm, v63]
  unfold val_main_v57
  rw [chunked, v16]

theorem v118 (e n h : Fin 4) (a b : Fin 128) :
    val_main_v118 (F := Ideal) (up x) (up g) (ix5 e n h a b)
      = ∑ l : Fin 64, ((x (ix3 e (at64 n.rev l) (wide h b)) : ℝ) : EReal) * ((key x g 1 e (at64 n.rev l) (lane h a) : ℝ) : EReal) := by
  rw [val_main_v118_apply, ← Equiv.sum_comp Fin.revPerm (fun l : Fin 64 => ((x (ix3 e (at64 n.rev l) (wide h b)) : ℝ) : EReal) * (_ : EReal))]
  refine Finset.sum_congr rfl fun l _ => ?_
  have el : lidx_main_v118 (ix5 e n h a b) l = ix5 e n l h a := funext fun k => match k with
    | ⟨0, _⟩ => rfl | ⟨1, _⟩ => rfl | ⟨2, _⟩ => rfl | ⟨3, _⟩ => rfl | ⟨4, _⟩ => rfl
  have er : ridx_main_v118 (ix5 e n h a b) l = ix5 e n l h b := funext fun k => match k with
    | ⟨0, _⟩ => rfl | ⟨1, _⟩ => rfl | ⟨2, _⟩ => rfl | ⟨3, _⟩ => rfl | ⟨4, _⟩ => rfl
  rw [el, er, mul_comm, v117]
  unfold val_main_v111 val_main_v108
  rw [chunked, reversed, at64_rev, v16]
  rfl

end Cert.Reference13Ideal.States
end
-- ==== Proof.StatesVal.lean ====
/- The values of the states the kernel writes. -/
module

public import proofs.«01_k».proof.Defs
public import proofs.«01_k».proof.Proof.States
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel13Ideal.States

open Cert.Kernel13Ideal Cert.Kernel13Ideal.Gen Idealize.ShloMosaic Idealize.ShloMosaic.TcCoe Idealize.SL.Sem
open Idealize.ShloMosaic.Pipeline (Dat)
open Cert.Reals (up up_apply)

variable (m : (ℓ : Loc nD τ sig) → Buf (Elt Ideal) ℓ)

variable (c : Dev nD) {x : S4x256x1536.Idx → ℝ} {g : S2x2x512.Idx → ℝ}
  (h0 : m ((c : Thread nD τ).loc main_arg0) = up x) (h1 : m ((c : Thread nD τ).loc main_arg1) = up g) (t : Fin cfg0.N)

set_option maxHeartbeats 4000000 in
include h0 h1 in
theorem value5 : (dats m 0 c).arrAt 5 cfg0.N = fun j : S16x4x128x128.Idx => stash x g 0 (j 0) (j 1) (j 2) (j 3) := by
  refine (dats m 0 c).arrAt_eq_of_covers 5 _ (by decide +kernel) fun t hf y => ?_
  blk_simp
  rw [after0_5]
  unfold outsAt0
  frame_open
  simp (disch := decide) only [↓ View.readCov_skip, ↓ View.readCov_cons_toLoadRect, ↓ View.readCov_fill]
  frame_out
  idx_vars y
  have e : ((View.whole main_v3_0).slice (win0_5.rect t)).emb (ix4 y0 y1 y2 y3) = ix4 (part t y0) y1 y2 y3 := by
    blk_ext [idx t, part]
  rw [e]
  refine (canon_agree (G := fun j h b a => state x g 0 (ex t) h (chunk 0 j).val b a) (e := .bf16) (M := 4) ?_ ?_ (ix4 y0 y1 y2 y3)).trans
    (stash_part t 0 y0 y1 y2 y3).symm
  · repeat' refine agree_cons _ (fun b a => ?_) ?_
    rotate_right
    · trivial
    all_goals
      pointwise [k0_pay2, k0_pay8, k0_pay13, k0_pay14, k0_pay15, k0_pay16, k0_pay17, k0_pay18, k0_pay19, k0_pay20, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
      simp only [k0 m c h0 h1, c0 m c h0 h1, e2 m c h0, halves, order]
    · refine state_succ x g (n := 2) (q := ⟨1024 + (384 + b.val), by omega⟩) ?_ ?_ ?_ ?_ fun l => ?_
      refine state_succ x g (n := 1) (q := ⟨1024 + (384 + b.val), by omega⟩) ?_ ?_ ?_ ?_ fun l => ?_
      refine state_succ x g (n := 0) (q := ⟨1024 + (384 + b.val), by omega⟩) ?_ ?_ ?_ ?_ fun l => ?_
      · rfl
      all_goals first | (simp [chunk, last, at64]; done) | (simp [chunk, last, at64]; omega)
    · refine state_succ x g (n := 2) (q := ⟨1024 + (256 + b.val), by omega⟩) ?_ ?_ ?_ ?_ fun l => ?_
      refine state_succ x g (n := 1) (q := ⟨1024 + (256 + b.val), by omega⟩) ?_ ?_ ?_ ?_ fun l => ?_
      refine state_succ x g (n := 0) (q := ⟨1024 + (256 + b.val), by omega⟩) ?_ ?_ ?_ ?_ fun l => ?_
      · rfl
      all_goals first | (simp [chunk, last, at64]; done) | (simp [chunk, last, at64]; omega)
    · refine state_succ x g (n := 2) (q := ⟨1024 + (128 + b.val), by omega⟩) ?_ ?_ ?_ ?_ fun l => ?_
      refine state_succ x g (n := 1) (q := ⟨1024 + (128 + b.val), by omega⟩) ?_ ?_ ?_ ?_ fun l => ?_
      refine state_succ x g (n := 0) (q := ⟨1024 + (128 + b.val), by omega⟩) ?_ ?_ ?_ ?_ fun l => ?_
      · rfl
      all_goals first | (simp [chunk, last, at64]; done) | (simp [chunk, last, at64]; omega)
    · refine state_succ x g (n := 2) (q := ⟨1024 + b.val, by omega⟩) ?_ ?_ ?_ ?_ fun l => ?_
      refine state_succ x g (n := 1) (q := ⟨1024 + b.val, by omega⟩) ?_ ?_ ?_ ?_ fun l => ?_
      refine state_succ x g (n := 0) (q := ⟨1024 + b.val, by omega⟩) ?_ ?_ ?_ ?_ fun l => ?_
      · rfl
      all_goals first | (simp [chunk, last, at64]; done) | (simp [chunk, last, at64]; omega)
    · refine state_succ x g (n := 1) (q := ⟨1024 + (384 + b.val), by omega⟩) ?_ ?_ ?_ ?_ fun l => ?_
      refine state_succ x g (n := 0) (q := ⟨1024 + (384 + b.val), by omega⟩) ?_ ?_ ?_ ?_ fun l => ?_
      · rfl
      all_goals first | (simp [chunk, last, at64]; done) | (simp [chunk, last, at64]; omega)
    · refine state_succ x g (n := 1) (q := ⟨1024 + (256 + b.val), by omega⟩) ?_ ?_ ?_ ?_ fun l => ?_
      refine state_succ x g (n := 0) (q := ⟨1024 + (256 + b.val), by omega⟩) ?_ ?_ ?_ ?_ fun l => ?_
      · rfl
      all_goals first | (simp [chunk, last, at64]; done) | (simp [chunk, last, at64]; omega)
    · refine state_succ x g (n := 1) (q := ⟨1024 + (128 + b.val), by omega⟩) ?_ ?_ ?_ ?_ fun l => ?_
      refine state_succ x g (n := 0) (q := ⟨1024 + (128 + b.val), by omega⟩) ?_ ?_ ?_ ?_ fun l => ?_
      · rfl
      all_goals first | (simp [chunk, last, at64]; done) | (simp [chunk, last, at64]; omega)
    · refine state_succ x g (n := 1) (q := ⟨1024 + b.val, by omega⟩) ?_ ?_ ?_ ?_ fun l => ?_
      refine state_succ x g (n := 0) (q := ⟨1024 + b.val, by omega⟩) ?_ ?_ ?_ ?_ fun l => ?_
      · rfl
      all_goals first | (simp [chunk, last, at64]; done) | (simp [chunk, last, at64]; omega)
    · refine state_succ x g (n := 0) (q := ⟨1024 + (384 + b.val), by omega⟩) ?_ ?_ ?_ ?_ fun l => ?_
      · rfl
      all_goals first | (simp [chunk, last, at64]; done) | (simp [chunk, last, at64]; omega)
    · refine state_succ x g (n := 0) (q := ⟨1024 + (256 + b.val), by omega⟩) ?_ ?_ ?_ ?_ fun l => ?_
      · rfl
      all_goals first | (simp [chunk, last, at64]; done) | (simp [chunk, last, at64]; omega)
    · refine state_succ x g (n := 0) (q := ⟨1024 + (128 + b.val), by omega⟩) ?_ ?_ ?_ ?_ fun l => ?_
      · rfl
      all_goals first | (simp [chunk, last, at64]; done) | (simp [chunk, last, at64]; omega)
    · refine state_succ x g (n := 0) (q := ⟨1024 + b.val, by omega⟩) ?_ ?_ ?_ ?_ fun l => ?_
      · rfl
      all_goals first | (simp [chunk, last, at64]; done) | (simp [chunk, last, at64]; omega)
    · rfl
    · rfl
    · rfl
    · rfl
  · intro j h hj hh
    repeat' refine holds_step fun _ => ?_
    exfalso
    clear h0 h1
    interval_cases j <;> interval_cases h <;> simp_all only [not_true_eq_false, and_self]

end Cert.Kernel13Ideal.States
end
-- ==== Proof.StatesDown.lean ====
/- The values of the states the kernel writes in the other direction. -/
module

public import proofs.«01_k».proof.Defs
public import proofs.«01_k».proof.Proof.States
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel13Ideal.States

open Cert.Kernel13Ideal Cert.Kernel13Ideal.Gen Idealize.ShloMosaic Idealize.ShloMosaic.TcCoe Idealize.SL.Sem
open Idealize.ShloMosaic.Pipeline (Dat)
open Cert.Reals (up up_apply)

variable (m : (ℓ : Loc nD τ sig) → Buf (Elt Ideal) ℓ)

variable (c : Dev nD) {x : S4x256x1536.Idx → ℝ} {g : S2x2x512.Idx → ℝ}
  (h0 : m ((c : Thread nD τ).loc main_arg0) = up x) (h1 : m ((c : Thread nD τ).loc main_arg1) = up g) (t : Fin cfg0.N)

set_option maxHeartbeats 4000000 in
include h0 h1 in
theorem value6 : (dats m 0 c).arrAt 6 cfg0.N = fun j : S16x4x128x128.Idx => stash x g 1 (j 0) (j 1) (j 2) (j 3) := by
  refine (dats m 0 c).arrAt_eq_of_covers 6 _ (by decide +kernel) fun t hf y => ?_
  blk_simp
  rw [after0_6]
  unfold outsAt0
  frame_open
  simp (disch := decide) only [↓ View.readCov_skip, ↓ View.readCov_cons_toLoadRect, ↓ View.readCov_fill]
  frame_out
  idx_vars y
  have e : ((View.whole main_v3_1).slice (win0_6.rect t)).emb (ix4 y0 y1 y2 y3) = ix4 (part t y0) y1 y2 y3 := by
    blk_ext [idx t, part]
  rw [e]
  refine (canon_agree (G := fun j h b a => state x g 1 (ex t) h (chunk 1 j).val b a) (e := .bf16) (M := 4) ?_ ?_ (ix4 y0 y1 y2 y3)).trans
    (stash_part t 1 y0 y1 y2 y3).symm
  · repeat' refine agree_cons _ (fun b a => ?_) ?_
    rotate_right
    · trivial
    all_goals
      pointwise [k0_pay2, k0_pay90, k0_pay94, k0_pay95, k0_pay96, k0_pay97, k0_pay101, k0_pay102, k0_pay103, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161]
      simp only [k1 m c h0 h1, c1 m c h0 h1, e4 m c h0, halves, order]
    · refine state_succ x g (n := 2) (q := ⟨1024 + (384 + b.val), by omega⟩) ?_ ?_ ?_ ?_ fun l => ?_
      refine state_succ x g (n := 1) (q := ⟨1024 + (384 + b.val), by omega⟩) ?_ ?_ ?_ ?_ fun l => ?_
      refine state_succ x g (n := 0) (q := ⟨1024 + (384 + b.val), by omega⟩) ?_ ?_ ?_ ?_ fun l => ?_
      · rfl
      all_goals first | (simp [chunk, last, at64]; done) | (simp [chunk, last, at64]; omega)
    · refine state_succ x g (n := 2) (q := ⟨1024 + (256 + b.val), by omega⟩) ?_ ?_ ?_ ?_ fun l => ?_
      refine state_succ x g (n := 1) (q := ⟨1024 + (256 + b.val), by omega⟩) ?_ ?_ ?_ ?_ fun l => ?_
      refine state_succ x g (n := 0) (q := ⟨1024 + (256 + b.val), by omega⟩) ?_ ?_ ?_ ?_ fun l => ?_
      · rfl
      all_goals first | (simp [chunk, last, at64]; done) | (simp [chunk, last, at64]; omega)
    · refine state_succ x g (n := 2) (q := ⟨1024 + (128 + b.val), by omega⟩) ?_ ?_ ?_ ?_ fun l => ?_
      refine state_succ x g (n := 1) (q := ⟨1024 + (128 + b.val), by omega⟩) ?_ ?_ ?_ ?_ fun l => ?_
      refine state_succ x g (n := 0) (q := ⟨1024 + (128 + b.val), by omega⟩) ?_ ?_ ?_ ?_ fun l => ?_
      · rfl
      all_goals first | (simp [chunk, last, at64]; done) | (simp [chunk, last, at64]; omega)
    · refine state_succ x g (n := 2) (q := ⟨1024 + b.val, by omega⟩) ?_ ?_ ?_ ?_ fun l => ?_
      refine state_succ x g (n := 1) (q := ⟨1024 + b.val, by omega⟩) ?_ ?_ ?_ ?_ fun l => ?_
      refine state_succ x g (n := 0) (q := ⟨1024 + b.val, by omega⟩) ?_ ?_ ?_ ?_ fun l => ?_
      · rfl
      all_goals first | (simp [chunk, last, at64]; done) | (simp [chunk, last, at64]; omega)
    · refine state_succ x g (n := 1) (q := ⟨1024 + (384 + b.val), by omega⟩) ?_ ?_ ?_ ?_ fun l => ?_
      refine state_succ x g (n := 0) (q := ⟨1024 + (384 + b.val), by omega⟩) ?_ ?_ ?_ ?_ fun l => ?_
      · rfl
      all_goals first | (simp [chunk, last, at64]; done) | (simp [chunk, last, at64]; omega)
    · refine state_succ x g (n := 1) (q := ⟨1024 + (256 + b.val), by omega⟩) ?_ ?_ ?_ ?_ fun l => ?_
      refine state_succ x g (n := 0) (q := ⟨1024 + (256 + b.val), by omega⟩) ?_ ?_ ?_ ?_ fun l => ?_
      · rfl
      all_goals first | (simp [chunk, last, at64]; done) | (simp [chunk, last, at64]; omega)
    · refine state_succ x g (n := 1) (q := ⟨1024 + (128 + b.val), by omega⟩) ?_ ?_ ?_ ?_ fun l => ?_
      refine state_succ x g (n := 0) (q := ⟨1024 + (128 + b.val), by omega⟩) ?_ ?_ ?_ ?_ fun l => ?_
      · rfl
      all_goals first | (simp [chunk, last, at64]; done) | (simp [chunk, last, at64]; omega)
    · refine state_succ x g (n := 1) (q := ⟨1024 + b.val, by omega⟩) ?_ ?_ ?_ ?_ fun l => ?_
      refine state_succ x g (n := 0) (q := ⟨1024 + b.val, by omega⟩) ?_ ?_ ?_ ?_ fun l => ?_
      · rfl
      all_goals first | (simp [chunk, last, at64]; done) | (simp [chunk, last, at64]; omega)
    · refine state_succ x g (n := 0) (q := ⟨1024 + (384 + b.val), by omega⟩) ?_ ?_ ?_ ?_ fun l => ?_
      · rfl
      all_goals first | (simp [chunk, last, at64]; done) | (simp [chunk, last, at64]; omega)
    · refine state_succ x g (n := 0) (q := ⟨1024 + (256 + b.val), by omega⟩) ?_ ?_ ?_ ?_ fun l => ?_
      · rfl
      all_goals first | (simp [chunk, last, at64]; done) | (simp [chunk, last, at64]; omega)
    · refine state_succ x g (n := 0) (q := ⟨1024 + (128 + b.val), by omega⟩) ?_ ?_ ?_ ?_ fun l => ?_
      · rfl
      all_goals first | (simp [chunk, last, at64]; done) | (simp [chunk, last, at64]; omega)
    · refine state_succ x g (n := 0) (q := ⟨1024 + b.val, by omega⟩) ?_ ?_ ?_ ?_ fun l => ?_
      · rfl
      all_goals first | (simp [chunk, last, at64]; done) | (simp [chunk, last, at64]; omega)
    · rfl
    · rfl
    · rfl
    · rfl
  · intro j h hj hh
    repeat' refine holds_step fun _ => ?_
    exfalso
    clear h0 h1
    interval_cases j <;> interval_cases h <;> simp_all only [not_true_eq_false, and_self]

end Cert.Kernel13Ideal.States
end
-- ==== Proof.StatesFin.lean ====
/- The last states the kernel writes. -/
module

public import proofs.«01_k».proof.Defs
public import proofs.«01_k».proof.Proof.States
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel13Ideal.States

open Cert.Kernel13Ideal Cert.Kernel13Ideal.Gen Idealize.ShloMosaic Idealize.ShloMosaic.TcCoe Idealize.SL.Sem
open Idealize.ShloMosaic.Pipeline (Dat)
open Cert.Reals (up up_apply)

variable (m : (ℓ : Loc nD τ sig) → Buf (Elt Ideal) ℓ)

variable (c : Dev nD) {x : S4x256x1536.Idx → ℝ} {g : S2x2x512.Idx → ℝ}
  (h0 : m ((c : Thread nD τ).loc main_arg0) = up x) (h1 : m ((c : Thread nD τ).loc main_arg1) = up g) (t : Fin cfg0.N)

/-- A store elsewhere is not read. -/
theorem canon_skip {J H : ℕ} {L : List (View.Piece (Elt Ideal) S2x4x128x128 .f32)}
    {inb : ∀ a : Fin 4, (![J, H, 0, 0] : Fin 4 → ℕ) a + (![1, 1, 128, 128] : Fin 4 → ℕ) a ≤ S2x4x128x128.size a}
    {w : S1x1x128x128.Idx → Elt Ideal .f32} {j : Fin 2} {h : Fin 4} {b a : Fin 128} (hn : ¬ (j.val = J ∧ h.val = H)) :
    View.canon ((⟨Rect.unit (s := S2x4x128x128) ![J, H, 0, 0] ![1, 1, 128, 128] inb, w⟩ : View.Piece (Elt Ideal) _ _) :: L) (ix4 j h b a)
      = View.canon L (ix4 j h b a) := by
  refine View.canon_cons_of_not_mem _ _ fun hm => hn ?_
  have k := (Rect.mem_set_unit (inb := inb)).1 hm
  have k0 : J ≤ j.val ∧ j.val < J + 1 := k 0
  have k1 : H ≤ h.val ∧ h.val < H + 1 := k 1
  omega

/-- The last store at a place is read. -/
theorem canon_here {J H : ℕ} {L : List (View.Piece (Elt Ideal) S2x4x128x128 .f32)}
    {inb : ∀ a : Fin 4, (![J, H, 0, 0] : Fin 4 → ℕ) a + (![1, 1, 128, 128] : Fin 4 → ℕ) a ≤ S2x4x128x128.size a}
    {w : S1x1x128x128.Idx → Elt Ideal .f32} {j : Fin 2} {h : Fin 4} {b a : Fin 128} (hj : j.val = J) (hh : h.val = H) :
    View.canon ((⟨Rect.unit (s := S2x4x128x128) ![J, H, 0, 0] ![1, 1, 128, 128] inb, w⟩ : View.Piece (Elt Ideal) _ _) :: L) (ix4 j h b a)
      = w (ix4 0 0 b a) := by
  subst hj hh
  have e : (Rect.unit (s := S2x4x128x128) ![j.val, h.val, 0, 0] ![1, 1, 128, 128] inb).emb (ix4 0 0 b a) = ix4 j h b a := by
    blk_ext
  exact (congrArg _ e.symm).trans (View.canon_cons_emb _ _ _ _)

theorem pay1_apply (v : FVec Ideal S2x4x128x128 .f32) (a0 : Fin 2) (a1 : Fin 1) (a2 : Fin 4) (a3 a4 : Fin 128) :
    k0_pay1 v (ix5 a0 a1 a2 a3 a4) = v (ix4 a0 a2 a3 a4) := by
  pointwise [k0_pay1]

set_option maxHeartbeats 4000000 in
include h0 h1 in
theorem value9 : (dats m 0 c).arrAt 9 cfg0.N = fun j : S2x4x4x128x128.Idx => state x g (j 0) (j 1) (j 2) 4 (j 3) (j 4) := by
  refine (dats m 0 c).arrAt_eq_of_covers 9 _ (by decide +kernel) fun t hf y => ?_
  blk_simp
  rw [after0_9]
  unfold outsAt0
  frame_open
  simp (disch := decide) only [↓ View.readCov_skip, ↓ View.readCov_cons_toLoadRect, ↓ View.readCov_fill]
  frame_out
  idx_vars y
  have e : ((View.whole main_v3_4).slice (win0_9.rect t)).emb (ix5 y0 y1 y2 y3 y4) = ix5 y0 (ex t) y2 y3 y4 := by
    blk_ext [idx t, ex]
  rw [e]
  refine (pay1_apply _ _ _ _ _ _).trans ?_
  refine (congrFun (View.readCov_eq_canon' _ _ _) _).trans ?_
  refine (congrArg (View.canon _) (show (Rect.unit (s := S2x4x128x128) ![0, 0, 0, 0] ![2, 4, 128, 128] inb_S2x4x128x128_S2x4x128x128_0_0_0_0).emb
    (ix4 y0 y2 y3 y4) = ix4 y0 y2 y3 y4 from by blk_ext)).trans ?_
  rcases (show y0 = 0 ∨ y0 = 1 by omega) with rfl | rfl
  · rcases (show y2 = 0 ∨ y2 = 1 ∨ y2 = 2 ∨ y2 = 3 by omega) with rfl | rfl | rfl | rfl
    all_goals
      repeat refine (canon_skip (by decide)).trans ?_
      refine (canon_here (by rfl) (by rfl)).trans ?_
      pointwise [k0_pay2, k0_pay8, k0_pay13, k0_pay14, k0_pay15, k0_pay16, k0_pay17, k0_pay18, k0_pay19, k0_pay20, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
      simp only [k0 m c h0 h1, c0 m c h0 h1, e2 m c h0, halves, order]
    · change _ = state x g 0 (ex t) 0 4 y3 y4
      refine state_succ x g (n := 3) (q := ⟨1024 + y3.val, by omega⟩) ?_ ?_ ?_ ?_ fun l => ?_
      refine state_succ x g (n := 2) (q := ⟨1024 + y3.val, by omega⟩) ?_ ?_ ?_ ?_ fun l => ?_
      refine state_succ x g (n := 1) (q := ⟨1024 + y3.val, by omega⟩) ?_ ?_ ?_ ?_ fun l => ?_
      refine state_succ x g (n := 0) (q := ⟨1024 + y3.val, by omega⟩) ?_ ?_ ?_ ?_ fun l => ?_
      · rfl
      all_goals first | (simp [chunk, last, at64]; done) | (simp [chunk, last, at64]; omega)
    · change _ = state x g 0 (ex t) 1 4 y3 y4
      refine state_succ x g (n := 3) (q := ⟨1024 + (128 + y3.val), by omega⟩) ?_ ?_ ?_ ?_ fun l => ?_
      refine state_succ x g (n := 2) (q := ⟨1024 + (128 + y3.val), by omega⟩) ?_ ?_ ?_ ?_ fun l => ?_
      refine state_succ x g (n := 1) (q := ⟨1024 + (128 + y3.val), by omega⟩) ?_ ?_ ?_ ?_ fun l => ?_
      refine state_succ x g (n := 0) (q := ⟨1024 + (128 + y3.val), by omega⟩) ?_ ?_ ?_ ?_ fun l => ?_
      · rfl
      all_goals first | (simp [chunk, last, at64]; done) | (simp [chunk, last, at64]; omega)
    · change _ = state x g 0 (ex t) 2 4 y3 y4
      refine state_succ x g (n := 3) (q := ⟨1024 + (256 + y3.val), by omega⟩) ?_ ?_ ?_ ?_ fun l => ?_
      refine state_succ x g (n := 2) (q := ⟨1024 + (256 + y3.val), by omega⟩) ?_ ?_ ?_ ?_ fun l => ?_
      refine state_succ x g (n := 1) (q := ⟨1024 + (256 + y3.val), by omega⟩) ?_ ?_ ?_ ?_ fun l => ?_
      refine state_succ x g (n := 0) (q := ⟨1024 + (256 + y3.val), by omega⟩) ?_ ?_ ?_ ?_ fun l => ?_
      · rfl
      all_goals first | (simp [chunk, last, at64]; done) | (simp [chunk, last, at64]; omega)
    · change _ = state x g 0 (ex t) 3 4 y3 y4
      refine state_succ x g (n := 3) (q := ⟨1024 + (384 + y3.val), by omega⟩) ?_ ?_ ?_ ?_ fun l => ?_
      refine state_succ x g (n := 2) (q := ⟨1024 + (384 + y3.val), by omega⟩) ?_ ?_ ?_ ?_ fun l => ?_
      refine state_succ x g (n := 1) (q := ⟨1024 + (384 + y3.val), by omega⟩) ?_ ?_ ?_ ?_ fun l => ?_
      refine state_succ x g (n := 0) (q := ⟨1024 + (384 + y3.val), by omega⟩) ?_ ?_ ?_ ?_ fun l => ?_
      · rfl
      all_goals first | (simp [chunk, last, at64]; done) | (simp [chunk, last, at64]; omega)
  · rcases (show y2 = 0 ∨ y2 = 1 ∨ y2 = 2 ∨ y2 = 3 by omega) with rfl | rfl | rfl | rfl
    all_goals
      repeat refine (canon_skip (by decide)).trans ?_
      refine (canon_here (by rfl) (by rfl)).trans ?_
      pointwise [k0_pay2, k0_pay90, k0_pay94, k0_pay95, k0_pay96, k0_pay97, k0_pay101, k0_pay102, k0_pay103, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161]
      simp only [k1 m c h0 h1, c1 m c h0 h1, e4 m c h0, halves, order]
    · change _ = state x g 1 (ex t) 0 4 y3 y4
      refine state_succ x g (n := 3) (q := ⟨1024 + y3.val, by omega⟩) ?_ ?_ ?_ ?_ fun l => ?_
      refine state_succ x g (n := 2) (q := ⟨1024 + y3.val, by omega⟩) ?_ ?_ ?_ ?_ fun l => ?_
      refine state_succ x g (n := 1) (q := ⟨1024 + y3.val, by omega⟩) ?_ ?_ ?_ ?_ fun l => ?_
      refine state_succ x g (n := 0) (q := ⟨1024 + y3.val, by omega⟩) ?_ ?_ ?_ ?_ fun l => ?_
      · rfl
      all_goals first | (simp [chunk, last, at64]; done) | (simp [chunk, last, at64]; omega)
    · change _ = state x g 1 (ex t) 1 4 y3 y4
      refine state_succ x g (n := 3) (q := ⟨1024 + (128 + y3.val), by omega⟩) ?_ ?_ ?_ ?_ fun l => ?_
      refine state_succ x g (n := 2) (q := ⟨1024 + (128 + y3.val), by omega⟩) ?_ ?_ ?_ ?_ fun l => ?_
      refine state_succ x g (n := 1) (q := ⟨1024 + (128 + y3.val), by omega⟩) ?_ ?_ ?_ ?_ fun l => ?_
      refine state_succ x g (n := 0) (q := ⟨1024 + (128 + y3.val), by omega⟩) ?_ ?_ ?_ ?_ fun l => ?_
      · rfl
      all_goals first | (simp [chunk, last, at64]; done) | (simp [chunk, last, at64]; omega)
    · change _ = state x g 1 (ex t) 2 4 y3 y4
      refine state_succ x g (n := 3) (q := ⟨1024 + (256 + y3.val), by omega⟩) ?_ ?_ ?_ ?_ fun l => ?_
      refine state_succ x g (n := 2) (q := ⟨1024 + (256 + y3.val), by omega⟩) ?_ ?_ ?_ ?_ fun l => ?_
      refine state_succ x g (n := 1) (q := ⟨1024 + (256 + y3.val), by omega⟩) ?_ ?_ ?_ ?_ fun l => ?_
      refine state_succ x g (n := 0) (q := ⟨1024 + (256 + y3.val), by omega⟩) ?_ ?_ ?_ ?_ fun l => ?_
      · rfl
      all_goals first | (simp [chunk, last, at64]; done) | (simp [chunk, last, at64]; omega)
    · change _ = state x g 1 (ex t) 3 4 y3 y4
      refine state_succ x g (n := 3) (q := ⟨1024 + (384 + y3.val), by omega⟩) ?_ ?_ ?_ ?_ fun l => ?_
      refine state_succ x g (n := 2) (q := ⟨1024 + (384 + y3.val), by omega⟩) ?_ ?_ ?_ ?_ fun l => ?_
      refine state_succ x g (n := 1) (q := ⟨1024 + (384 + y3.val), by omega⟩) ?_ ?_ ?_ ?_ fun l => ?_
      refine state_succ x g (n := 0) (q := ⟨1024 + (384 + y3.val), by omega⟩) ?_ ?_ ?_ ?_ fun l => ?_
      · rfl
      all_goals first | (simp [chunk, last, at64]; done) | (simp [chunk, last, at64]; omega)

end Cert.Kernel13Ideal.States
end
-- ==== Proof.StatesRef.lean ====
/- The reference's states, at real arguments, and the claims: the kernel writes what the reference computes. -/
module

public import proofs.«01_k».proof.Defs
public import proofs.«01_k».proof.Proof.States
public import proofs.«01_k».proof.Proof.StatesGate
public import proofs.«01_k».proof.Proof.Gen.Pre_finite_hf
public import proofs.«01_k».proof.Proof.StatesVal
public import proofs.«01_k».proof.Proof.StatesDown
public import proofs.«01_k».proof.Proof.StatesFin
public import proofs.«01_k».proof.Proof.Gen.Reference13Ideal.Read
public import proofs.«01_k».proof.Proof.Gen.Reference13Ideal.Run
public import Idealize.ShloMosaic.Lib.Pointwise

@[expose] public section

set_option maxRecDepth 16384

noncomputable section

namespace Cert.Reference13Ideal.States

open Cert.Reference13Ideal Cert.Reference13Ideal.Read Idealize.ShloMosaic
open Cert.Reals (up up_apply)
open Cert.Kernel13Ideal.States (low gate gate_pos one_sub at64 lane wide upto cum last chunk key step state sums stash)

variable (x : S4x256x1536.Idx → ℝ) (g : S2x2x512.Idx → ℝ)

/-! ## The states, chunk by chunk -/

theorem v75 (e h : Fin 4) (a b : Fin 128) : val_main_v75 (F := Ideal) (up x) (up g) (ix4 e h a b) = state x g 0 e h 1 b a := by
  pointwise [val_main_v75, val_main_v74, val_main_v73, val_main_v72, val_main_v71, val_main_v70, val_main_v69, val_main_v68, val_main_v67, val_main_cst_10]
  rw [v66, v64]
  exact congrArg (· + _) (mul_comm _ _)

theorem v83 (e h : Fin 4) (a b : Fin 128) : val_main_v83 (F := Ideal) (up x) (up g) (ix4 e h a b) = state x g 0 e h 2 b a := by
  pointwise [val_main_v83, val_main_v82, val_main_v81, val_main_v80, val_main_v79, val_main_v78, val_main_v77, val_main_v76]
  rw [v66, v75, v64]
  exact congrArg (· + _) (mul_comm _ _)

theorem v91 (e h : Fin 4) (a b : Fin 128) : val_main_v91 (F := Ideal) (up x) (up g) (ix4 e h a b) = state x g 0 e h 3 b a := by
  pointwise [val_main_v91, val_main_v90, val_main_v89, val_main_v88, val_main_v87, val_main_v86, val_main_v85, val_main_v84]
  rw [v66, v83, v64]
  exact congrArg (· + _) (mul_comm _ _)

theorem v99 (e h : Fin 4) (a b : Fin 128) : val_main_v99 (F := Ideal) (up x) (up g) (ix4 e h a b) = state x g 0 e h 4 b a := by
  pointwise [val_main_v99, val_main_v98, val_main_v97, val_main_v96, val_main_v95, val_main_v94, val_main_v93, val_main_v92]
  rw [v66, v91, v64]
  exact congrArg (· + _) (mul_comm _ _)

theorem v129 (e h : Fin 4) (a b : Fin 128) : val_main_v129 (F := Ideal) (up x) (up g) (ix4 e h a b) = state x g 1 e h 1 b a := by
  pointwise [val_main_v129, val_main_v128, val_main_v127, val_main_v126, val_main_v125, val_main_v124, val_main_v123, val_main_v122, val_main_v121, val_main_cst_11]
  rw [v120, v118]
  exact congrArg (· + _) (mul_comm _ _)

theorem v137 (e h : Fin 4) (a b : Fin 128) : val_main_v137 (F := Ideal) (up x) (up g) (ix4 e h a b) = state x g 1 e h 2 b a := by
  pointwise [val_main_v137, val_main_v136, val_main_v135, val_main_v134, val_main_v133, val_main_v132, val_main_v131, val_main_v130]
  rw [v120, v129, v118]
  exact congrArg (· + _) (mul_comm _ _)

theorem v145 (e h : Fin 4) (a b : Fin 128) : val_main_v145 (F := Ideal) (up x) (up g) (ix4 e h a b) = state x g 1 e h 3 b a := by
  pointwise [val_main_v145, val_main_v144, val_main_v143, val_main_v142, val_main_v141, val_main_v140, val_main_v139, val_main_v138]
  rw [v120, v137, v118]
  exact congrArg (· + _) (mul_comm _ _)

theorem v153 (e h : Fin 4) (a b : Fin 128) : val_main_v153 (F := Ideal) (up x) (up g) (ix4 e h a b) = state x g 1 e h 4 b a := by
  pointwise [val_main_v153, val_main_v152, val_main_v151, val_main_v150, val_main_v149, val_main_v148, val_main_v147, val_main_v146]
  rw [v120, v145, v118]
  exact congrArg (· + _) (mul_comm _ _)

theorem v104 (e n h : Fin 4) (a b : Fin 128) : val_main_v104 (F := Ideal) (up x) (up g) (ix5 e n h a b) = state x g 0 e h n.val b a := by
  pointwise [val_main_v104, val_main_v100, val_main_v101, val_main_v102, val_main_v103, val_main_v67, val_main_cst_10]
  rw [v75, v83, v91]
  match n with
  | 0 => rfl
  | 1 => rfl
  | 2 => rfl
  | 3 => rfl

theorem v158 (e n h : Fin 4) (a b : Fin 128) : val_main_v158 (F := Ideal) (up x) (up g) (ix5 e n h a b) = state x g 1 e h n.val b a := by
  pointwise [val_main_v158, val_main_v154, val_main_v155, val_main_v156, val_main_v157, val_main_v121, val_main_cst_11]
  rw [v129, v137, v145]
  match n with
  | 0 => rfl
  | 1 => rfl
  | 2 => rfl
  | 3 => rfl

/-! ## The results -/

theorem parts {α : Type} (y : S4x4x4x128x128.Idx → α) (n : Fin 16) (h : Fin 4) (a b : Fin 128) :
    shapeCast S16x4x128x128 y Gen.shapeCasts_S4x4x4x128x128_S16x4x128x128 (ix4 n h a b) = y (ix5 ⟨n.val / 4, by omega⟩ ⟨n.val % 4, by omega⟩ h a b) :=
  shapeCast_apply y _ _ _ (by
    rewrite [Shape.rowMajor_val_four, Shape.rowMajor_val_five]
    show (((n.val / 4 * 4 + n.val % 4) * 4 + h.val) * 128 + a.val) * 128 + b.val = ((n.val * 4 + h.val) * 128 + a.val) * 128 + b.val
    omega)

theorem turned (y : S4x4x4x128x128.Idx → EReal) (e n h : Fin 4) (a b : Fin 128) :
    Host.reverse (s := S4x4x4x128x128) [1] y (ix5 e n h a b) = y (ix5 e n.rev h a b) := by
  refine congrArg y (funext fun k => Fin.ext ?_)
  match k with
  | ⟨0, _⟩ => rfl
  | ⟨1, _⟩ => exact congrArg Fin.val (if_pos (List.mem_singleton.2 rfl))
  | ⟨2, _⟩ => rfl
  | ⟨3, _⟩ => rfl
  | ⟨4, _⟩ => rfl

theorem v162 : val_main_v162 (F := Ideal) (up x) (up g) = fun j : S16x4x128x128.Idx => stash x g 0 (j 0) (j 1) (j 2) (j 3) := by
  funext j; idx_vars j
  pointwise [val_main_v162, val_main_v161]
  unfold val_main_v160
  rw [parts, v104]
  rfl

theorem v166 : val_main_v166 (F := Ideal) (up x) (up g) = fun j : S16x4x128x128.Idx => stash x g 1 (j 0) (j 1) (j 2) (j 3) := by
  funext j; idx_vars j
  pointwise [val_main_v166, val_main_v165]
  unfold val_main_v164 val_main_v163
  rw [parts, turned, v158]
  rfl

theorem v167 : val_main_v167 (F := Ideal) (up x) (up g) = fun j : S1024x512.Idx => sums x g 0 (j 0) (j 1) := by
  funext j; idx_vars j
  unfold val_main_v167 val_main_v105
  rw [listed, rowed, v58, at64_div, lane_div]
  rfl

theorem v169 : val_main_v169 (F := Ideal) (up x) (up g) = fun j : S1024x512.Idx => sums x g 1 (j 0) (j 1) := by
  funext j; idx_vars j
  unfold val_main_v169 val_main_v168 val_main_v159
  rw [listed, reversed, rowed, v112, ← at64_rev, at64_div, lane_div, Fin.rev_rev]
  rfl

theorem v173 : val_main_v173 (F := Ideal) (up x) (up g) = fun j : S2x4x4x128x128.Idx => state x g (j 0) (j 1) (j 2) 4 (j 3) (j 4) := by
  funext j; idx_vars j
  pointwise [val_main_v173, val_main_v172, val_main_v171, val_main_v170]
  rw [v99, v153]
  match j0 with
  | 0 => rfl
  | 1 => rfl

end Cert.Reference13Ideal.States

namespace Cert.Kernel13Ideal.States

open Cert.Kernel13Ideal Cert.Kernel13Ideal.Gen Idealize.ShloMosaic Idealize.ShloMosaic.TcCoe Idealize.SL.Sem
open Cert.Reals (up)

/-! ## The claims -/

theorem frame_r : Cert.quiescent_Reference13Ideal := fun m ρ _ =>
  (θ_run Cert.Reference13Ideal.defs _ _).mono (fun r h => ⟨fun c => (h c).2.2.2.2.2,
      Idealize.ShloMosaic.sem_eq_zero_of_no_sems (by decide) r.2⟩)
    (Cert.Reference13Ideal.Value.run (F := Ideal) m ρ)

theorem algebraic : Cert.algebraic_Kernel13Ideal_Reference13Ideal_pre_finite_hf := by
  intro m ρ m' ρ' hpre hagree
  refine ⟨_, _, _, _, _, Cert.Kernel13Ideal.Value.run_blocks (F := Ideal) m ρ, ?_⟩
  refine (θ_run Cert.Reference13Ideal.defs _ _).mono (fun _ h c => ?_) (Cert.Reference13Ideal.Value.run (F := Ideal) m' ρ')
  obtain ⟨p0, p1⟩ := hpre c
  obtain ⟨x, h0⟩ : ∃ a : S4x256x1536.Idx → ℝ, m ((c : Thread nD τ).loc main_arg0) = up a := Reals.lift_finite p0
  obtain ⟨g, h1⟩ : ∃ a : S2x2x512.Idx → ℝ, m ((c : Thread nD τ).loc main_arg1) = up a := Reals.lift_finite p1
  obtain ⟨q0, q1⟩ := hagree c
  have r0 : StableHlo.launchContents m' c (Proc.tc.devRef Cert.Reference13Ideal.main_arg0) = up x := q0.trans h0
  have r1 : StableHlo.launchContents m' c (Proc.tc.devRef Cert.Reference13Ideal.main_arg1) = up g := q1.trans h1
  refine ⟨(h c).1.trans ?_, (h c).2.1.trans ?_, (h c).2.2.1.trans ?_, (h c).2.2.2.1.trans ?_, (h c).2.2.2.2.1.trans ?_, (h c).2.2.2.2.2⟩ <;> clear h
  · refine (Cert.Reference13Ideal.Read.val_main_v162_eq _).trans (Eq.trans ?_ (value5 m c h0 h1).symm)
    rw [r0, r1]
    exact Cert.Reference13Ideal.States.v162 x g
  · refine (Cert.Reference13Ideal.Read.val_main_v166_eq _).trans (Eq.trans ?_ (value6 m c h0 h1).symm)
    rw [r0, r1]
    exact Cert.Reference13Ideal.States.v166 x g
  · refine (Cert.Reference13Ideal.Read.val_main_v167_eq _).trans (Eq.trans ?_ (value7 m c h0 h1).symm)
    rw [r0, r1]
    exact Cert.Reference13Ideal.States.v167 x g
  · refine (Cert.Reference13Ideal.Read.val_main_v169_eq _).trans (Eq.trans ?_ (value8 m c h0 h1).symm)
    rw [r0, r1]
    exact Cert.Reference13Ideal.States.v169 x g
  · refine (Cert.Reference13Ideal.Read.val_main_v173_eq _).trans (Eq.trans ?_ (value9 m c h0 h1).symm)
    rw [r0, r1]
    exact Cert.Reference13Ideal.States.v173 x g

end Cert.Kernel13Ideal.States
end
-- ==== Proof.Frames.lean ====
/- The frame of the reference of the context's recurrence, whose run is read off the generated proof data. -/
module

public import proofs.«01_k».proof.Defs
public import proofs.«01_k».proof.Proof.Gen.Reference4Ideal.Run

@[expose] public section

namespace Cert.Frames

open Idealize.ShloMosaic Idealize.SL.Sem

theorem frame_r4 : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

end Cert.Frames
end
-- ==== Proof.Weights.lean ====
/- The gradients of the feed-forward block's first weight and of the modulation's weight: each is one product, and the
   kernel's sums are the reference's, at every extended real. -/
module

public import proofs.«01_k».proof.Defs
public import proofs.«01_k».proof.Proof.Anyreal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise
public import Idealize.ShloMosaic.Lib.Quiescent
public import Idealize.ShloMosaic.Lib.Pipeline.ValueKit

@[expose] public section

set_option maxRecDepth 16384

noncomputable section

namespace Cert.Kernel15Ideal.Weights

open Cert.Kernel15Ideal Cert.Kernel15Ideal.Gen Idealize.ShloMosaic Idealize.ShloMosaic.TcCoe Idealize.SL.Sem
open Idealize.ShloMosaic.Pipeline (Dat)

/-- The gradient, already transposed: row `r` belongs to the hidden unit `r`. -/
def out (a0 : S8192x5632.Idx → EReal) (a1 : S8192x1024.Idx → EReal) (r : Fin 5632) (k : Fin 1024) : EReal :=
  ∑ j : Fin 8192, a0 (ix2 j r) * a1 (ix2 j k)

variable (m : (ℓ : Loc nD τ sig) → Buf (Elt Ideal) ℓ)

theorem idx : ∀ t : Fin cfg0.N, win0_0.index t 0 = 0 ∧ win0_0.index t 1 = t.val ∧ win0_1.index t 0 = 0 ∧ win0_1.index t 1 = 0
    ∧ win0_2.index t 0 = t.val ∧ win0_2.index t 1 = 0 :=
  (by decide +kernel : ∀ t : Fin grid0.N, _)

section Blocks

variable (c : Dev nD) {a0 : S8192x5632.Idx → EReal} {a1 : S8192x1024.Idx → EReal}
  (h0 : m ((c : Thread nD τ).loc main_arg0) = a0) (h1 : m ((c : Thread nD τ).loc main_arg1) = a1) (t : Fin cfg0.N)

/-- The hidden unit that column `r` of grid step `t`'s block belongs to. -/
def unit (r : Fin 512) : Fin 5632 := ⟨512 * t.val + r.val, by have := t.isLt; have e : cfg0.N = 11 := rfl; omega⟩

include h0 in
theorem e0 (i : Fin 8192) (j : Fin 512) : iblk m c 0 t (ix2 i j) = a0 (ix2 i (unit t j)) := by
  rw [← h0]
  blk_ext! [iblk, V, idx t, unit]

include h1 in
theorem e1 (i : Fin 8192) (j : Fin 1024) : iblk m c 1 t (ix2 i j) = a1 (ix2 i j) := by
  rw [← h1]
  blk_ext! [iblk, V, idx t]

include h0 h1 in
theorem value2 : (dats m 0 c).arrAt 2 cfg0.N = fun j : S5632x1024.Idx => out a0 a1 (j 0) (j 1) := by
  refine (dats m 0 c).arrAt_eq_of_covers 2 _ (by decide +kernel) fun t hf y => ?_
  blk_simp
  rw [after0_2]
  frame_out
  idx_vars y
  have e : ((View.whole main_v0).slice (win0_2.rect t)).emb (ix2 y0 y1) = ix2 (unit t y0) y1 := by
    blk_ext [idx t, unit]
  rw [e]
  pointwise [k0_pay1]
  simp only [e0 m c h0, e1 m c h1]
  rfl

end Blocks

end Cert.Kernel15Ideal.Weights

namespace Cert.Reference15Ideal.Weights

open Cert.Reference15Ideal Cert.Reference15Ideal.Gen Cert.Reference15Ideal.Read Idealize.ShloMosaic

variable (a0 : S8192x5632.Idx → EReal) (a1 : S8192x1024.Idx → EReal)

theorem v7 (i : Fin 5632) (j : Fin 1024) : val_main_v7 (F := Ideal) a0 a1 (ix2 i j) = Cert.Kernel15Ideal.Weights.out a0 a1 i j := by
  unfold val_main_v7 val_main_v6 val_main_v5 val_main_v4
  pointwise [val_main_v3, val_main_v1]
  rfl

end Cert.Reference15Ideal.Weights

namespace Cert.Kernel15Ideal.Weights

open Cert.Kernel15Ideal Cert.Kernel15Ideal.Gen Idealize.ShloMosaic Idealize.ShloMosaic.TcCoe Idealize.SL.Sem

/-! ## The claims -/

theorem frame_r : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

theorem algebraic : Cert.algebraic_Kernel15Ideal_Reference15Ideal := by
  intro m ρ m' ρ' _ hagree
  refine ⟨_, Cert.Kernel15Ideal.Value.run_blocks (F := Ideal) m ρ, ?_⟩
  refine (θ_run Cert.Reference15Ideal.defs _ _).mono (fun _ h c => ?_) (Cert.Reference15Ideal.Value.run (F := Ideal) m' ρ')
  obtain ⟨q0, q1⟩ := hagree c
  refine ⟨(h c).1.trans ?_, (h c).2⟩
  clear h
  refine (Cert.Reference15Ideal.Read.val_main_v7_eq _ _).trans (Eq.trans ?_ (value2 m c rfl rfl).symm)
  rw [q0, q1]
  funext j; idx_vars j
  exact Cert.Reference15Ideal.Weights.v7 _ _ j0 j1

end Cert.Kernel15Ideal.Weights

namespace Cert.Kernel16Ideal.Weights

open Cert.Kernel16Ideal Cert.Kernel16Ideal.Gen Idealize.ShloMosaic Idealize.ShloMosaic.TcCoe Idealize.SL.Sem
open Idealize.ShloMosaic.Pipeline (Dat)

/-- The gradient: the gated vectors' rows against the modulations' cotangents. -/
def out (a0 : S40x1024.Idx → EReal) (a1 : S40x768.Idx → EReal) (r : Fin 1024) (k : Fin 768) : EReal :=
  ∑ j : Fin 40, a0 (ix2 j r) * a1 (ix2 j k)

variable (m : (ℓ : Loc nD τ sig) → Buf (Elt Ideal) ℓ)

theorem idx : ∀ t : Fin cfg0.N, win0_0.index t 0 = 0 ∧ win0_0.index t 1 = 0 ∧ win0_1.index t 0 = 0 ∧ win0_1.index t 1 = 0
    ∧ win0_2.index t 0 = 0 ∧ win0_2.index t 1 = 0 :=
  (by decide +kernel : ∀ t : Fin grid0.N, _)

section Blocks

variable (c : Dev nD) {a0 : S40x1024.Idx → EReal} {a1 : S40x768.Idx → EReal}
  (h0 : m ((c : Thread nD τ).loc main_arg0) = a0) (h1 : m ((c : Thread nD τ).loc main_arg1) = a1) (t : Fin cfg0.N)

include h0 in
theorem e0 (i : Fin 40) (j : Fin 1024) : iblk m c 0 t (ix2 i j) = a0 (ix2 i j) := by
  rw [← h0]
  blk_ext! [iblk, V, idx t]

include h1 in
theorem e1 (i : Fin 40) (j : Fin 768) : iblk m c 1 t (ix2 i j) = a1 (ix2 i j) := by
  rw [← h1]
  blk_ext! [iblk, V, idx t]

include h0 h1 in
theorem value2 : (dats m 0 c).arrAt 2 cfg0.N = fun j : S1024x768.Idx => out a0 a1 (j 0) (j 1) := by
  refine (dats m 0 c).arrAt_eq_of_covers 2 _ (by decide +kernel) fun t hf y => ?_
  blk_simp
  rw [after0_2]
  frame_out
  idx_vars y
  have e : ((View.whole main_v0).slice (win0_2.rect t)).emb (ix2 y0 y1) = ix2 y0 y1 := by
    blk_ext [idx t]
  rw [e]
  pointwise [k0_pay1]
  simp only [e0 m c h0, e1 m c h1]
  rfl

end Blocks

end Cert.Kernel16Ideal.Weights

namespace Cert.Reference16Ideal.Weights

open Cert.Reference16Ideal Cert.Reference16Ideal.Gen Cert.Reference16Ideal.Read Idealize.ShloMosaic

variable (a0 : S40x1024.Idx → EReal) (a1 : S40x768.Idx → EReal)

theorem v3 (i : Fin 1024) (j : Fin 768) : val_main_v3 (F := Ideal) a0 a1 (ix2 i j) = Cert.Kernel16Ideal.Weights.out a0 a1 i j := by
  unfold val_main_v3 val_main_v2
  pointwise []
  exact Finset.sum_congr rfl fun _ _ => mul_comm _ _

end Cert.Reference16Ideal.Weights

namespace Cert.Kernel16Ideal.Weights

open Cert.Kernel16Ideal Cert.Kernel16Ideal.Gen Idealize.ShloMosaic Idealize.ShloMosaic.TcCoe Idealize.SL.Sem

/-! ## The claims -/

theorem frame_r : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

theorem algebraic : Cert.algebraic_Kernel16Ideal_Reference16Ideal := by
  intro m ρ m' ρ' _ hagree
  refine ⟨_, Cert.Kernel16Ideal.Value.run_blocks (F := Ideal) m ρ, ?_⟩
  refine (θ_run Cert.Reference16Ideal.defs _ _).mono (fun _ h c => ?_) (Cert.Reference16Ideal.Value.run (F := Ideal) m' ρ')
  obtain ⟨q0, q1⟩ := hagree c
  refine ⟨(h c).1.trans ?_, (h c).2⟩
  clear h
  refine (Cert.Reference16Ideal.Read.val_main_v3_eq _ _).trans (Eq.trans ?_ (value2 m c rfl rfl).symm)
  rw [q0, q1]
  funext j; idx_vars j
  exact Cert.Reference16Ideal.Weights.v3 _ _ j0 j1

end Cert.Kernel16Ideal.Weights
end
-- ==== Proof.Optimiser.lean ====
/- The optimiser's step, and the sum of the devices' parts of a gradient before it: what the kernels write is what the
   reference computes, at every extended real. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise
public import Idealize.ShloMosaic.Lib.Quiescent
public import Idealize.ShloMosaic.Lib.Pipeline.ValueKit

@[expose] public section

set_option maxRecDepth 16384

noncomputable section

namespace Cert.Opt

open Idealize.ShloMosaic

/-- The new first moment of a weight whose gradient is `g`. -/
def mom (g m : Ideal .f32) : Ideal .f32 :=
  FloatOps.addf (FloatOps.mulf (Scalar.ofBits .f32 0x3F666666#32) m) (FloatOps.mulf (Scalar.ofBits .f32 0x3DCCCCCD#32) g)

/-- The new second moment. -/
def sec (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The change of the weight `w`. -/
def step (w g m v : Ideal .f32) : Ideal .f32 :=
  FloatOps.mulf (Scalar.ofBits .f32 0xBA83126F#32)
    (FloatOps.addf
      (FloatOps.divf (FloatOps.divf (mom g m) (Scalar.ofBits .f32 0x3F26BD02#32))
        (FloatOps.addf (FloatOps.sqrt (FloatOps.divf (sec g v) (Scalar.ofBits .f32 0x3C231ACC#32)))
          (Scalar.ofBits .f32 0x322BCC77#32)))
      (FloatOps.mulf (Scalar.ofBits .f32 0x3C23D70A#32) w))

end Cert.Opt

namespace Cert.Kernel19Ideal.Opt

open Cert.Kernel19Ideal Cert.Kernel19Ideal.Gen Idealize.ShloMosaic Idealize.ShloMosaic.TcCoe Idealize.SL.Sem

/-! ## The step alone: the claims -/

theorem frame_r : Cert.quiescent_Reference19Ideal := fun m ρ _ =>
  (θ_run Cert.Reference19Ideal.defs _ _).mono (fun r h => ⟨fun c => (h c).2.2.2,
      Idealize.ShloMosaic.sem_eq_zero_of_no_sems (by decide) r.2⟩)
    (Cert.Reference19Ideal.Value.run (F := Ideal) m ρ)

theorem algebraic : Cert.algebraic_Kernel19Ideal_Reference19Ideal := by
  intro m ρ m' ρ' _ hagree
  refine ⟨_, _, _, Cert.Kernel19Ideal.Value.run (F := Ideal) m ρ, ?_⟩
  refine (θ_run Cert.Reference19Ideal.defs _ _).mono (fun _ h c => ?_) (Cert.Reference19Ideal.Value.run (F := Ideal) m' ρ')
  obtain ⟨q0, q1, q2, q3⟩ := hagree c
  refine ⟨(h c).1.trans ?_, (h c).2.1.trans ?_, (h c).2.2.1.trans ?_, (h c).2.2.2⟩ <;> clear h
  · rw [q0, q1, q2, q3]
    rfl
  · rw [q1, q2]
    rfl
  · rw [q1, q3]
    rfl

end Cert.Kernel19Ideal.Opt

namespace Cert.Kernel18Ideal.Opt

open Cert.Kernel18Ideal Cert.Kernel18Ideal.Gen Idealize.ShloMosaic Idealize.ShloMosaic.TcCoe Idealize.SL.Sem
open Idealize.ShloMosaic.Pipeline (Dat)

/-- The gradient: the sum of the devices' parts. -/
def grad (a0 : S8x704x1024.Idx → EReal) (r : Fin 704) (c : Fin 1024) : EReal := ∑ k : Fin 8, a0 (ix3 k r c)

variable (m : (ℓ : Loc nD τ sig) → Buf (Elt Ideal) ℓ)

theorem idx : ∀ t : Fin cfg0.N, win0_0.index t 0 = 0 ∧ win0_0.index t 1 = t.val ∧ win0_0.index t 2 = 0 ∧ win0_1.index t 0 = t.val ∧ win0_1.index t 1 = 0 ∧ win0_2.index t 0 = t.val ∧ win0_2.index t 1 = 0
    ∧ win0_3.index t 0 = t.val ∧ win0_3.index t 1 = 0 ∧ win0_4.index t 0 = t.val ∧ win0_4.index t 1 = 0 ∧ win0_5.index t 0 = t.val ∧ win0_5.index t 1 = 0
    ∧ win0_6.index t 0 = t.val ∧ win0_6.index t 1 = 0 ∧ win0_7.index t 0 = t.val ∧ win0_7.index t 1 = 0 :=
  (by decide +kernel : ∀ t : Fin grid0.N, _)

/-- The row of the array that row `r` of grid step `t`'s block is. -/
def row (t : Fin cfg0.N) (r : Fin 176) : Fin 704 := ⟨176 * t.val + r.val, by have := t.isLt; have e : cfg0.N = 4 := rfl; omega⟩

section Blocks

variable (c : Dev nD) {a0 : S8x704x1024.Idx → EReal} {a1 a2 a3 : S704x1024.Idx → EReal}
  (h0 : m ((c : Thread nD τ).loc main_arg0) = a0) (h1 : m ((c : Thread nD τ).loc main_arg1) = a1)
  (h2 : m ((c : Thread nD τ).loc main_arg2) = a2) (h3 : m ((c : Thread nD τ).loc main_arg3) = a3) (t : Fin cfg0.N)

include h0 in
theorem e0 (k : Fin 8) (i : Fin 176) (j : Fin 1024) : iblk m c 0 t (ix3 k i j) = a0 (ix3 k (row t i) j) := by
  rw [← h0]
  blk_ext! [iblk, V, idx t, row]

include h1 in
theorem e1 (i : Fin 176) (j : Fin 1024) : iblk m c 1 t (ix2 i j) = a1 (ix2 (row t i) j) := by
  rw [← h1]
  blk_ext! [iblk, V, idx t, row]

include h2 in
theorem e2 (i : Fin 176) (j : Fin 1024) : iblk m c 2 t (ix2 i j) = a2 (ix2 (row t i) j) := by
  rw [← h2]
  blk_ext! [iblk, V, idx t, row]

include h3 in
theorem e3 (i : Fin 176) (j : Fin 1024) : iblk m c 3 t (ix2 i j) = a3 (ix2 (row t i) j) := by
  rw [← h3]
  blk_ext! [iblk, V, idx t, row]

include h0 in
theorem pay (i : Fin 176) (j : Fin 1024) :
    k0_pay5 (F := Ideal) (iblk m c 0 t) (iblk m c 1 t) (iblk m c 2 t) (iblk m c 3 t) (ix2 i j) = grad a0 (row t i) j := by
  unfold k0_pay5
  pointwise [k0_pay4]
  simp only [e0 m c h0, grad, Fin.sum_univ_eight]

include h0 in
theorem value4 : (dats m 0 c).arrAt 4 cfg0.N = fun j : S704x1024.Idx => grad a0 (j 0) (j 1) := by
  refine (dats m 0 c).arrAt_eq_of_covers 4 _ (by decide +kernel) fun t hf y => ?_
  blk_simp
  rw [after0_4]
  frame_out
  idx_vars y
  have e : ((View.whole main_v0_0).slice (win0_4.rect t)).emb (ix2 y0 y1) = ix2 (row t y0) y1 := by
    blk_ext [idx t, row]
  rw [e]
  show k0_pay5 (F := Ideal) (iblk m c 0 t) (iblk m c 1 t) (iblk m c 2 t) (iblk m c 3 t) (ix2 y0 y1) = _
  rw [pay m c h0]
  rfl

include h0 h1 h2 h3 in
theorem value5 : (dats m 0 c).arrAt 5 cfg0.N = fun j : S704x1024.Idx => Cert.Opt.step (a1 j) (grad a0 (j 0) (j 1)) (a2 j) (a3 j) := by
  refine (dats m 0 c).arrAt_eq_of_covers 5 _ (by decide +kernel) fun t hf y => ?_
  blk_simp
  rw [after0_5]
  frame_out
  idx_vars y
  have e : ((View.whole main_v0_1).slice (win0_5.rect t)).emb (ix2 y0 y1) = ix2 (row t y0) y1 := by
    blk_ext [idx t, row]
  rw [e]
  show Cert.Opt.step (iblk m c 1 t (ix2 y0 y1)) (k0_pay5 (F := Ideal) (iblk m c 0 t) (iblk m c 1 t) (iblk m c 2 t) (iblk m c 3 t) (ix2 y0 y1)) (iblk m c 2 t (ix2 y0 y1)) (iblk m c 3 t (ix2 y0 y1)) = _
  rw [pay m c h0, e1 m c h1, e2 m c h2, e3 m c h3]
  rfl

include h0 h2 in
theorem value6 : (dats m 0 c).arrAt 6 cfg0.N = fun j : S704x1024.Idx => Cert.Opt.mom (grad a0 (j 0) (j 1)) (a2 j) := by
  refine (dats m 0 c).arrAt_eq_of_covers 6 _ (by decide +kernel) fun t hf y => ?_
  blk_simp
  rw [after0_6]
  frame_out
  idx_vars y
  have e : ((View.whole main_v0_2).slice (win0_6.rect t)).emb (ix2 y0 y1) = ix2 (row t y0) y1 := by
    blk_ext [idx t, row]
  rw [e]
  show Cert.Opt.mom (k0_pay5 (F := Ideal) (iblk m c 0 t) (iblk m c 1 t) (iblk m c 2 t) (iblk m c 3 t) (ix2 y0 y1)) (iblk m c 2 t (ix2 y0 y1)) = _
  rw [pay m c h0, e2 m c h2]
  rfl

include h0 h3 in
theorem value7 : (dats m 0 c).arrAt 7 cfg0.N = fun j : S704x1024.Idx => Cert.Opt.sec (grad a0 (j 0) (j 1)) (a3 j) := by
  refine (dats m 0 c).arrAt_eq_of_covers 7 _ (by decide +kernel) fun t hf y => ?_
  blk_simp
  rw [after0_7]
  frame_out
  idx_vars y
  have e : ((View.whole main_v0_3).slice (win0_7.rect t)).emb (ix2 y0 y1) = ix2 (row t y0) y1 := by
    blk_ext [idx t, row]
  rw [e]
  show Cert.Opt.sec (k0_pay5 (F := Ideal) (iblk m c 0 t) (iblk m c 1 t) (iblk m c 2 t) (iblk m c 3 t) (ix2 y0 y1)) (iblk m c 3 t (ix2 y0 y1)) = _
  rw [pay m c h0, e3 m c h3]
  rfl

end Blocks

end Cert.Kernel18Ideal.Opt

namespace Cert.Reference18Ideal.Opt

open Cert.Reference18Ideal Cert.Reference18Ideal.Gen Cert.Reference18Ideal.Read Idealize.ShloMosaic

variable (a0 : S8x704x1024.Idx → EReal) (a1 a2 a3 : S704x1024.Idx → EReal)

theorem v1 (i : Fin 704) (j : Fin 1024) : val_main_v1 (F := Ideal) a0 (ix2 i j) = Cert.Kernel18Ideal.Opt.grad a0 i j := by
  unfold val_main_v1
  pointwise [val_main_v0, val_main_cst]
  rfl

theorem v25 (i : Fin 704) (j : Fin 1024) : val_main_v25 (F := Ideal) a0 a1 a2 a3 (ix2 i j)
    = Cert.Opt.step (a1 (ix2 i j)) (Cert.Kernel18Ideal.Opt.grad a0 i j) (a2 (ix2 i j)) (a3 (ix2 i j)) := by
  rw [← v1]
  rfl

theorem v6 (i : Fin 704) (j : Fin 1024) : val_main_v6 (F := Ideal) a0 a2 (ix2 i j)
    = Cert.Opt.mom (Cert.Kernel18Ideal.Opt.grad a0 i j) (a2 (ix2 i j)) := by
  rw [← v1]
  rfl

theorem v12 (i : Fin 704) (j : Fin 1024) : val_main_v12 (F := Ideal) a0 a3 (ix2 i j)
    = Cert.Opt.sec (Cert.Kernel18Ideal.Opt.grad a0 i j) (a3 (ix2 i j)) := by
  rw [← v1]
  rfl

end Cert.Reference18Ideal.Opt

namespace Cert.Kernel18Ideal.Opt

open Cert.Kernel18Ideal Cert.Kernel18Ideal.Gen Idealize.ShloMosaic Idealize.ShloMosaic.TcCoe Idealize.SL.Sem

/-! ## The claims -/

theorem frame_r : Cert.quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run (F := Ideal) m ρ)

theorem algebraic : Cert.algebraic_Kernel18Ideal_Reference18Ideal := by
  intro m ρ m' ρ' _ hagree
  refine ⟨_, _, _, _, Cert.Kernel18Ideal.Value.run_blocks (F := Ideal) m ρ, ?_⟩
  refine (θ_run Cert.Reference18Ideal.defs _ _).mono (fun _ h c => ?_) (Cert.Reference18Ideal.Value.run (F := Ideal) m' ρ')
  obtain ⟨q0, q1, q2, q3⟩ := hagree c
  refine ⟨(h c).1.trans ?_, (h c).2.1.trans ?_, (h c).2.2.1.trans ?_, (h c).2.2.2.1.trans ?_, (h c).2.2.2.2⟩ <;> clear h
  · refine (Cert.Reference18Ideal.Read.val_main_v1_eq _).trans (Eq.trans ?_ (value4 m c rfl).symm)
    rw [q0]
    funext j; idx_vars j
    exact Cert.Reference18Ideal.Opt.v1 _ j0 j1
  · refine (Cert.Reference18Ideal.Read.val_main_v25_eq _ _ _ _).trans (Eq.trans ?_ (value5 m c rfl rfl rfl rfl).symm)
    rw [q0, q1, q2, q3]
    funext j; idx_vars j
    exact Cert.Reference18Ideal.Opt.v25 _ _ _ _ j0 j1
  · refine (Cert.Reference18Ideal.Read.val_main_v6_eq _ _).trans (Eq.trans ?_ (value6 m c rfl rfl).symm)
    rw [q0, q2]
    funext j; idx_vars j
    exact Cert.Reference18Ideal.Opt.v6 _ _ j0 j1
  · refine (Cert.Reference18Ideal.Read.val_main_v12_eq _ _).trans (Eq.trans ?_ (value7 m c rfl rfl).symm)
    rw [q0, q3]
    funext j; idx_vars j
    exact Cert.Reference18Ideal.Opt.v12 _ _ j0 j1

end Cert.Kernel18Ideal.Opt

namespace Cert.Kernel20Ideal.Opt

open Cert.Kernel20Ideal Cert.Kernel20Ideal.Gen Idealize.ShloMosaic Idealize.ShloMosaic.TcCoe Idealize.SL.Sem
open Idealize.ShloMosaic.Pipeline (Dat)

/-- The gradient: the sum of the devices' parts. -/
def grad (a0 : S8x128x512.Idx → EReal) (r : Fin 512) (c : Fin 128) : EReal := ∑ k : Fin 8, a0 (ix3 k c r)

variable (m : (ℓ : Loc nD τ sig) → Buf (Elt Ideal) ℓ)

theorem idx : ∀ t : Fin cfg0.N, win0_0.index t 0 = 0 ∧ win0_0.index t 1 = 0 ∧ win0_0.index t 2 = 0 ∧ win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0 :=
  (by decide +kernel : ∀ t : Fin grid0.N, _)

/-- The row of the array that row `r` of grid step `t`'s block is. -/
def row (t : Fin cfg0.N) (r : Fin 512) : Fin 512 := ⟨512 * t.val + r.val, by have := t.isLt; have e : cfg0.N = 1 := rfl; omega⟩

section Blocks

variable (c : Dev nD) {a0 : S8x128x512.Idx → EReal} {a1 a2 a3 : S512x128.Idx → EReal}
  (h0 : m ((c : Thread nD τ).loc main_arg0) = a0) (h1 : m ((c : Thread nD τ).loc main_arg1) = a1)
  (h2 : m ((c : Thread nD τ).loc main_arg2) = a2) (h3 : m ((c : Thread nD τ).loc main_arg3) = a3) (t : Fin cfg0.N)

include h0 in
theorem e0 (k : Fin 8) (i : Fin 128) (j : Fin 512) : iblk m c 0 t (ix3 k i j) = a0 (ix3 k i j) := by
  rw [← h0]
  blk_ext! [iblk, V, idx t, row]

include h1 in
theorem e1 (i : Fin 512) (j : Fin 128) : iblk m c 1 t (ix2 i j) = a1 (ix2 (row t i) j) := by
  rw [← h1]
  blk_ext! [iblk, V, idx t, row]

include h2 in
theorem e2 (i : Fin 512) (j : Fin 128) : iblk m c 2 t (ix2 i j) = a2 (ix2 (row t i) j) := by
  rw [← h2]
  blk_ext! [iblk, V, idx t, row]

include h3 in
theorem e3 (i : Fin 512) (j : Fin 128) : iblk m c 3 t (ix2 i j) = a3 (ix2 (row t i) j) := by
  rw [← h3]
  blk_ext! [iblk, V, idx t, row]

include h0 in
theorem pay (i : Fin 512) (j : Fin 128) :
    k0_pay5 (F := Ideal) (iblk m c 0 t) (iblk m c 1 t) (iblk m c 2 t) (iblk m c 3 t) (ix2 i j) = grad a0 (row t i) j := by
  unfold k0_pay5
  pointwise [k0_pay4]
  have e : row t i = i := Fin.ext (by have := t.isLt; have e : cfg0.N = 1 := rfl; simp only [row]; omega)
  simp only [e0 m c h0, grad, Fin.sum_univ_eight, e]

include h0 in
theorem value4 : (dats m 0 c).arrAt 4 cfg0.N = fun j : S512x128.Idx => grad a0 (j 0) (j 1) := by
  refine (dats m 0 c).arrAt_eq_of_covers 4 _ (by decide +kernel) fun t hf y => ?_
  blk_simp
  rw [after0_4]
  frame_out
  idx_vars y
  have e : ((View.whole main_v0_0).slice (win0_4.rect t)).emb (ix2 y0 y1) = ix2 (row t y0) y1 := by
    blk_ext [idx t, row]
  rw [e]
  show k0_pay5 (F := Ideal) (iblk m c 0 t) (iblk m c 1 t) (iblk m c 2 t) (iblk m c 3 t) (ix2 y0 y1) = _
  rw [pay m c h0]
  rfl

include h0 h1 h2 h3 in
theorem value5 : (dats m 0 c).arrAt 5 cfg0.N = fun j : S512x128.Idx => Cert.Opt.step (a1 j) (grad a0 (j 0) (j 1)) (a2 j) (a3 j) := by
  refine (dats m 0 c).arrAt_eq_of_covers 5 _ (by decide +kernel) fun t hf y => ?_
  blk_simp
  rw [after0_5]
  frame_out
  idx_vars y
  have e : ((View.whole main_v0_1).slice (win0_5.rect t)).emb (ix2 y0 y1) = ix2 (row t y0) y1 := by
    blk_ext [idx t, row]
  rw [e]
  show Cert.Opt.step (iblk m c 1 t (ix2 y0 y1)) (k0_pay5 (F := Ideal) (iblk m c 0 t) (iblk m c 1 t) (iblk m c 2 t) (iblk m c 3 t) (ix2 y0 y1)) (iblk m c 2 t (ix2 y0 y1)) (iblk m c 3 t (ix2 y0 y1)) = _
  rw [pay m c h0, e1 m c h1, e2 m c h2, e3 m c h3]
  rfl

include h0 h2 in
theorem value6 : (dats m 0 c).arrAt 6 cfg0.N = fun j : S512x128.Idx => Cert.Opt.mom (grad a0 (j 0) (j 1)) (a2 j) := by
  refine (dats m 0 c).arrAt_eq_of_covers 6 _ (by decide +kernel) fun t hf y => ?_
  blk_simp
  rw [after0_6]
  frame_out
  idx_vars y
  have e : ((View.whole main_v0_2).slice (win0_6.rect t)).emb (ix2 y0 y1) = ix2 (row t y0) y1 := by
    blk_ext [idx t, row]
  rw [e]
  show Cert.Opt.mom (k0_pay5 (F := Ideal) (iblk m c 0 t) (iblk m c 1 t) (iblk m c 2 t) (iblk m c 3 t) (ix2 y0 y1)) (iblk m c 2 t (ix2 y0 y1)) = _
  rw [pay m c h0, e2 m c h2]
  rfl

include h0 h3 in
theorem value7 : (dats m 0 c).arrAt 7 cfg0.N = fun j : S512x128.Idx => Cert.Opt.sec (grad a0 (j 0) (j 1)) (a3 j) := by
  refine (dats m 0 c).arrAt_eq_of_covers 7 _ (by decide +kernel) fun t hf y => ?_
  blk_simp
  rw [after0_7]
  frame_out
  idx_vars y
  have e : ((View.whole main_v0_3).slice (win0_7.rect t)).emb (ix2 y0 y1) = ix2 (row t y0) y1 := by
    blk_ext [idx t, row]
  rw [e]
  show Cert.Opt.sec (k0_pay5 (F := Ideal) (iblk m c 0 t) (iblk m c 1 t) (iblk m c 2 t) (iblk m c 3 t) (ix2 y0 y1)) (iblk m c 3 t (ix2 y0 y1)) = _
  rw [pay m c h0, e3 m c h3]
  rfl

end Blocks

end Cert.Kernel20Ideal.Opt

namespace Cert.Reference20Ideal.Opt

open Cert.Reference20Ideal Cert.Reference20Ideal.Gen Cert.Reference20Ideal.Read Idealize.ShloMosaic

variable (a0 : S8x128x512.Idx → EReal) (a1 a2 a3 : S512x128.Idx → EReal)

theorem v2 (i : Fin 512) (j : Fin 128) : val_main_v2 (F := Ideal) a0 (ix2 i j) = Cert.Kernel20Ideal.Opt.grad a0 i j := by
  unfold val_main_v2 val_main_v1
  pointwise [val_main_v0, val_main_cst]
  rfl

theorem v26 (i : Fin 512) (j : Fin 128) : val_main_v26 (F := Ideal) a0 a1 a2 a3 (ix2 i j)
    = Cert.Opt.step (a1 (ix2 i j)) (Cert.Kernel20Ideal.Opt.grad a0 i j) (a2 (ix2 i j)) (a3 (ix2 i j)) := by
  rw [← v2]
  rfl

theorem v7 (i : Fin 512) (j : Fin 128) : val_main_v7 (F := Ideal) a0 a2 (ix2 i j)
    = Cert.Opt.mom (Cert.Kernel20Ideal.Opt.grad a0 i j) (a2 (ix2 i j)) := by
  rw [← v2]
  rfl

theorem v13 (i : Fin 512) (j : Fin 128) : val_main_v13 (F := Ideal) a0 a3 (ix2 i j)
    = Cert.Opt.sec (Cert.Kernel20Ideal.Opt.grad a0 i j) (a3 (ix2 i j)) := by
  rw [← v2]
  rfl

end Cert.Reference20Ideal.Opt

namespace Cert.Kernel20Ideal.Opt

open Cert.Kernel20Ideal Cert.Kernel20Ideal.Gen Idealize.ShloMosaic Idealize.ShloMosaic.TcCoe Idealize.SL.Sem

/-! ## The claims -/

theorem frame_r : Cert.quiescent_Reference20Ideal := fun m ρ _ =>
  (θ_run Cert.Reference20Ideal.defs _ _).mono (fun r h => ⟨fun c => (h c).2.2.2.2,
      Idealize.ShloMosaic.sem_eq_zero_of_no_sems (by decide) r.2⟩)
    (Cert.Reference20Ideal.Value.run (F := Ideal) m ρ)

theorem algebraic : Cert.algebraic_Kernel20Ideal_Reference20Ideal := by
  intro m ρ m' ρ' _ hagree
  refine ⟨_, _, _, _, Cert.Kernel20Ideal.Value.run_blocks (F := Ideal) m ρ, ?_⟩
  refine (θ_run Cert.Reference20Ideal.defs _ _).mono (fun _ h c => ?_) (Cert.Reference20Ideal.Value.run (F := Ideal) m' ρ')
  obtain ⟨q0, q1, q2, q3⟩ := hagree c
  refine ⟨(h c).1.trans ?_, (h c).2.1.trans ?_, (h c).2.2.1.trans ?_, (h c).2.2.2.1.trans ?_, (h c).2.2.2.2⟩ <;> clear h
  · refine (Cert.Reference20Ideal.Read.val_main_v2_eq _).trans (Eq.trans ?_ (value4 m c rfl).symm)
    rw [q0]
    funext j; idx_vars j
    exact Cert.Reference20Ideal.Opt.v2 _ j0 j1
  · refine (Cert.Reference20Ideal.Read.val_main_v26_eq _ _ _ _).trans (Eq.trans ?_ (value5 m c rfl rfl rfl rfl).symm)
    rw [q0, q1, q2, q3]
    funext j; idx_vars j
    exact Cert.Reference20Ideal.Opt.v26 _ _ _ _ j0 j1
  · refine (Cert.Reference20Ideal.Read.val_main_v7_eq _ _).trans (Eq.trans ?_ (value6 m c rfl rfl).symm)
    rw [q0, q2]
    funext j; idx_vars j
    exact Cert.Reference20Ideal.Opt.v7 _ _ j0 j1
  · refine (Cert.Reference20Ideal.Read.val_main_v13_eq _ _).trans (Eq.trans ?_ (value7 m c rfl rfl).symm)
    rw [q0, q3]
    funext j; idx_vars j
    exact Cert.Reference20Ideal.Opt.v13 _ _ j0 j1

end Cert.Kernel20Ideal.Opt

namespace Cert.Kernel21Ideal.Opt

open Cert.Kernel21Ideal Cert.Kernel21Ideal.Gen Idealize.ShloMosaic Idealize.ShloMosaic.TcCoe Idealize.SL.Sem
open Idealize.ShloMosaic.Pipeline (Dat)

/-- The sum of the devices' parts. -/
def total (a0 : S8x8x1024.Idx → EReal) (r : Fin 8) (c : Fin 1024) : EReal := ∑ k : Fin 8, a0 (ix3 k r c)

variable (m : (ℓ : Loc nD τ sig) → Buf (Elt Ideal) ℓ)

theorem idx : ∀ t : Fin cfg0.N, win0_0.index t 0 = 0 ∧ win0_0.index t 1 = 0 ∧ win0_0.index t 2 = 0
    ∧ win0_1.index t 0 = 0 ∧ win0_1.index t 1 = 0 :=
  (by decide +kernel : ∀ t : Fin grid0.N, _)

variable (c : Dev nD) {a0 : S8x8x1024.Idx → EReal} (h0 : m ((c : Thread nD τ).loc main_arg0) = a0) (t : Fin cfg0.N)

include h0 in
theorem e0 (k : Fin 8) (i : Fin 8) (j : Fin 1024) : iblk m c 0 t (ix3 k i j) = a0 (ix3 k i j) := by
  rw [← h0]
  blk_ext! [iblk, V, idx t]

include h0 in
theorem value1 : (dats m 0 c).arrAt 1 cfg0.N = fun j : S8x1024.Idx => total a0 (j 0) (j 1) := by
  refine (dats m 0 c).arrAt_eq_of_covers 1 _ (by decide +kernel) fun t hf y => ?_
  blk_simp
  rw [after0_1]
  frame_out
  idx_vars y
  have e : ((View.whole main_v0).slice (win0_1.rect t)).emb (ix2 y0 y1) = ix2 y0 y1 := by
    blk_ext [idx t]
  rw [e]
  pointwise [k0_pay1]
  simp only [e0 m c h0, total, Fin.sum_univ_eight]

end Cert.Kernel21Ideal.Opt

namespace Cert.Reference21Ideal.Opt

open Cert.Reference21Ideal Cert.Reference21Ideal.Gen Cert.Reference21Ideal.Read Idealize.ShloMosaic

theorem v0 (a0 : S8x8x1024.Idx → EReal) (i : Fin 8) (j : Fin 1024) :
    val_main_v0 (F := Ideal) a0 (ix2 i j) = Cert.Kernel21Ideal.Opt.total a0 i j := by
  unfold val_main_v0
  pointwise [val_main_cst]
  rfl

end Cert.Reference21Ideal.Opt

namespace Cert.Kernel21Ideal.Opt

open Cert.Kernel21Ideal Cert.Kernel21Ideal.Gen Idealize.ShloMosaic Idealize.ShloMosaic.TcCoe Idealize.SL.Sem

/-! ## The sum alone: the claims -/

theorem frame_r : Cert.quiescent_Reference21Ideal := fun m ρ _ =>
  (θ_run Cert.Reference21Ideal.defs _ _).mono (fun r h => ⟨fun c => (h c).2,
      Idealize.ShloMosaic.sem_eq_zero_of_no_sems (by decide) r.2⟩)
    (Cert.Reference21Ideal.Value.run (F := Ideal) m ρ)

theorem algebraic : Cert.algebraic_Kernel21Ideal_Reference21Ideal := by
  intro m ρ m' ρ' _ hagree
  refine ⟨_, Cert.Kernel21Ideal.Value.run_blocks (F := Ideal) m ρ, ?_⟩
  refine (θ_run Cert.Reference21Ideal.defs _ _).mono (fun _ h c => ?_) (Cert.Reference21Ideal.Value.run (F := Ideal) m' ρ')
  refine ⟨(h c).1.trans ?_, (h c).2⟩
  have q0 := hagree c
  clear h
  refine (Cert.Reference21Ideal.Read.val_main_v0_eq _).trans (Eq.trans ?_ (value1 m c rfl).symm)
  rw [q0]
  funext j; idx_vars j
  exact Cert.Reference21Ideal.Opt.v0 _ j0 j1

end Cert.Kernel21Ideal.Opt

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.ReferenceIdeal.Read
public import proofs.«01_k».proof.Proof.Gen.Pre_finite_mod
public import proofs.«01_k».proof.Proof.Mod
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.Gen.Reference2Ideal.Read
public import proofs.«01_k».proof.Proof.Gen.Pre_finite_inc
public import proofs.«01_k».proof.Proof.NormCtxRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.Gen.Reference3Ideal.Read
public import proofs.«01_k».proof.Proof.Gen.Pre_finite_inl
public import proofs.«01_k».proof.Proof.NormLatRef
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel7Ideal.Value
public import proofs.«01_k».proof.Proof.Gen.Reference7Ideal.Read
public import proofs.«01_k».proof.Proof.Gen.Pre_finite_ffn
public import proofs.«01_k».proof.Proof.FfnRef
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel9Ideal.Value
public import proofs.«01_k».proof.Proof.Gen.Reference9Ideal.Read
public import proofs.«01_k».proof.Proof.ModFwd
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel10Ideal.Value
public import proofs.«01_k».proof.Proof.Gen.Reference10Ideal.Read
public import proofs.«01_k».proof.Proof.InCtx
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel11Ideal.Value
public import proofs.«01_k».proof.Proof.Gen.Reference11Ideal.Read
public import proofs.«01_k».proof.Proof.InLat
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel13Ideal.Value
public import proofs.«01_k».proof.Proof.Gen.Reference13Ideal.Read
public import proofs.«01_k».proof.Proof.Gen.Pre_finite_hf
public import proofs.«01_k».proof.Proof.StatesRef
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Frames
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel15Ideal.Value
public import proofs.«01_k».proof.Proof.Gen.Reference15Ideal.Read
public import proofs.«01_k».proof.Proof.Weights
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel16Ideal.Value
public import proofs.«01_k».proof.Proof.Gen.Reference16Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel18Ideal.Value
public import proofs.«01_k».proof.Proof.Gen.Reference18Ideal.Read
public import proofs.«01_k».proof.Proof.Optimiser
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel19Ideal.Value
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel20Ideal.Value
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel21Ideal.Value
public import proofs.«01_k».proof.Proof.Gen.Reference21Ideal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel7.Gen.facts,
    Cert.Kernel7Ideal.Gen.facts,
    Cert.Reference7Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel13.Gen.facts,
    Cert.Kernel13Ideal.Gen.facts,
    Cert.Reference13Ideal.Gen.facts,
    Cert.Kernel4.Gen.facts,
    Cert.Kernel4Ideal.Gen.facts,
    Cert.Reference4Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Pre_finite_mod.Gen.facts,
    Cert.Pre_finite_inc.Gen.facts,
    Cert.Pre_finite_inl.Gen.facts,
    Cert.Pre_finite_ffn.Gen.facts,
    Cert.Pre_finite_hf.Gen.facts,
    fun m ρ _ => Cert.Kernel.Gen.frame m ρ,
    fun m ρ _ => Cert.KernelIdeal.Gen.frame m ρ,
    fun m ρ _ => Cert.KernelIdeal.Gen.frame m ρ,
    Cert.KernelIdeal.Mod.frame_r,
    fun m ρ _ => Cert.KernelIdeal.Mod.frame_r m ρ trivial,
    fun m ρ _ => Cert.Kernel2.Gen.frame m ρ,
    fun m ρ _ => Cert.Kernel2Ideal.Gen.frame m ρ,
    fun m ρ _ => Cert.Kernel2Ideal.Gen.frame m ρ,
    Cert.Kernel2Ideal.Norm.frame_r,
    fun m ρ _ => Cert.Kernel2Ideal.Norm.frame_r m ρ trivial,
    fun m ρ _ => Cert.Kernel3.Gen.frame m ρ,
    fun m ρ _ => Cert.Kernel3Ideal.Gen.frame m ρ,
    fun m ρ _ => Cert.Kernel3Ideal.Gen.frame m ρ,
    Cert.Kernel3Ideal.Norm.frame_r,
    fun m ρ _ => Cert.Kernel3Ideal.Norm.frame_r m ρ trivial,
    fun m ρ _ => Cert.Kernel7.Gen.frame m ρ,
    fun m ρ _ => Cert.Kernel7Ideal.Gen.frame m ρ,
    fun m ρ _ => Cert.Kernel7Ideal.Gen.frame m ρ,
    Cert.Kernel7Ideal.Ffn.frame_r,
    fun m ρ _ => Cert.Kernel7Ideal.Ffn.frame_r m ρ trivial,
    fun m ρ _ => Cert.Kernel9.Gen.frame m ρ,
    fun m ρ _ => Cert.Kernel9Ideal.Gen.frame m ρ,
    Cert.Kernel9Ideal.Mod.frame_r,
    fun m ρ _ => Cert.Kernel10.Gen.frame m ρ,
    fun m ρ _ => Cert.Kernel10Ideal.Gen.frame m ρ,
    Cert.Kernel10Ideal.Norm.frame_r,
    fun m ρ _ => Cert.Kernel11.Gen.frame m ρ,
    fun m ρ _ => Cert.Kernel11Ideal.Gen.frame m ρ,
    Cert.Kernel11Ideal.Norm.frame_r,
    fun m ρ _ => Cert.Kernel13.Gen.frame m ρ,
    fun m ρ _ => Cert.Kernel13Ideal.Gen.frame m ρ,
    fun m ρ _ => Cert.Kernel13Ideal.Gen.frame m ρ,
    Cert.Kernel13Ideal.States.frame_r,
    fun m ρ _ => Cert.Kernel13Ideal.States.frame_r m ρ trivial,
    fun m ρ _ => Cert.Kernel4.Gen.frame m ρ,
    fun m ρ _ => Cert.Kernel4Ideal.Gen.frame m ρ,
    Cert.Frames.frame_r4,
    fun m ρ _ => Cert.Kernel15.Gen.frame m ρ,
    fun m ρ _ => Cert.Kernel15Ideal.Gen.frame m ρ,
    Cert.Kernel15Ideal.Weights.frame_r,
    fun m ρ _ => Cert.Kernel16.Gen.frame m ρ,
    fun m ρ _ => Cert.Kernel16Ideal.Gen.frame m ρ,
    Cert.Kernel16Ideal.Weights.frame_r,
    fun m ρ _ => Cert.Kernel18.Gen.frame m ρ,
    fun m ρ _ => Cert.Kernel18Ideal.Gen.frame m ρ,
    Cert.Kernel18Ideal.Opt.frame_r,
    fun m ρ _ => Cert.Kernel19.Gen.frame m ρ,
    fun m ρ _ => Cert.Kernel19Ideal.Gen.frame m ρ,
    Cert.Kernel19Ideal.Opt.frame_r,
    fun m ρ _ => Cert.Kernel20.Gen.frame m ρ,
    fun m ρ _ => Cert.Kernel20Ideal.Gen.frame m ρ,
    Cert.Kernel20Ideal.Opt.frame_r,
    fun m ρ _ => Cert.Kernel21.Gen.frame m ρ,
    fun m ρ _ => Cert.Kernel21Ideal.Gen.frame m ρ,
    Cert.Kernel21Ideal.Opt.frame_r,
    trivial,
    Cert.KernelIdeal.Mod.algebraic,
    trivial,
    Cert.Kernel2Ideal.Norm.algebraic,
    trivial,
    Cert.Kernel3Ideal.Norm.algebraic,
    trivial,
    Cert.Kernel7Ideal.Ffn.algebraic,
    trivial,
    Cert.Kernel9Ideal.Mod.algebraic,
    trivial,
    Cert.Kernel10Ideal.Norm.algebraic,
    trivial,
    Cert.Kernel11Ideal.Norm.algebraic,
    trivial,
    Cert.Kernel13Ideal.States.algebraic,
    trivial,
    trivial,
    Cert.Kernel15Ideal.Weights.algebraic,
    trivial,
    Cert.Kernel16Ideal.Weights.algebraic,
    trivial,
    Cert.Kernel18Ideal.Opt.algebraic,
    trivial,
    Cert.Kernel19Ideal.Opt.algebraic,
    trivial,
    Cert.Kernel20Ideal.Opt.algebraic,
    trivial,
    Cert.Kernel21Ideal.Opt.algebraic⟩

end Cert.Proof

end
